-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x4096x512 : Shape := ⟨3, ![2, 4096, 512]⟩
abbrev S2x256x4096 : Shape := ⟨3, ![2, 256, 4096]⟩
abbrev S2 : Shape := ⟨1, ![2]⟩
abbrev S2x2 : Shape := ⟨2, ![2, 2]⟩
abbrev S4x4x256x512 : Shape := ⟨4, ![4, 4, 256, 512]⟩
abbrev S4x4 : Shape := ⟨2, ![4, 4]⟩
abbrev S1x1 : Shape := ⟨2, ![1, 1]⟩
abbrev S_ : Shape := ⟨0, ![]⟩
abbrev S1x4096x256 : Shape := ⟨3, ![1, 4096, 256]⟩
abbrev S4096x256 : Shape := ⟨2, ![4096, 256]⟩
abbrev S1 : Shape := ⟨1, ![1]⟩
abbrev S1x256x4096 : Shape := ⟨3, ![1, 256, 4096]⟩
abbrev S256x4096 : Shape := ⟨2, ![256, 4096]⟩
abbrev S1x4096x512 : Shape := ⟨3, ![1, 4096, 512]⟩
abbrev S256x256 : Shape := ⟨2, ![256, 256]⟩
abbrev S256x512 : Shape := ⟨2, ![256, 512]⟩
abbrev S1x1x256x512 : Shape := ⟨4, ![1, 1, 256, 512]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S1024x4096, .bf16⟩
  | .local _ .vmem, ⟨1, _⟩ => ⟨S2x4096x512, .bf16⟩
  | .local _ .vmem, ⟨2, _⟩ => ⟨S2x256x4096, .f32⟩
  | .local _ .vmem, ⟨3, _⟩ => ⟨S2x4096x512, .f32⟩
  | .local _ .vmem, ⟨4, _⟩ => ⟨S4x4x256x512, .bf16⟩
  | .local _ .vmem, ⟨5, _⟩ => ⟨S4x4x256x512, .bf16⟩
  | .local _ .vmem, ⟨6, _⟩ => ⟨S4096x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch10 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) (c0_i32_5 : BitVec 32) : Fin 2 → Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  let v15 : BitVec 32 := Scalar.addi v14 c0_i32_5
  ![0, v15.toNat]
def k0_dev1 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v50 : BitVec 32 := Scalar.addi v2 c1_i32_38
  let c4_i32_39 : BitVec 32 := 4#32
  let c0_i32_40 : BitVec 32 := 0#32
  let v51 : BitVec 1 := Scalar.cmpi .eq c4_i32_39 c0_i32_40
  let c1_i32_41 : BitVec 32 := 1#32
  let v52 : BitVec 32 := Scalar.select v51 c1_i32_41 c4_i32_39
  let v53 : BitVec 32 := Scalar.remsi v50 v52
  let c0_i32_43 : BitVec 32 := 0#32
  let v55 : BitVec 1 := Scalar.cmpi .slt v53 c0_i32_43
  let c0_i32_44 : BitVec 32 := 0#32
  let v56 : BitVec 1 := Scalar.cmpi .slt v52 c0_i32_44
  let v57 : BitVec 1 := Scalar.xori v55 v56
  let c0_i32_42 : BitVec 32 := 0#32
  let v54 : BitVec 1 := Scalar.cmpi .ne v53 c0_i32_42
  let v58 : BitVec 1 := Scalar.andi v57 v54
  let v59 : BitVec 32 := Scalar.addi v53 v52
  let v60 : BitVec 32 := Scalar.select v58 v59 v53
  let c1_i32_46 : BitVec 32 := 1#32
  let v61 : BitVec 32 := Scalar.muli v60 c1_i32_46
  let v62 : BitVec 32 := Scalar.addi c0_i32_47 v61
  v62.toNat
def k0_dev2 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v63 : BitVec 32 := Scalar.addi v2 c2_i32_48
  let c4_i32_49 : BitVec 32 := 4#32
  let c0_i32_50 : BitVec 32 := 0#32
  let v64 : BitVec 1 := Scalar.cmpi .eq c4_i32_49 c0_i32_50
  let c1_i32_51 : BitVec 32 := 1#32
  let v65 : BitVec 32 := Scalar.select v64 c1_i32_51 c4_i32_49
  let v66 : BitVec 32 := Scalar.remsi v63 v65
  let c0_i32_53 : BitVec 32 := 0#32
  let v68 : BitVec 1 := Scalar.cmpi .slt v66 c0_i32_53
  let c0_i32_54 : BitVec 32 := 0#32
  let v69 : BitVec 1 := Scalar.cmpi .slt v65 c0_i32_54
  let v70 : BitVec 1 := Scalar.xori v68 v69
  let c0_i32_52 : BitVec 32 := 0#32
  let v67 : BitVec 1 := Scalar.cmpi .ne v66 c0_i32_52
  let v71 : BitVec 1 := Scalar.andi v70 v67
  let v72 : BitVec 32 := Scalar.addi v66 v65
  let v73 : BitVec 32 := Scalar.select v71 v72 v66
  let c1_i32_56 : BitVec 32 := 1#32
  let v74 : BitVec 32 := Scalar.muli v73 c1_i32_56
  let v75 : BitVec 32 := Scalar.addi c0_i32_57 v74
  v75.toNat
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v76 : BitVec 32 := Scalar.addi v2 c3_i32
  let c4_i32_58 : BitVec 32 := 4#32
  let c0_i32_59 : BitVec 32 := 0#32
  let v77 : BitVec 1 := Scalar.cmpi .eq c4_i32_58 c0_i32_59
  let c1_i32_60 : BitVec 32 := 1#32
  let v78 : BitVec 32 := Scalar.select v77 c1_i32_60 c4_i32_58
  let v79 : BitVec 32 := Scalar.remsi v76 v78
  let c0_i32_62 : BitVec 32 := 0#32
  let v81 : BitVec 1 := Scalar.cmpi .slt v79 c0_i32_62
  let c0_i32_63 : BitVec 32 := 0#32
  let v82 : BitVec 1 := Scalar.cmpi .slt v78 c0_i32_63
  let v83 : BitVec 1 := Scalar.xori v81 v82
  let c0_i32_61 : BitVec 32 := 0#32
  let v80 : BitVec 1 := Scalar.cmpi .ne v79 c0_i32_61
  let v84 : BitVec 1 := Scalar.andi v83 v80
  let v85 : BitVec 32 := Scalar.addi v79 v78
  let v86 : BitVec 32 := Scalar.select v84 v85 v79
  let c1_i32_65 : BitVec 32 := 1#32
  let v87 : BitVec 32 := Scalar.muli v86 c1_i32_65
  let v88 : BitVec 32 := Scalar.addi c0_i32_66 v87
  v88.toNat
def k0_off2 (d0 : Dev nD) (c1_i32_75 : BitVec 32) : Fin 2 → Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v100 : BitVec 32 := Scalar.addi v2 c1_i32_75
  let c4_i32_76 : BitVec 32 := 4#32
  let c0_i32_77 : BitVec 32 := 0#32
  let v101 : BitVec 1 := Scalar.cmpi .eq c4_i32_76 c0_i32_77
  let c1_i32_78 : BitVec 32 := 1#32
  let v102 : BitVec 32 := Scalar.select v101 c1_i32_78 c4_i32_76
  let v103 : BitVec 32 := Scalar.remsi v100 v102
  let c0_i32_80 : BitVec 32 := 0#32
  let v105 : BitVec 1 := Scalar.cmpi .slt v103 c0_i32_80
  let c0_i32_81 : BitVec 32 := 0#32
  let v106 : BitVec 1 := Scalar.cmpi .slt v102 c0_i32_81
  let v107 : BitVec 1 := Scalar.xori v105 v106
  let c0_i32_79 : BitVec 32 := 0#32
  let v104 : BitVec 1 := Scalar.cmpi .ne v103 c0_i32_79
  let v108 : BitVec 1 := Scalar.andi v107 v104
  let v109 : BitVec 32 := Scalar.addi v103 v102
  let v110 : BitVec 32 := Scalar.select v108 v109 v103
  let c512_i32_82 : BitVec 32 := 512#32
  let v111 : BitVec 32 := Scalar.muli v110 c512_i32_82
  ![0, v111.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_158 : BitVec 32 := 0#32
  ![v2.toNat, 0]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_157 : BitVec 32 := 0#32
  let c0_i32_163 : BitVec 32 := 0#32
  let c0_i32_164 : BitVec 32 := 0#32
  ![v2.toNat, 0, 0, 0]
def k0_dev4 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v89 : BitVec 32 := Scalar.addi v2 c2_i32_68
  let c4_i32_69 : BitVec 32 := 4#32
  let c0_i32_70 : BitVec 32 := 0#32
  let v90 : BitVec 1 := Scalar.cmpi .eq c4_i32_69 c0_i32_70
  let c1_i32_71 : BitVec 32 := 1#32
  let v91 : BitVec 32 := Scalar.select v90 c1_i32_71 c4_i32_69
  let v92 : BitVec 32 := Scalar.remsi v89 v91
  let c0_i32_73 : BitVec 32 := 0#32
  let v94 : BitVec 1 := Scalar.cmpi .slt v92 c0_i32_73
  let c0_i32_74 : BitVec 32 := 0#32
  let v95 : BitVec 1 := Scalar.cmpi .slt v91 c0_i32_74
  let v96 : BitVec 1 := Scalar.xori v94 v95
  let c0_i32_72 : BitVec 32 := 0#32
  let v93 : BitVec 1 := Scalar.cmpi .ne v92 c0_i32_72
  let v97 : BitVec 1 := Scalar.andi v96 v93
  let v98 : BitVec 32 := Scalar.addi v92 v91
  let v99 : BitVec 32 := Scalar.select v97 v98 v92
  let c1_i32_161 : BitVec 32 := 1#32
  let v200 : BitVec 32 := Scalar.muli v99 c1_i32_161
  let v201 : BitVec 32 := Scalar.addi c0_i32_162 v200
  v201.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_199 : BitVec 32 := 1#32
  ![v2.toNat, 1]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_198 : BitVec 32 := 1#32
  let c0_i32_204 : BitVec 32 := 0#32
  let c0_i32_205 : BitVec 32 := 0#32
  ![v2.toNat, 1, 0, 0]
def k0_dev5 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v89 : BitVec 32 := Scalar.addi v2 c2_i32_68
  let c4_i32_69 : BitVec 32 := 4#32
  let c0_i32_70 : BitVec 32 := 0#32
  let v90 : BitVec 1 := Scalar.cmpi .eq c4_i32_69 c0_i32_70
  let c1_i32_71 : BitVec 32 := 1#32
  let v91 : BitVec 32 := Scalar.select v90 c1_i32_71 c4_i32_69
  let v92 : BitVec 32 := Scalar.remsi v89 v91
  let c0_i32_73 : BitVec 32 := 0#32
  let v94 : BitVec 1 := Scalar.cmpi .slt v92 c0_i32_73
  let c0_i32_74 : BitVec 32 := 0#32
  let v95 : BitVec 1 := Scalar.cmpi .slt v91 c0_i32_74
  let v96 : BitVec 1 := Scalar.xori v94 v95
  let c0_i32_72 : BitVec 32 := 0#32
  let v93 : BitVec 1 := Scalar.cmpi .ne v92 c0_i32_72
  let v97 : BitVec 1 := Scalar.andi v96 v93
  let v98 : BitVec 32 := Scalar.addi v92 v91
  let v99 : BitVec 32 := Scalar.select v97 v98 v92
  let c1_i32_202 : BitVec 32 := 1#32
  let v247 : BitVec 32 := Scalar.muli v99 c1_i32_202
  let v248 : BitVec 32 := Scalar.addi c0_i32_203 v247
  v248.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_234 : BitVec 32 := 2#32
  ![v2.toNat, 2]
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_233 : BitVec 32 := 2#32
  let c0_i32_239 : BitVec 32 := 0#32
  let c0_i32_240 : BitVec 32 := 0#32
  ![v2.toNat, 2, 0, 0]
def k0_dev6 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v89 : BitVec 32 := Scalar.addi v2 c2_i32_68
  let c4_i32_69 : BitVec 32 := 4#32
  let c0_i32_70 : BitVec 32 := 0#32
  let v90 : BitVec 1 := Scalar.cmpi .eq c4_i32_69 c0_i32_70
  let c1_i32_71 : BitVec 32 := 1#32
  let v91 : BitVec 32 := Scalar.select v90 c1_i32_71 c4_i32_69
  let v92 : BitVec 32 := Scalar.remsi v89 v91
  let c0_i32_73 : BitVec 32 := 0#32
  let v94 : BitVec 1 := Scalar.cmpi .slt v92 c0_i32_73
  let c0_i32_74 : BitVec 32 := 0#32
  let v95 : BitVec 1 := Scalar.cmpi .slt v91 c0_i32_74
  let v96 : BitVec 1 := Scalar.xori v94 v95
  let c0_i32_72 : BitVec 32 := 0#32
  let v93 : BitVec 1 := Scalar.cmpi .ne v92 c0_i32_72
  let v97 : BitVec 1 := Scalar.andi v96 v93
  let v98 : BitVec 32 := Scalar.addi v92 v91
  let v99 : BitVec 32 := Scalar.select v97 v98 v92
  let c1_i32_237 : BitVec 32 := 1#32
  let v289 : BitVec 32 := Scalar.muli v99 c1_i32_237
  let v290 : BitVec 32 := Scalar.addi c0_i32_238 v289
  v290.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_269 : BitVec 32 := 3#32
  ![v2.toNat, 3]
def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_268 : BitVec 32 := 3#32
  let c0_i32_274 : BitVec 32 := 0#32
  let c0_i32_275 : BitVec 32 := 0#32
  ![v2.toNat, 3, 0, 0]
def k0_dev7 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v89 : BitVec 32 := Scalar.addi v2 c2_i32_68
  let c4_i32_69 : BitVec 32 := 4#32
  let c0_i32_70 : BitVec 32 := 0#32
  let v90 : BitVec 1 := Scalar.cmpi .eq c4_i32_69 c0_i32_70
  let c1_i32_71 : BitVec 32 := 1#32
  let v91 : BitVec 32 := Scalar.select v90 c1_i32_71 c4_i32_69
  let v92 : BitVec 32 := Scalar.remsi v89 v91
  let c0_i32_73 : BitVec 32 := 0#32
  let v94 : BitVec 1 := Scalar.cmpi .slt v92 c0_i32_73
  let c0_i32_74 : BitVec 32 := 0#32
  let v95 : BitVec 1 := Scalar.cmpi .slt v91 c0_i32_74
  let v96 : BitVec 1 := Scalar.xori v94 v95
  let c0_i32_72 : BitVec 32 := 0#32
  let v93 : BitVec 1 := Scalar.cmpi .ne v92 c0_i32_72
  let v97 : BitVec 1 := Scalar.andi v96 v93
  let v98 : BitVec 32 := Scalar.addi v92 v91
  let v99 : BitVec 32 := Scalar.select v97 v98 v92
  let c1_i32_272 : BitVec 32 := 1#32
  let v331 : BitVec 32 := Scalar.muli v99 c1_i32_272
  let v332 : BitVec 32 := Scalar.addi c0_i32_273 v331
  v332.toNat
def k0_dev8 (d0 : Dev nD) : Nat :=
  let c0_i32_333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v341 : BitVec 32 := Scalar.addi v2 c1_i32_278
  let c4_i32_279 : BitVec 32 := 4#32
  let c0_i32_280 : BitVec 32 := 0#32
  let v342 : BitVec 1 := Scalar.cmpi .eq c4_i32_279 c0_i32_280
  let c1_i32_281 : BitVec 32 := 1#32
  let v343 : BitVec 32 := Scalar.select v342 c1_i32_281 c4_i32_279
  let v344 : BitVec 32 := Scalar.remsi v341 v343
  let c0_i32_283 : BitVec 32 := 0#32
  let v346 : BitVec 1 := Scalar.cmpi .slt v344 c0_i32_283
  let c0_i32_284 : BitVec 32 := 0#32
  let v347 : BitVec 1 := Scalar.cmpi .slt v343 c0_i32_284
  let v348 : BitVec 1 := Scalar.xori v346 v347
  let c0_i32_282 : BitVec 32 := 0#32
  let v345 : BitVec 1 := Scalar.cmpi .ne v344 c0_i32_282
  let v349 : BitVec 1 := Scalar.andi v348 v345
  let v350 : BitVec 32 := Scalar.addi v344 v343
  let v351 : BitVec 32 := Scalar.select v349 v350 v344
  let c1_i32_332 : BitVec 32 := 1#32
  let v402 : BitVec 32 := Scalar.muli v351 c1_i32_332
  let v403 : BitVec 32 := Scalar.addi c0_i32_333 v402
  v403.toNat
def k0_dev9 (d0 : Dev nD) : Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v341 : BitVec 32 := Scalar.addi v2 c1_i32_278
  let c4_i32_279 : BitVec 32 := 4#32
  let c0_i32_280 : BitVec 32 := 0#32
  let v342 : BitVec 1 := Scalar.cmpi .eq c4_i32_279 c0_i32_280
  let c1_i32_281 : BitVec 32 := 1#32
  let v343 : BitVec 32 := Scalar.select v342 c1_i32_281 c4_i32_279
  let v344 : BitVec 32 := Scalar.remsi v341 v343
  let c0_i32_283 : BitVec 32 := 0#32
  let v346 : BitVec 1 := Scalar.cmpi .slt v344 c0_i32_283
  let c0_i32_284 : BitVec 32 := 0#32
  let v347 : BitVec 1 := Scalar.cmpi .slt v343 c0_i32_284
  let v348 : BitVec 1 := Scalar.xori v346 v347
  let c0_i32_282 : BitVec 32 := 0#32
  let v345 : BitVec 1 := Scalar.cmpi .ne v344 c0_i32_282
  let v349 : BitVec 1 := Scalar.andi v348 v345
  let v350 : BitVec 32 := Scalar.addi v344 v343
  let v351 : BitVec 32 := Scalar.select v349 v350 v344
  let c1_i32_358 : BitVec 32 := 1#32
  let v433 : BitVec 32 := Scalar.muli v351 c1_i32_358
  let v434 : BitVec 32 := Scalar.addi c0_i32_359 v433
  v434.toNat
def k0_dev10 (d0 : Dev nD) : Nat :=
  let c0_i32_385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v341 : BitVec 32 := Scalar.addi v2 c1_i32_278
  let c4_i32_279 : BitVec 32 := 4#32
  let c0_i32_280 : BitVec 32 := 0#32
  let v342 : BitVec 1 := Scalar.cmpi .eq c4_i32_279 c0_i32_280
  let c1_i32_281 : BitVec 32 := 1#32
  let v343 : BitVec 32 := Scalar.select v342 c1_i32_281 c4_i32_279
  let v344 : BitVec 32 := Scalar.remsi v341 v343
  let c0_i32_283 : BitVec 32 := 0#32
  let v346 : BitVec 1 := Scalar.cmpi .slt v344 c0_i32_283
  let c0_i32_284 : BitVec 32 := 0#32
  let v347 : BitVec 1 := Scalar.cmpi .slt v343 c0_i32_284
  let v348 : BitVec 1 := Scalar.xori v346 v347
  let c0_i32_282 : BitVec 32 := 0#32
  let v345 : BitVec 1 := Scalar.cmpi .ne v344 c0_i32_282
  let v349 : BitVec 1 := Scalar.andi v348 v345
  let v350 : BitVec 32 := Scalar.addi v344 v343
  let v351 : BitVec 32 := Scalar.select v349 v350 v344
  let c1_i32_384 : BitVec 32 := 1#32
  let v464 : BitVec 32 := Scalar.muli v351 c1_i32_384
  let v465 : BitVec 32 := Scalar.addi c0_i32_385 v464
  v465.toNat
def k0_dev11 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v341 : BitVec 32 := Scalar.addi v2 c1_i32_278
  let c4_i32_279 : BitVec 32 := 4#32
  let c0_i32_280 : BitVec 32 := 0#32
  let v342 : BitVec 1 := Scalar.cmpi .eq c4_i32_279 c0_i32_280
  let c1_i32_281 : BitVec 32 := 1#32
  let v343 : BitVec 32 := Scalar.select v342 c1_i32_281 c4_i32_279
  let v344 : BitVec 32 := Scalar.remsi v341 v343
  let c0_i32_283 : BitVec 32 := 0#32
  let v346 : BitVec 1 := Scalar.cmpi .slt v344 c0_i32_283
  let c0_i32_284 : BitVec 32 := 0#32
  let v347 : BitVec 1 := Scalar.cmpi .slt v343 c0_i32_284
  let v348 : BitVec 1 := Scalar.xori v346 v347
  let c0_i32_282 : BitVec 32 := 0#32
  let v345 : BitVec 1 := Scalar.cmpi .ne v344 c0_i32_282
  let v349 : BitVec 1 := Scalar.andi v348 v345
  let v350 : BitVec 32 := Scalar.addi v344 v343
  let v351 : BitVec 32 := Scalar.select v349 v350 v344
  let c1_i32_410 : BitVec 32 := 1#32
  let v495 : BitVec 32 := Scalar.muli v351 c1_i32_410
  let v496 : BitVec 32 := Scalar.addi c0_i32_411 v495
  v496.toNat
def k0_dev12 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_416 : BitVec 32 := 3#32
  let v505 : BitVec 32 := Scalar.addi v2 c3_i32_416
  let c4_i32_417 : BitVec 32 := 4#32
  let c0_i32_418 : BitVec 32 := 0#32
  let v506 : BitVec 1 := Scalar.cmpi .eq c4_i32_417 c0_i32_418
  let c1_i32_419 : BitVec 32 := 1#32
  let v507 : BitVec 32 := Scalar.select v506 c1_i32_419 c4_i32_417
  let v508 : BitVec 32 := Scalar.remsi v505 v507
  let c0_i32_421 : BitVec 32 := 0#32
  let v510 : BitVec 1 := Scalar.cmpi .slt v508 c0_i32_421
  let c0_i32_422 : BitVec 32 := 0#32
  let v511 : BitVec 1 := Scalar.cmpi .slt v507 c0_i32_422
  let v512 : BitVec 1 := Scalar.xori v510 v511
  let c0_i32_420 : BitVec 32 := 0#32
  let v509 : BitVec 1 := Scalar.cmpi .ne v508 c0_i32_420
  let v513 : BitVec 1 := Scalar.andi v512 v509
  let v514 : BitVec 32 := Scalar.addi v508 v507
  let v515 : BitVec 32 := Scalar.select v513 v514 v508
  let c1_i32_479 : BitVec 32 := 1#32
  let v574 : BitVec 32 := Scalar.muli v515 c1_i32_479
  let v575 : BitVec 32 := Scalar.addi c0_i32_480 v574
  v575.toNat
def k0_dev13 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_416 : BitVec 32 := 3#32
  let v505 : BitVec 32 := Scalar.addi v2 c3_i32_416
  let c4_i32_417 : BitVec 32 := 4#32
  let c0_i32_418 : BitVec 32 := 0#32
  let v506 : BitVec 1 := Scalar.cmpi .eq c4_i32_417 c0_i32_418
  let c1_i32_419 : BitVec 32 := 1#32
  let v507 : BitVec 32 := Scalar.select v506 c1_i32_419 c4_i32_417
  let v508 : BitVec 32 := Scalar.remsi v505 v507
  let c0_i32_421 : BitVec 32 := 0#32
  let v510 : BitVec 1 := Scalar.cmpi .slt v508 c0_i32_421
  let c0_i32_422 : BitVec 32 := 0#32
  let v511 : BitVec 1 := Scalar.cmpi .slt v507 c0_i32_422
  let v512 : BitVec 1 := Scalar.xori v510 v511
  let c0_i32_420 : BitVec 32 := 0#32
  let v509 : BitVec 1 := Scalar.cmpi .ne v508 c0_i32_420
  let v513 : BitVec 1 := Scalar.andi v512 v509
  let v514 : BitVec 32 := Scalar.addi v508 v507
  let v515 : BitVec 32 := Scalar.select v513 v514 v508
  let c1_i32_505 : BitVec 32 := 1#32
  let v605 : BitVec 32 := Scalar.muli v515 c1_i32_505
  let v606 : BitVec 32 := Scalar.addi c0_i32_506 v605
  v606.toNat
def k0_dev14 (d0 : Dev nD) : Nat :=
  let c0_i32_532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_416 : BitVec 32 := 3#32
  let v505 : BitVec 32 := Scalar.addi v2 c3_i32_416
  let c4_i32_417 : BitVec 32 := 4#32
  let c0_i32_418 : BitVec 32 := 0#32
  let v506 : BitVec 1 := Scalar.cmpi .eq c4_i32_417 c0_i32_418
  let c1_i32_419 : BitVec 32 := 1#32
  let v507 : BitVec 32 := Scalar.select v506 c1_i32_419 c4_i32_417
  let v508 : BitVec 32 := Scalar.remsi v505 v507
  let c0_i32_421 : BitVec 32 := 0#32
  let v510 : BitVec 1 := Scalar.cmpi .slt v508 c0_i32_421
  let c0_i32_422 : BitVec 32 := 0#32
  let v511 : BitVec 1 := Scalar.cmpi .slt v507 c0_i32_422
  let v512 : BitVec 1 := Scalar.xori v510 v511
  let c0_i32_420 : BitVec 32 := 0#32
  let v509 : BitVec 1 := Scalar.cmpi .ne v508 c0_i32_420
  let v513 : BitVec 1 := Scalar.andi v512 v509
  let v514 : BitVec 32 := Scalar.addi v508 v507
  let v515 : BitVec 32 := Scalar.select v513 v514 v508
  let c1_i32_531 : BitVec 32 := 1#32
  let v636 : BitVec 32 := Scalar.muli v515 c1_i32_531
  let v637 : BitVec 32 := Scalar.addi c0_i32_532 v636
  v637.toNat
def k0_dev15 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_416 : BitVec 32 := 3#32
  let v505 : BitVec 32 := Scalar.addi v2 c3_i32_416
  let c4_i32_417 : BitVec 32 := 4#32
  let c0_i32_418 : BitVec 32 := 0#32
  let v506 : BitVec 1 := Scalar.cmpi .eq c4_i32_417 c0_i32_418
  let c1_i32_419 : BitVec 32 := 1#32
  let v507 : BitVec 32 := Scalar.select v506 c1_i32_419 c4_i32_417
  let v508 : BitVec 32 := Scalar.remsi v505 v507
  let c0_i32_421 : BitVec 32 := 0#32
  let v510 : BitVec 1 := Scalar.cmpi .slt v508 c0_i32_421
  let c0_i32_422 : BitVec 32 := 0#32
  let v511 : BitVec 1 := Scalar.cmpi .slt v507 c0_i32_422
  let v512 : BitVec 1 := Scalar.xori v510 v511
  let c0_i32_420 : BitVec 32 := 0#32
  let v509 : BitVec 1 := Scalar.cmpi .ne v508 c0_i32_420
  let v513 : BitVec 1 := Scalar.andi v512 v509
  let v514 : BitVec 32 := Scalar.addi v508 v507
  let v515 : BitVec 32 := Scalar.select v513 v514 v508
  let c1_i32_557 : BitVec 32 := 1#32
  let v667 : BitVec 32 := Scalar.muli v515 c1_i32_557
  let v668 : BitVec 32 := Scalar.addi c0_i32_558 v667
  v668.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v720 : BitVec 32 := Scalar.muli v2 c1024_i32
  let v721 : Index := Scalar.indexCast v720
  let c0_594 : Index := 0#32
  ![v721.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_596 : BitVec 32 := 1024#32
  let v726 : BitVec 32 := Scalar.muli v2 c1024_i32_596
  let c0_i32_599 : BitVec 32 := 0#32
  ![v726.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_625 : BitVec 32 := 1024#32
  let v763 : BitVec 32 := Scalar.muli v2 c1024_i32_625
  let v764 : Index := Scalar.indexCast v763
  let c256_626 : Index := 256#32
  ![v764.toNat, 256]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_628 : BitVec 32 := 1024#32
  let v769 : BitVec 32 := Scalar.muli v2 c1024_i32_628
  let c256_i32_631 : BitVec 32 := 256#32
  ![v769.toNat, 256]
def k0_off15 (d0 : Dev nD) (c2_i32_633 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c0_i32_643 : BitVec 32 := 0#32
  ![v784.toNat, 0]
def k0_off16 (d0 : Dev nD) (c2_i32_633 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c0_i32_642 : BitVec 32 := 0#32
  let c0_i32_648 : BitVec 32 := 0#32
  let c0_i32_649 : BitVec 32 := 0#32
  ![v784.toNat, 0, 0, 0]
def k0_off17 (d0 : Dev nD) (c2_i32_633 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let v793 : Index := Scalar.indexCast v784
  let c0_652 : Index := 0#32
  let c0_653 : Index := 0#32
  let c0_654 : Index := 0#32
  ![v793.toNat, 0, 0, 0]
def k0_off18 (d0 : Dev nD) (c2_i32_633 : BitVec 32) (c0_i32_656 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c1024_i32_655 : BitVec 32 := 1024#32
  let v797 : BitVec 32 := Scalar.muli v784 c1024_i32_655
  let v798 : BitVec 32 := Scalar.addi v797 c0_i32_656
  let v799 : Index := Scalar.indexCast v798
  let c0_657 : Index := 0#32
  ![v799.toNat, 0]
def k0_off19 (d0 : Dev nD) (c2_i32_633 : BitVec 32) (c0_i32_659 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c1024_i32_658 : BitVec 32 := 1024#32
  let v803 : BitVec 32 := Scalar.muli v784 c1024_i32_658
  let v804 : BitVec 32 := Scalar.addi v803 c0_i32_659
  let c0_i32_662 : BitVec 32 := 0#32
  ![v804.toNat, 0]
def k0_off20 (d0 : Dev nD) (c2_i32_633 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c1_i32_667 : BitVec 32 := 1#32
  ![v784.toNat, 1]
def k0_off21 (d0 : Dev nD) (c2_i32_633 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c1_i32_666 : BitVec 32 := 1#32
  let c0_i32_672 : BitVec 32 := 0#32
  let c0_i32_673 : BitVec 32 := 0#32
  ![v784.toNat, 1, 0, 0]
def k0_off22 (d0 : Dev nD) (c2_i32_633 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let v817 : Index := Scalar.indexCast v784
  let c1_676 : Index := 1#32
  let c0_677 : Index := 0#32
  let c0_678 : Index := 0#32
  ![v817.toNat, 1, 0, 0]
def k0_off23 (d0 : Dev nD) (c2_i32_633 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c2_i32_691 : BitVec 32 := 2#32
  ![v784.toNat, 2]
def k0_off24 (d0 : Dev nD) (c2_i32_633 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c2_i32_690 : BitVec 32 := 2#32
  let c0_i32_696 : BitVec 32 := 0#32
  let c0_i32_697 : BitVec 32 := 0#32
  ![v784.toNat, 2, 0, 0]
def k0_off25 (d0 : Dev nD) (c2_i32_633 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let v841 : Index := Scalar.indexCast v784
  let c2_700 : Index := 2#32
  let c0_701 : Index := 0#32
  let c0_702 : Index := 0#32
  ![v841.toNat, 2, 0, 0]
def k0_off26 (d0 : Dev nD) (c2_i32_633 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c3_i32_715 : BitVec 32 := 3#32
  ![v784.toNat, 3]
def k0_off27 (d0 : Dev nD) (c2_i32_633 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let c3_i32_714 : BitVec 32 := 3#32
  let c0_i32_720 : BitVec 32 := 0#32
  let c0_i32_721 : BitVec 32 := 0#32
  ![v784.toNat, 3, 0, 0]
def k0_off28 (d0 : Dev nD) (c2_i32_633 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c2_i32_633
  let c4_i32_634 : BitVec 32 := 4#32
  let c0_i32_635 : BitVec 32 := 0#32
  let v775 : BitVec 1 := Scalar.cmpi .eq c4_i32_634 c0_i32_635
  let c1_i32_636 : BitVec 32 := 1#32
  let v776 : BitVec 32 := Scalar.select v775 c1_i32_636 c4_i32_634
  let v777 : BitVec 32 := Scalar.remsi v774 v776
  let c0_i32_638 : BitVec 32 := 0#32
  let v779 : BitVec 1 := Scalar.cmpi .slt v777 c0_i32_638
  let c0_i32_639 : BitVec 32 := 0#32
  let v780 : BitVec 1 := Scalar.cmpi .slt v776 c0_i32_639
  let v781 : BitVec 1 := Scalar.xori v779 v780
  let c0_i32_637 : BitVec 32 := 0#32
  let v778 : BitVec 1 := Scalar.cmpi .ne v777 c0_i32_637
  let v782 : BitVec 1 := Scalar.andi v781 v778
  let v783 : BitVec 32 := Scalar.addi v777 v776
  let v784 : BitVec 32 := Scalar.select v782 v783 v777
  let v865 : Index := Scalar.indexCast v784
  let c3_724 : Index := 3#32
  let c0_725 : Index := 0#32
  let c0_726 : Index := 0#32
  ![v865.toNat, 3, 0, 0]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ring.lean ====
/- The ring of four devices and the names of the kernel's semaphores.

   Device `c` makes one strip of products for each of the other devices and one for itself. The strips are numbered by
   `j : Fin 4` in the order the kernel makes them: `j = 0, 1, 2` go to the devices `2, 1, 3` places further round the
   ring, `j = 3` is the device's own. A strip is made and sent in four blocks of 256 rows, numbered by `r : Fin 4`. -/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.SparseCore.ProtocolKit
public import Idealize.ShloMosaic.Lib.Pointwise.Reshape

@[expose] public section

set_option maxRecDepth 16384

noncomputable section

namespace Cert.GemmRing

open Cert.KernelIdeal Cert.KernelIdeal.Gen
open Idealize.ShloMosaic Idealize.ShloMosaic.TcCoe

/-! ## Who sends to whom -/

/-- How many places round the ring strip `j` travels. -/
abbrev kof : Fin 4 → ℕ := ![2, 1, 3, 0]

set_option backward.proofsInPublic true in
/-- The device strip `j` of device `c` is for. -/
def tgt (j : Fin 4) (c : Dev nD) : Dev nD := ⟨(c.val + kof j) % 4, Nat.mod_lt _ (by decide)⟩

set_option backward.proofsInPublic true in
/-- The device whose strip `j` is for device `c`. -/
def frm (j : Fin 4) (c : Dev nD) : Dev nD := ⟨(c.val + (4 - kof j)) % 4, Nat.mod_lt _ (by decide)⟩

/-- The `j`-th source of `c`'s `j`-th target is `c`. -/
theorem frm_tgt (j : Fin 4) (c : Dev nD) : frm j (tgt j c) = c := by revert j c; decide
/-- The `j`-th target of `c`'s `j`-th source is `c`. -/
theorem tgt_frm (j : Fin 4) (c : Dev nD) : tgt j (frm j c) = c := by revert j c; decide
/-- The last strip is the device's own. -/
theorem tgt_own (c : Dev nD) : tgt 3 c = c := by revert c; decide
/-- The last source is the device itself. -/
theorem frm_own (c : Dev nD) : frm 3 c = c := by revert c; decide
/-- Different strips go to different devices. -/
theorem tgt_inj {i j : Fin 4} {c : Dev nD} : tgt i c = tgt j c → i = j := by revert i j c; decide
/-- Different sources are different devices. -/
theorem frm_inj {i j : Fin 4} {c : Dev nD} : frm i c = frm j c → i = j := by revert i j c; decide
/-- Each of the first three strips goes to another device. -/
theorem tgt_ne {j : Fin 4} (h : j ≠ 3) (c : Dev nD) : tgt j c ≠ c := by revert j c; decide
/-- Each of the first three sources is another device. -/
theorem frm_ne {j : Fin 4} (h : j ≠ 3) (c : Dev nD) : frm j c ≠ c := by revert j c; decide

/-- The strip that travels from device `s` to device `c`. -/
def strip (s c : Dev nD) : Fin 4 := if tgt 0 s = c then 0 else if tgt 1 s = c then 1 else if tgt 2 s = c then 2 else 3
/-- The strip of `s` that `c` gets does go to `c`. -/
theorem tgt_strip (s c : Dev nD) : tgt (strip s c) s = c := by revert s c; decide
/-- The source of the strip that `c` gets from `s` is `s`. -/
theorem frm_strip (s c : Dev nD) : frm (strip s c) c = s := by revert s c; decide

/-- Strip `j` going round the ring, as a rearrangement of the devices. -/
def around (j : Fin 4) : Dev nD ≃ Dev nD := ⟨tgt j, frm j, frm_tgt j, tgt_frm j⟩
/-- The four strips a device receives come one from each device. -/
def senders (c : Dev nD) : Fin 4 ≃ Dev nD :=
  ⟨fun j => frm j c, fun s => strip s c, fun j => by revert j c; decide, fun s => frm_strip s c⟩

/-! ## The semaphores -/

/-- The barrier every device signals on its three peers. -/
abbrev barS : Sem sig := (SemArray.scalar (sig.barrier 0 rfl) : Sems sig S_).sem
/-- Slot `s` of the activations' staging copies; -/
abbrev xQ (s : Fin 2) : DmaSem sig := ⟨s.val, by have := s.isLt; show s.val < 54; omega⟩
/-- slot `s`, half `h` of the weights' staging copies; -/
abbrev wQ (s h : Fin 2) : DmaSem sig := ⟨2 + (2 * s.val + h.val), by have := s.isLt; have := h.isLt; show _ < 54; omega⟩
/-- block `r` of strip `j` leaving; -/
abbrev sQ (j r : Fin 4) : DmaSem sig := ⟨6 + (4 * j.val + r.val), by have := j.isLt; have := r.isLt; show _ < 54; omega⟩
/-- block `r` of device `s`'s strip arriving; -/
abbrev rQ (s r : Fin 4) : DmaSem sig := ⟨22 + (4 * s.val + r.val), by have := s.isLt; have := r.isLt; show _ < 54; omega⟩
/-- row `a`, column `r` of the results' copies. -/
abbrev oQ (a r : Fin 4) : DmaSem sig := ⟨38 + (4 * a.val + r.val), by have := a.isLt; have := r.isLt; show _ < 54; omega⟩

/-- The row of the results' semaphores that strip `j`'s copies use. -/
abbrev orow : Fin 4 → Fin 4 := ![2, 0, 1, 3]

/-- The semaphore a 4-by-4 array names at the position `off`. -/
theorem sem_at44 {base : ℕ} {h : base + S4x4.numel ≤ 54} (off : Fin 2 → ℕ) (a r : Fin 4)
    (inb : ∀ i, off i + S1x1.size i ≤ S4x4.size i) (hs : (Rect.unit (s := S4x4) off S1x1.size inb).shape.Squeezes S_) (hoff : off = ![a.val, r.val]) :
    (((SemArray.consecutive base S4x4 h : DmaSems sig S4x4).slice (Rect.unit (s := S4x4) off S1x1.size inb)).squeeze S_ hs).sem.val
      = base + (4 * a.val + r.val) := by
  subst hoff
  show base + (S4x4.rowMajor _).val = _
  rw [rowMajor_val2 _ 4 rfl]
  congr 1
  have e0 : ∀ q : (Rect.unit (s := S4x4) ![a.val, r.val] S1x1.size inb).shape.Idx, ∀ i, (q i).val = 0 := by
    intro q i
    have := (q i).isLt
    have : (q i).val < 1 := by match i with | ⟨0, _⟩ => exact this | ⟨1, _⟩ => exact this
    omega
  simp only [Rect.emb_apply, e0]
  show (![a.val, r.val] 0 + 1 * 0) * 4 + (![a.val, r.val] 1 + 1 * 0) = _
  simp; omega

end Cert.GemmRing
-- ==== Proof.Offsets.lean ====
/- The positions the kernel computes from its device number, in closed form: which device each signal and each copy
   names, which columns of the weights a strip reads, which slots and rows a block lands in. Four devices, so each
   is decided by trying them. -/
module

public import proofs.«01_k».proof.Proof.Ring

@[expose] public section

set_option maxRecDepth 16384

namespace Cert.GemmRing

open Cert.KernelIdeal Cert.KernelIdeal.Gen
open Idealize.ShloMosaic Idealize.ShloMosaic.TcCoe

/-! ## Devices -/

/-- The three barrier signals go one, two and three places on. -/
theorem dev1_to (c : Dev nD) : (⟨k0_dev1 c, k0_dev1_lt c⟩ : Dev nD) = tgt 1 c := by revert c; decide +kernel
/-- A remote copy or signal goes to device `tgt 0 c`. -/
theorem dev2_to (c : Dev nD) : (⟨k0_dev2 c, k0_dev2_lt c⟩ : Dev nD) = tgt 0 c := by revert c; decide +kernel
/-- A remote copy or signal goes to device `tgt 2 c`. -/
theorem dev3_to (c : Dev nD) : (⟨k0_dev3 c, k0_dev3_lt c⟩ : Dev nD) = tgt 2 c := by revert c; decide +kernel
/-- A remote copy or signal goes to device `tgt 0 c`. -/
theorem dev4_to (c : Dev nD) : (⟨k0_dev4 c, k0_dev4_lt c⟩ : Dev nD) = tgt 0 c := by revert c; decide +kernel
/-- A remote copy or signal goes to device `tgt 0 c`. -/
theorem dev5_to (c : Dev nD) : (⟨k0_dev5 c, k0_dev5_lt c⟩ : Dev nD) = tgt 0 c := by revert c; decide +kernel
/-- A remote copy or signal goes to device `tgt 0 c`. -/
theorem dev6_to (c : Dev nD) : (⟨k0_dev6 c, k0_dev6_lt c⟩ : Dev nD) = tgt 0 c := by revert c; decide +kernel
/-- A remote copy or signal goes to device `tgt 0 c`. -/
theorem dev7_to (c : Dev nD) : (⟨k0_dev7 c, k0_dev7_lt c⟩ : Dev nD) = tgt 0 c := by revert c; decide +kernel
/-- A remote copy or signal goes to device `tgt 1 c`. -/
theorem dev8_to (c : Dev nD) : (⟨k0_dev8 c, k0_dev8_lt c⟩ : Dev nD) = tgt 1 c := by revert c; decide +kernel
/-- A remote copy or signal goes to device `tgt 1 c`. -/
theorem dev9_to (c : Dev nD) : (⟨k0_dev9 c, k0_dev9_lt c⟩ : Dev nD) = tgt 1 c := by revert c; decide +kernel
/-- A remote copy or signal goes to device `tgt 1 c`. -/
theorem dev10_to (c : Dev nD) : (⟨k0_dev10 c, k0_dev10_lt c⟩ : Dev nD) = tgt 1 c := by revert c; decide +kernel
/-- A remote copy or signal goes to device `tgt 1 c`. -/
theorem dev11_to (c : Dev nD) : (⟨k0_dev11 c, k0_dev11_lt c⟩ : Dev nD) = tgt 1 c := by revert c; decide +kernel
/-- A remote copy or signal goes to device `tgt 2 c`. -/
theorem dev12_to (c : Dev nD) : (⟨k0_dev12 c, k0_dev12_lt c⟩ : Dev nD) = tgt 2 c := by revert c; decide +kernel
/-- A remote copy or signal goes to device `tgt 2 c`. -/
theorem dev13_to (c : Dev nD) : (⟨k0_dev13 c, k0_dev13_lt c⟩ : Dev nD) = tgt 2 c := by revert c; decide +kernel
/-- A remote copy or signal goes to device `tgt 2 c`. -/
theorem dev14_to (c : Dev nD) : (⟨k0_dev14 c, k0_dev14_lt c⟩ : Dev nD) = tgt 2 c := by revert c; decide +kernel
/-- A remote copy or signal goes to device `tgt 2 c`. -/
theorem dev15_to (c : Dev nD) : (⟨k0_dev15 c, k0_dev15_lt c⟩ : Dev nD) = tgt 2 c := by revert c; decide +kernel

/-! ## Columns of the weights -/

/-- A half strip's columns: strip 0 and the device's own are fetched in halves. -/
theorem off1_00 (c : Dev nD) : k0_off1 c 2#32 0#32 = ![0, 512 * (tgt 0 c).val + 256 * (0 : Fin 2).val] := by revert c; decide +kernel
/-- This offset in closed form, on every device. -/
theorem off1_01 (c : Dev nD) : k0_off1 c 2#32 256#32 = ![0, 512 * (tgt 0 c).val + 256 * (1 : Fin 2).val] := by revert c; decide +kernel
/-- This offset in closed form, on every device. -/
theorem off1_30 (c : Dev nD) : k0_off1 c 0#32 0#32 = ![0, 512 * (tgt 3 c).val + 256 * (0 : Fin 2).val] := by revert c; decide +kernel
/-- This offset in closed form, on every device. -/
theorem off1_31 (c : Dev nD) : k0_off1 c 0#32 256#32 = ![0, 512 * (tgt 3 c).val + 256 * (1 : Fin 2).val] := by revert c; decide +kernel
/-- This offset in closed form, on every device. -/
theorem off2_1 (c : Dev nD) : k0_off2 c 1#32 = ![0, 512 * (tgt 1 c).val] := by revert c; decide +kernel
/-- This offset in closed form, on every device. -/
theorem off2_2 (c : Dev nD) : k0_off2 c 3#32 = ![0, 512 * (tgt 2 c).val] := by revert c; decide +kernel

/-! ## Slots at the receiver -/

/-- Block 0 of the strip arriving as `j`: its semaphore, its slot as a copy names it, its slot as a load names it. -/
theorem off15_0 (c : Dev nD) : k0_off15 c 2#32 = ![(frm 0 c).val, (0 : Fin 4).val] := by revert c; decide +kernel
/-- This offset in closed form, on every device. -/
theorem off16_0 (c : Dev nD) : k0_off16 c 2#32 = ![(frm 0 c).val, (0 : Fin 4).val, 0, 0] := by revert c; decide +kernel
/-- This offset in closed form, on every device. -/
theorem off17_0 (c : Dev nD) : k0_off17 c 2#32 = ![(frm 0 c).val, (0 : Fin 4).val, 0, 0] := by revert c; decide +kernel
/-- This offset in closed form, on every device. -/
theorem off15_1 (c : Dev nD) : k0_off15 c 3#32 = ![(frm 1 c).val, (0 : Fin 4).val] := by revert c; decide +kernel
/-- This offset in closed form, on every device. -/
theorem off16_1 (c : Dev nD) : k0_off16 c 3#32 = ![(frm 1 c).val, (0 : Fin 4).val, 0, 0] := by revert c; decide +kernel
/-- This offset in closed form, on every device. -/
theorem off17_1 (c : Dev nD) : k0_off17 c 3#32 = ![(frm 1 c).val, (0 : Fin 4).val, 0, 0] := by revert c; decide +kernel
/-- This offset in closed form, on every device. -/
theorem off15_2 (c : Dev nD) : k0_off15 c 1#32 = ![(frm 2 c).val, (0 : Fin 4).val] := by revert c; decide +kernel
/-- This offset in closed form, on every device. -/
theorem off16_2 (c : Dev nD) : k0_off16 c 1#32 = ![(frm 2 c).val, (0 : Fin 4).val, 0, 0] := by revert c; decide +kernel
/-- This offset in closed form, on every device. -/
theorem off17_2 (c : Dev nD) : k0_off17 c 1#32 = ![(frm 2 c).val, (0 : Fin 4).val, 0, 0] := by revert c; decide +kernel

/-- Block 1 of the strip arriving as `j`: its semaphore, its slot as a copy names it, its slot as a load names it. -/
theorem off20_0 (c : Dev nD) : k0_off20 c 2#32 = ![(frm 0 c).val, (1 : Fin 4).val] := by revert c; decide +kernel
/-- This offset in closed form, on every device. -/
theorem off21_0 (c : Dev nD) : k0_off21 c 2#32 = ![(frm 0 c).val, (1 : Fin 4).val, 0, 0] := by revert c; decide +kernel
/-- This offset in closed form, on every device. -/
theorem off22_0 (c : Dev nD) : k0_off22 c 2#32 = ![(frm 0 c).val, (1 : Fin 4).val, 0, 0] := by revert c; decide +kernel
/-- This offset in closed form, on every device. -/
theorem off20_1 (c : Dev nD) : k0_off20 c 3#32 = ![(frm 1 c).val, (1 : Fin 4).val] := by revert c; decide +kernel
/-- This offset in closed form, on every device. -/
theorem off21_1 (c : Dev nD) : k0_off21 c 3#32 = ![(frm 1 c).val, (1 : Fin 4).val, 0, 0] := by revert c; decide +kernel
/-- This offset in closed form, on every device. -/
theorem off22_1 (c : Dev nD) : k0_off22 c 3#32 = ![(frm 1 c).val, (1 : Fin 4).val, 0, 0] := by revert c; decide +kernel
/-- This offset in closed form, on every device. -/
theorem off20_2 (c : Dev nD) : k0_off20 c 1#32 = ![(frm 2 c).val, (1 : Fin 4).val] := by revert c; decide +kernel
/-- This offset in closed form, on every device. -/
theorem off21_2 (c : Dev nD) : k0_off21 c 1#32 = ![(frm 2 c).val, (1 : Fin 4).val, 0, 0] := by revert c; decide +kernel
/-- This offset in closed form, on every device. -/
theorem off22_2 (c : Dev nD) : k0_off22 c 1#32 = ![(frm 2 c).val, (1 : Fin 4).val, 0, 0] := by revert c; decide +kernel

/-- Block 2 of the strip arriving as `j`: its semaphore, its slot as a copy names it, its slot as a load names it. -/
theorem off23_0 (c : Dev nD) : k0_off23 c 2#32 = ![(frm 0 c).val, (2 : Fin 4).val] := by revert c; decide +kernel
/-- This offset in closed form, on every device. -/
theorem off24_0 (c : Dev nD) : k0_off24 c 2#32 = ![(frm 0 c).val, (2 : Fin 4).val, 0, 0] := by revert c; decide +kernel
/-- This offset in closed form, on every device. -/
theorem off25_0 (c : Dev nD) : k0_off25 c 2#32 = ![(frm 0 c).val, (2 : Fin 4).val, 0, 0] := by revert c; decide +kernel
/-- This offset in closed form, on every device. -/
theorem off23_1 (c : Dev nD) : k0_off23 c 3#32 = ![(frm 1 c).val, (2 : Fin 4).val] := by revert c; decide +kernel
/-- This offset in closed form, on every device. -/
theorem off24_1 (c : Dev nD) : k0_off24 c 3#32 = ![(frm 1 c).val, (2 : Fin 4).val, 0, 0] := by revert c; decide +kernel
/-- This offset in closed form, on every device. -/
theorem off25_1 (c : Dev nD) : k0_off25 c 3#32 = ![(frm 1 c).val, (2 : Fin 4).val, 0, 0] := by revert c; decide +kernel
/-- This offset in closed form, on every device. -/
theorem off23_2 (c : Dev nD) : k0_off23 c 1#32 = ![(frm 2 c).val, (2 : Fin 4).val] := by revert c; decide +kernel
/-- This offset in closed form, on every device. -/
theorem off24_2 (c : Dev nD) : k0_off24 c 1#32 = ![(frm 2 c).val, (2 : Fin 4).val, 0, 0] := by revert c; decide +kernel
/-- This offset in closed form, on every device. -/
theorem off25_2 (c : Dev nD) : k0_off25 c 1#32 = ![(frm 2 c).val, (2 : Fin 4).val, 0, 0] := by revert c; decide +kernel

/-- Block 3 of the strip arriving as `j`: its semaphore, its slot as a copy names it, its slot as a load names it. -/
theorem off26_0 (c : Dev nD) : k0_off26 c 2#32 = ![(frm 0 c).val, (3 : Fin 4).val] := by revert c; decide +kernel
/-- This offset in closed form, on every device. -/
theorem off27_0 (c : Dev nD) : k0_off27 c 2#32 = ![(frm 0 c).val, (3 : Fin 4).val, 0, 0] := by revert c; decide +kernel
/-- This offset in closed form, on every device. -/
theorem off28_0 (c : Dev nD) : k0_off28 c 2#32 = ![(frm 0 c).val, (3 : Fin 4).val, 0, 0] := by revert c; decide +kernel
/-- This offset in closed form, on every device. -/
theorem off26_1 (c : Dev nD) : k0_off26 c 3#32 = ![(frm 1 c).val, (3 : Fin 4).val] := by revert c; decide +kernel
/-- This offset in closed form, on every device. -/
theorem off27_1 (c : Dev nD) : k0_off27 c 3#32 = ![(frm 1 c).val, (3 : Fin 4).val, 0, 0] := by revert c; decide +kernel
/-- This offset in closed form, on every device. -/
theorem off28_1 (c : Dev nD) : k0_off28 c 3#32 = ![(frm 1 c).val, (3 : Fin 4).val, 0, 0] := by revert c; decide +kernel
/-- This offset in closed form, on every device. -/
theorem off26_2 (c : Dev nD) : k0_off26 c 1#32 = ![(frm 2 c).val, (3 : Fin 4).val] := by revert c; decide +kernel
/-- This offset in closed form, on every device. -/
theorem off27_2 (c : Dev nD) : k0_off27 c 1#32 = ![(frm 2 c).val, (3 : Fin 4).val, 0, 0] := by revert c; decide +kernel
/-- This offset in closed form, on every device. -/
theorem off28_2 (c : Dev nD) : k0_off28 c 1#32 = ![(frm 2 c).val, (3 : Fin 4).val, 0, 0] := by revert c; decide +kernel

/-! ## Rows of the result -/

/-- This offset in closed form, on every device. -/
theorem off18_00 (c : Dev nD) : k0_off18 c 2#32 0#32 = ![1024 * (frm 0 c).val + 256 * (0 : Fin 4).val, 0] := by revert c; decide +kernel
/-- This offset in closed form, on every device. -/
theorem off18_01 (c : Dev nD) : k0_off18 c 2#32 256#32 = ![1024 * (frm 0 c).val + 256 * (1 : Fin 4).val, 0] := by revert c; decide +kernel
/-- This offset in closed form, on every device. -/
theorem off18_02 (c : Dev nD) : k0_off18 c 2#32 512#32 = ![1024 * (frm 0 c).val + 256 * (2 : Fin 4).val, 0] := by revert c; decide +kernel
/-- This offset in closed form, on every device. -/
theorem off18_03 (c : Dev nD) : k0_off18 c 2#32 768#32 = ![1024 * (frm 0 c).val + 256 * (3 : Fin 4).val, 0] := by revert c; decide +kernel
/-- This offset in closed form, on every device. -/
theorem off18_10 (c : Dev nD) : k0_off18 c 3#32 0#32 = ![1024 * (frm 1 c).val + 256 * (0 : Fin 4).val, 0] := by revert c; decide +kernel
/-- This offset in closed form, on every device. -/
theorem off18_11 (c : Dev nD) : k0_off18 c 3#32 256#32 = ![1024 * (frm 1 c).val + 256 * (1 : Fin 4).val, 0] := by revert c; decide +kernel
/-- This offset in closed form, on every device. -/
theorem off18_12 (c : Dev nD) : k0_off18 c 3#32 512#32 = ![1024 * (frm 1 c).val + 256 * (2 : Fin 4).val, 0] := by revert c; decide +kernel
/-- This offset in closed form, on every device. -/
theorem off18_13 (c : Dev nD) : k0_off18 c 3#32 768#32 = ![1024 * (frm 1 c).val + 256 * (3 : Fin 4).val, 0] := by revert c; decide +kernel
/-- This offset in closed form, on every device. -/
theorem off18_20 (c : Dev nD) : k0_off18 c 1#32 0#32 = ![1024 * (frm 2 c).val + 256 * (0 : Fin 4).val, 0] := by revert c; decide +kernel
/-- This offset in closed form, on every device. -/
theorem off18_21 (c : Dev nD) : k0_off18 c 1#32 256#32 = ![1024 * (frm 2 c).val + 256 * (1 : Fin 4).val, 0] := by revert c; decide +kernel
/-- This offset in closed form, on every device. -/
theorem off18_22 (c : Dev nD) : k0_off18 c 1#32 512#32 = ![1024 * (frm 2 c).val + 256 * (2 : Fin 4).val, 0] := by revert c; decide +kernel
/-- This offset in closed form, on every device. -/
theorem off18_23 (c : Dev nD) : k0_off18 c 1#32 768#32 = ![1024 * (frm 2 c).val + 256 * (3 : Fin 4).val, 0] := by revert c; decide +kernel
/-- This offset in closed form, on every device. -/
theorem off19_00 (c : Dev nD) : k0_off19 c 2#32 0#32 = ![1024 * (frm 0 c).val + 256 * (0 : Fin 4).val, 0] := by revert c; decide +kernel
/-- This offset in closed form, on every device. -/
theorem off19_01 (c : Dev nD) : k0_off19 c 2#32 256#32 = ![1024 * (frm 0 c).val + 256 * (1 : Fin 4).val, 0] := by revert c; decide +kernel
/-- This offset in closed form, on every device. -/
theorem off19_02 (c : Dev nD) : k0_off19 c 2#32 512#32 = ![1024 * (frm 0 c).val + 256 * (2 : Fin 4).val, 0] := by revert c; decide +kernel
/-- This offset in closed form, on every device. -/
theorem off19_03 (c : Dev nD) : k0_off19 c 2#32 768#32 = ![1024 * (frm 0 c).val + 256 * (3 : Fin 4).val, 0] := by revert c; decide +kernel
/-- This offset in closed form, on every device. -/
theorem off19_10 (c : Dev nD) : k0_off19 c 3#32 0#32 = ![1024 * (frm 1 c).val + 256 * (0 : Fin 4).val, 0] := by revert c; decide +kernel
/-- This offset in closed form, on every device. -/
theorem off19_11 (c : Dev nD) : k0_off19 c 3#32 256#32 = ![1024 * (frm 1 c).val + 256 * (1 : Fin 4).val, 0] := by revert c; decide +kernel
/-- This offset in closed form, on every device. -/
theorem off19_12 (c : Dev nD) : k0_off19 c 3#32 512#32 = ![1024 * (frm 1 c).val + 256 * (2 : Fin 4).val, 0] := by revert c; decide +kernel
/-- This offset in closed form, on every device. -/
theorem off19_13 (c : Dev nD) : k0_off19 c 3#32 768#32 = ![1024 * (frm 1 c).val + 256 * (3 : Fin 4).val, 0] := by revert c; decide +kernel
/-- This offset in closed form, on every device. -/
theorem off19_20 (c : Dev nD) : k0_off19 c 1#32 0#32 = ![1024 * (frm 2 c).val + 256 * (0 : Fin 4).val, 0] := by revert c; decide +kernel
/-- This offset in closed form, on every device. -/
theorem off19_21 (c : Dev nD) : k0_off19 c 1#32 256#32 = ![1024 * (frm 2 c).val + 256 * (1 : Fin 4).val, 0] := by revert c; decide +kernel
/-- This offset in closed form, on every device. -/
theorem off19_22 (c : Dev nD) : k0_off19 c 1#32 512#32 = ![1024 * (frm 2 c).val + 256 * (2 : Fin 4).val, 0] := by revert c; decide +kernel
/-- This offset in closed form, on every device. -/
theorem off19_23 (c : Dev nD) : k0_off19 c 1#32 768#32 = ![1024 * (frm 2 c).val + 256 * (3 : Fin 4).val, 0] := by revert c; decide +kernel
/-- This offset in closed form, on every device. -/
theorem off11_own (c : Dev nD) : k0_off11 c = ![1024 * c.val, 256 * (0 : Fin 2).val] := by revert c; decide +kernel
/-- This offset in closed form, on every device. -/
theorem off12_own (c : Dev nD) : k0_off12 c = ![1024 * c.val, 256 * (0 : Fin 2).val] := by revert c; decide +kernel
/-- This offset in closed form, on every device. -/
theorem off13_own (c : Dev nD) : k0_off13 c = ![1024 * c.val, 256 * (1 : Fin 2).val] := by revert c; decide +kernel
/-- This offset in closed form, on every device. -/
theorem off14_own (c : Dev nD) : k0_off14 c = ![1024 * c.val, 256 * (1 : Fin 2).val] := by revert c; decide +kernel

/-! ## Slots a block is sent to -/

/-- This offset in closed form, on every device. -/
theorem off3_at (c : Dev nD) : k0_off3 c = ![c.val, (0 : Fin 4).val] := by revert c; decide +kernel
/-- This offset in closed form, on every device. -/
theorem off4_at (c : Dev nD) : k0_off4 c = ![c.val, (0 : Fin 4).val, 0, 0] := by revert c; decide +kernel
/-- This offset in closed form, on every device. -/
theorem off5_at (c : Dev nD) : k0_off5 c = ![c.val, (1 : Fin 4).val] := by revert c; decide +kernel
/-- This offset in closed form, on every device. -/
theorem off6_at (c : Dev nD) : k0_off6 c = ![c.val, (1 : Fin 4).val, 0, 0] := by revert c; decide +kernel
/-- This offset in closed form, on every device. -/
theorem off7_at (c : Dev nD) : k0_off7 c = ![c.val, (2 : Fin 4).val] := by revert c; decide +kernel
/-- This offset in closed form, on every device. -/
theorem off8_at (c : Dev nD) : k0_off8 c = ![c.val, (2 : Fin 4).val, 0, 0] := by revert c; decide +kernel
/-- This offset in closed form, on every device. -/
theorem off9_at (c : Dev nD) : k0_off9 c = ![c.val, (3 : Fin 4).val] := by revert c; decide +kernel
/-- This offset in closed form, on every device. -/
theorem off10_at (c : Dev nD) : k0_off10 c = ![c.val, (3 : Fin 4).val, 0, 0] := by revert c; decide +kernel

end Cert.GemmRing
-- ==== Proof.Contents.lean ====
/- What every buffer holds while the kernel runs, as functions of the two arguments alone, and the parts of the
   buffers that change hands. All of it at any reading `F` of the floats. -/
module

public import proofs.«01_k».proof.Proof.Offsets

@[expose] public section

set_option maxRecDepth 16384

noncomputable section

namespace Cert.GemmRing

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The arguments and what the staging buffers hold -/

/-- Device `c`'s rows of the activations, and its copy of the weights. -/
def xA (c : Dev nD) : FVec F S1024x4096 .f32 := m ((c : Thread nD τ).loc main_arg0)
def wA (c : Dev nD) : FVec F S4096x2048 .f32 := m ((c : Thread nD τ).loc main_arg1)

set_option backward.proofsInPublic true in
/-- Rows `256 r …` of the activations, in whichever slot they are staged. -/
def XS (c : Dev nD) (r : Fin 4) : FVec F S2x256x4096 .f32 :=
  fun i => xA m c (ix2 ⟨256 * r.val + (i 1).val, by have : (i 1).val < 256 := (i 1).isLt; omega⟩ ⟨(i 2).val, (i 2).isLt⟩)

set_option backward.proofsInPublic true in
/-- The 512 columns of the weights that make device `d`'s strip, in whichever slot they are staged. -/
def WS (c d : Dev nD) : FVec F S2x4096x512 .f32 :=
  fun i => wA m c (ix2 ⟨(i 1).val, (i 1).isLt⟩ ⟨512 * d.val + (i 2).val, by have : (i 2).val < 512 := (i 2).isLt; have : d.val < 4 := d.isLt; omega⟩)

/-- The narrowed activations and weights. -/
def XB (c : Dev nD) : FVec F S1024x4096 .bf16 := truncf .bf16 (xA m c) bitsLt_bf16_f32
def WB (c d : Dev nD) : FVec F S2x4096x512 .bf16 := truncf .bf16 (WS m c d) bitsLt_bf16_f32

/-! ## What a load of one part reads -/

set_option backward.proofsInPublic true in
/-- A staged block of rows as a load reads it; -/
def xsv (c : Dev nD) (r : Fin 4) : FVec F S1x256x4096 .f32 :=
  fun j => xA m c (ix2 ⟨256 * r.val + (j 1).val, by have : (j 1).val < 256 := (j 1).isLt; omega⟩ ⟨(j 2).val, (j 2).isLt⟩)
set_option backward.proofsInPublic true in
/-- the narrowed block of rows; -/
def xv (c : Dev nD) (r : Fin 4) : FVec F S256x4096 .bf16 :=
  fun j => XB m c (ix2 ⟨256 * r.val + (j 0).val, by have : (j 0).val < 256 := (j 0).isLt; omega⟩ ⟨(j 1).val, (j 1).isLt⟩)
set_option backward.proofsInPublic true in
/-- the staged columns of device `d`'s strip; -/
def wsv (c d : Dev nD) : FVec F S1x4096x512 .f32 := fun j => WS m c d (ix3 0 ⟨(j 1).val, (j 1).isLt⟩ ⟨(j 2).val, (j 2).isLt⟩)
set_option backward.proofsInPublic true in
/-- the narrowed columns, all 512 -/
def wv (c d : Dev nD) : FVec F S1x4096x512 .bf16 := fun j => WB m c d (ix3 0 ⟨(j 1).val, (j 1).isLt⟩ ⟨(j 2).val, (j 2).isLt⟩)
set_option backward.proofsInPublic true in
/-- or one half of them. -/
def wvh (c d : Dev nD) (h : Fin 2) : FVec F S1x4096x256 .bf16 :=
  fun j => WB m c d (ix3 0 ⟨(j 1).val, (j 1).isLt⟩ ⟨256 * h.val + (j 2).val, by have : (j 2).val < 256 := (j 2).isLt; omega⟩)

/-! ## The products -/

/-- Block `r` of strip `j` of device `c`, as sent. The first block of the first strip is made in two halves, while
    the second half of its weights is still on its way. -/
def blk (c : Dev nD) (j r : Fin 4) : FVec F S1x1x256x512 .bf16 :=
  if j = 0 ∧ r = 0 then
    k0_pay8 (k0_pay4 (k0_pay3 (xv m c 0) (wvh m c (tgt 0 c) 0))) (k0_pay6 (xv m c 0) (wvh m c (tgt 0 c) 1))
      (k0_pay7 (xv m c 0) (wvh m c (tgt 0 c) 1))
  else k0_pay10 (xv m c r) (wv m c (tgt j c))

/-- One half of the columns of a device's own strip. -/
def own (c : Dev nD) (h : Fin 2) : FVec F S1024x256 .f32 :=
  if h = 0 then k0_pay31 (k0_pay29 (XB m c) (wv m c c)) (k0_pay30 (XB m c) (wv m c c)) else k0_pay33 (XB m c) (wv m c c)

set_option backward.proofsInPublic true in
/-- The send buffer once every block is in it; -/
def SEND (c : Dev nD) : FVec F S4x4x256x512 .bf16 :=
  fun i => blk m c (i 0) (i 1) (ix4 0 0 ⟨(i 2).val, (i 2).isLt⟩ ⟨(i 3).val, (i 3).isLt⟩)
set_option backward.proofsInPublic true in
/-- the receive buffer once every block has arrived: row `s` from device `s`; -/
def RECV (c : Dev nD) : FVec F S4x4x256x512 .bf16 :=
  fun i => blk m (i 0) (strip (i 0) c) (i 1) (ix4 0 0 ⟨(i 2).val, (i 2).isLt⟩ ⟨(i 3).val, (i 3).isLt⟩)
set_option backward.proofsInPublic true in
/-- and the device's 512 columns of the result: rows `1024 s …` from device `s`, its own rows from itself. -/
def OUT (c : Dev nD) : FVec F S4096x512 .f32 := fun i =>
  have h0 : (i 0).val < 4096 := (i 0).isLt
  have h1 : (i 1).val < 512 := (i 1).isLt
  if (i 0).val / 1024 = c.val then
    own m c ⟨(i 1).val / 256, by omega⟩ (ix2 ⟨(i 0).val % 1024, by omega⟩ ⟨(i 1).val % 256, by omega⟩)
  else
    k0_pay34 (blk m ⟨(i 0).val / 1024, by show _ < 4; omega⟩ (strip ⟨(i 0).val / 1024, by show _ < 4; omega⟩ c) ⟨(i 0).val % 1024 / 256, by omega⟩)
      (ix2 ⟨(i 0).val % 256, by omega⟩ ⟨(i 1).val, by omega⟩)

/-! ## The parts that change hands -/

def xsSet (s : Fin 2) : Finset S2x256x4096.Idx := Finset.univ.filter fun i => (i 0).val = s.val
def wSet (s : Fin 2) : Finset S2x4096x512.Idx := Finset.univ.filter fun i => (i 0).val = s.val
def wHalf (s h : Fin 2) : Finset S2x4096x512.Idx := Finset.univ.filter fun i => (i 0).val = s.val ∧ (i 2).val / 256 = h.val
def xbSet (r : Fin 4) : Finset S1024x4096.Idx := Finset.univ.filter fun i => (i 0).val / 256 = r.val
/-- The slot of one block, in the send buffer and in the receive buffer. -/
def slot (a r : Fin 4) : Finset S4x4x256x512.Idx := Finset.univ.filter fun i => (i 0).val = a.val ∧ (i 1).val = r.val
/-- The part of the result one copy writes: 256 rows of a received strip, or one half of the device's own columns. -/
def outSet (c : Dev nD) (j r : Fin 4) : Finset S4096x512.Idx := Finset.univ.filter fun i =>
  if j = 3 then (i 0).val / 1024 = c.val ∧ (i 1).val / 256 = r.val
  else (i 0).val / 1024 = (frm j c).val ∧ (i 0).val % 1024 / 256 = r.val

/-- Membership in a box of unit steps, coordinate by coordinate. -/
theorem xs_rect (s : Fin 2) (off : Fin 3 → ℕ) (inb : ∀ a, off a + S1x256x4096.size a ≤ S2x256x4096.size a) (h : off = ![s.val, 0, 0]) :
    (Rect.unit (s := S2x256x4096) off S1x256x4096.size inb).set = xsSet s := by
  subst h
  ext i
  have h1 : (i 1).val < 256 := (i 1).isLt
  have h2 : (i 2).val < 4096 := (i 2).isLt
  rw [Rect.mem_set_unit, xsSet, Finset.mem_filter, Fin.forall_fin_succ, Fin.forall_fin_succ, Fin.forall_fin_succ]
  simp [S1x256x4096]
  omega

/-- The rectangle of one weights slot is the set of its elements. -/
theorem w_rect (s : Fin 2) (off : Fin 3 → ℕ) (inb : ∀ a, off a + S1x4096x512.size a ≤ S2x4096x512.size a) (h : off = ![s.val, 0, 0]) :
    (Rect.unit (s := S2x4096x512) off S1x4096x512.size inb).set = wSet s := by
  subst h
  ext i
  have h1 : (i 1).val < 4096 := (i 1).isLt
  have h2 : (i 2).val < 512 := (i 2).isLt
  rw [Rect.mem_set_unit, wSet, Finset.mem_filter, Fin.forall_fin_succ, Fin.forall_fin_succ, Fin.forall_fin_succ]
  simp [S1x4096x512]
  omega

/-- The rectangle of half a weights slot is the set of its elements. -/
theorem wHalf_rect (s h : Fin 2) (off : Fin 3 → ℕ) (inb : ∀ a, off a + S1x4096x256.size a ≤ S2x4096x512.size a) (ho : off = ![s.val, 0, 256 * h.val]) :
    (Rect.unit (s := S2x4096x512) off S1x4096x256.size inb).set = wHalf s h := by
  subst ho
  ext i
  have h1 : (i 1).val < 4096 := (i 1).isLt
  have h2 : (i 2).val < 512 := (i 2).isLt
  rw [Rect.mem_set_unit, wHalf, Finset.mem_filter, Fin.forall_fin_succ, Fin.forall_fin_succ, Fin.forall_fin_succ]
  simp [S1x4096x256]
  omega

/-- The rectangle of one block of narrowed rows is the set of its elements. -/
theorem xb_rect (r : Fin 4) (off : Fin 2 → ℕ) (inb : ∀ a, off a + S256x4096.size a ≤ S1024x4096.size a) (h : off = ![256 * r.val, 0]) :
    (Rect.unit (s := S1024x4096) off S256x4096.size inb).set = xbSet r := by
  subst h
  ext i
  have h1 : (i 1).val < 4096 := (i 1).isLt
  rw [Rect.mem_set_unit, xbSet, Finset.mem_filter, Fin.forall_fin_succ, Fin.forall_fin_succ]
  simp [S256x4096]
  omega

/-- The rectangle of one send or receive slot is the set of its elements. -/
theorem slot_rect (a r : Fin 4) (off : Fin 4 → ℕ) (inb : ∀ i, off i + S1x1x256x512.size i ≤ S4x4x256x512.size i) (h : off = ![a.val, r.val, 0, 0]) :
    (Rect.unit (s := S4x4x256x512) off S1x1x256x512.size inb).set = slot a r := by
  subst h
  ext i
  have h1 : (i 2).val < 256 := (i 2).isLt
  have h2 : (i 3).val < 512 := (i 3).isLt
  rw [Rect.mem_set_unit, slot, Finset.mem_filter, Fin.forall_fin_succ, Fin.forall_fin_succ, Fin.forall_fin_succ, Fin.forall_fin_succ]
  simp [S1x1x256x512]
  omega

/-- The rectangle of one received block in the result is the set of its elements. -/
theorem out_rect (c : Dev nD) {j : Fin 4} (r : Fin 4) (hj : j ≠ 3) (off : Fin 2 → ℕ) (inb : ∀ a, off a + S256x512.size a ≤ S4096x512.size a)
    (h : off = ![1024 * (frm j c).val + 256 * r.val, 0]) :
    (Rect.unit (s := S4096x512) off S256x512.size inb).set = outSet c j r := by
  subst h
  ext i
  have h1 : (i 1).val < 512 := (i 1).isLt
  have h2 : (i 0).val < 4096 := (i 0).isLt
  rw [Rect.mem_set_unit, outSet, Finset.mem_filter, Fin.forall_fin_succ, Fin.forall_fin_succ, if_neg hj]
  simp [S256x512]
  omega

/-- The rectangle of half the own strip in the result is the set of its elements. -/
theorem out_rect_own (c : Dev nD) (h : Fin 2) {r : Fin 4} (hr : r.val = h.val) (off : Fin 2 → ℕ) (inb : ∀ a, off a + S1024x256.size a ≤ S4096x512.size a)
    (ho : off = ![1024 * c.val, 256 * h.val]) :
    (Rect.unit (s := S4096x512) off S1024x256.size inb).set = outSet c 3 r := by
  subst ho
  ext i
  have h1 : (i 1).val < 512 := (i 1).isLt
  have h2 : (i 0).val < 4096 := (i 0).isLt
  rw [Rect.mem_set_unit, outSet, Finset.mem_filter, Fin.forall_fin_succ, Fin.forall_fin_succ, if_pos rfl, hr]
  simp [S1024x256]
  omega

end Cert.GemmRing
-- ==== Proof.Reads.lean ====
/- Reading the buffers' contents through the windows the kernel names: what a copy moves is what its destination is
   meant to hold, and what a load sees or a store writes is the named block. -/
module

public import proofs.«01_k».proof.Proof.Contents

@[expose] public section

set_option maxRecDepth 16384

noncomputable section

namespace Cert.GemmRing

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The windows -/

/-- A slot of the activations' staging buffer as a copy names it, and the rows it copies from. -/
abbrev xsM (off : Fin 3 → ℕ) (inb : ∀ a, off a + S1x256x4096.size a ≤ S2x256x4096.size a) : Memref sig .tc .vmem S256x4096 .f32 :=
  ((Memref.whole cc0_scratch2).slice (Rect.unit (s := S2x256x4096) off S1x256x4096.size inb) (fun _ => rfl)).squeeze S256x4096 squeezes_S1x256x4096_S256x4096
abbrev xaM (off : Fin 2 → ℕ) (inb : ∀ a, off a + S256x4096.size a ≤ S1024x4096.size a) : Memref sig .tc .hbm S256x4096 .f32 :=
  (Memref.whole main_arg0).slice (Rect.unit (s := S1024x4096) off S256x4096.size inb) (fun _ => rfl)
/-- A slot, or half a slot, of the weights' staging buffer, and the columns it copies from. -/
abbrev wsM (off : Fin 3 → ℕ) (inb : ∀ a, off a + S1x4096x512.size a ≤ S2x4096x512.size a) : Memref sig .tc .vmem S4096x512 .f32 :=
  ((Memref.whole cc0_scratch3).slice (Rect.unit (s := S2x4096x512) off S1x4096x512.size inb) (fun _ => rfl)).squeeze S4096x512 squeezes_S1x4096x512_S4096x512
abbrev whM (off : Fin 3 → ℕ) (inb : ∀ a, off a + S1x4096x256.size a ≤ S2x4096x512.size a) : Memref sig .tc .vmem S4096x256 .f32 :=
  ((Memref.whole cc0_scratch3).slice (Rect.unit (s := S2x4096x512) off S1x4096x256.size inb) (fun _ => rfl)).squeeze S4096x256 squeezes_S1x4096x256_S4096x256
abbrev waM (off : Fin 2 → ℕ) (inb : ∀ a, off a + S4096x512.size a ≤ S4096x2048.size a) : Memref sig .tc .hbm S4096x512 .f32 :=
  (Memref.whole main_arg1).slice (Rect.unit (s := S4096x2048) off S4096x512.size inb) (fun _ => rfl)
abbrev waHM (off : Fin 2 → ℕ) (inb : ∀ a, off a + S4096x256.size a ≤ S4096x2048.size a) : Memref sig .tc .hbm S4096x256 .f32 :=
  (Memref.whole main_arg1).slice (Rect.unit (s := S4096x2048) off S4096x256.size inb) (fun _ => rfl)
/-- A slot of the send buffer and of the receive buffer. -/
abbrev sdM (off : Fin 4 → ℕ) (inb : ∀ a, off a + S1x1x256x512.size a ≤ S4x4x256x512.size a) : Memref sig .tc .vmem S256x512 .bf16 :=
  ((Memref.whole cc0_scratch6).slice (Rect.unit (s := S4x4x256x512) off S1x1x256x512.size inb) (fun _ => rfl)).squeeze S256x512 squeezes_S1x1x256x512_S256x512
abbrev rcM (off : Fin 4 → ℕ) (inb : ∀ a, off a + S1x1x256x512.size a ≤ S4x4x256x512.size a) : Memref sig .tc .vmem S256x512 .bf16 :=
  ((Memref.whole cc0_scratch7).slice (Rect.unit (s := S4x4x256x512) off S1x1x256x512.size inb) (fun _ => rfl)).squeeze S256x512 squeezes_S1x1x256x512_S256x512
/-- Rows of the staged result and of the result itself; halves of the device's own columns likewise. -/
abbrev ogM (off : Fin 2 → ℕ) (inb : ∀ a, off a + S256x512.size a ≤ S4096x512.size a) : Memref sig .tc .vmem S256x512 .f32 :=
  (Memref.whole cc0_scratch10).slice (Rect.unit (s := S4096x512) off S256x512.size inb) (fun _ => rfl)
abbrev orM (off : Fin 2 → ℕ) (inb : ∀ a, off a + S256x512.size a ≤ S4096x512.size a) : Memref sig .tc .hbm S256x512 .f32 :=
  (Memref.whole main_v1).slice (Rect.unit (s := S4096x512) off S256x512.size inb) (fun _ => rfl)
abbrev ogHM (off : Fin 2 → ℕ) (inb : ∀ a, off a + S1024x256.size a ≤ S4096x512.size a) : Memref sig .tc .vmem S1024x256 .f32 :=
  (Memref.whole cc0_scratch10).slice (Rect.unit (s := S4096x512) off S1024x256.size inb) (fun _ => rfl)
abbrev orHM (off : Fin 2 → ℕ) (inb : ∀ a, off a + S1024x256.size a ≤ S4096x512.size a) : Memref sig .tc .hbm S1024x256 .f32 :=
  (Memref.whole main_v1).slice (Rect.unit (s := S4096x512) off S1024x256.size inb) (fun _ => rfl)

/-! ## Dropping axes of size one -/

/-- Dropping a leading axis of size one keeps the other coordinates. -/
theorem drop1 {a b : ℕ} (h : (⟨2, ![a, b]⟩ : Shape).numel = (⟨3, ![1, a, b]⟩ : Shape).numel) (p : Fin a) (q : Fin b) :
    Shape.reshapeEquiv h (ix2 p q) = ix3 0 p q := by
  refine Shape.reshapeEquiv_eq_of_rowMajor h ?_
  rw [rowMajor_val3 _ (a * b) b rfl rfl, rowMajor_val2 _ b rfl]
  show 0 * _ + _ + _ = _
  rw [Nat.zero_mul, Nat.zero_add]; rfl

/-- Dropping two leading axes of size one keeps the other coordinates. -/
theorem drop2 {a b : ℕ} (h : (⟨2, ![a, b]⟩ : Shape).numel = (⟨4, ![1, 1, a, b]⟩ : Shape).numel) (p : Fin a) (q : Fin b) :
    Shape.reshapeEquiv h (ix2 p q) = ix4 0 0 p q := by
  refine Shape.reshapeEquiv_eq_of_rowMajor h ?_
  rw [rowMajor_val4 _ (1 * (a * b)) (a * b) b (by show _ = 1 * (a * b); rfl) rfl rfl, rowMajor_val2 _ b rfl]
  show 0 * _ + 0 * _ + p.val * b + q.val = p.val * b + q.val
  omega

/-- Adding a leading axis of size one keeps the coordinates. -/
theorem add1 {a b : ℕ} (h : (⟨3, ![1, a, b]⟩ : Shape).numel = (⟨2, ![a, b]⟩ : Shape).numel) (z : Fin 1) (p : Fin a) (q : Fin b) :
    Shape.reshapeEquiv h (ix3 z p q) = ix2 p q := by
  refine Shape.reshapeEquiv_eq_of_rowMajor h ?_
  rw [rowMajor_val3 _ (a * b) b rfl rfl, rowMajor_val2 _ b rfl]
  have : z.val = 0 := by omega
  show _ = z.val * _ + _ + _
  rw [this, Nat.zero_mul, Nat.zero_add]; rfl

/-! ## What a copy moves -/

/-- Two indices of a matrix with equal coordinates. -/
theorem ext2 {d : Fin 2 → ℕ} {α : Type} (f : (⟨2, d⟩ : Shape).Idx → α) (i j : (⟨2, d⟩ : Shape).Idx)
    (h0 : (i 0).val = (j 0).val) (h1 : (i 1).val = (j 1).val) : f i = f j :=
  congrArg f (funext fun a => Fin.ext (match a with | ⟨0, _⟩ => h0 | ⟨1, _⟩ => h1))

/-- What a copy of row block `r` leaves in staging slot `s`. -/
theorem x_lands (c : Dev nD) (s : Fin 2) (r : Fin 4) (off inb off0 inb0) (h : off = ![s.val, 0, 0]) (h0 : off0 = ![256 * r.val, 0]) :
    (xaM off0 inb0).view.read (Elt F) (xA m c) = (xsM off inb).view.read (Elt F) (XS m c r) := by
  subst h h0
  funext j
  obtain ⟨p, q, rfl⟩ : ∃ (p : Fin 256) (q : Fin 4096), j = ix2 p q := ⟨_, _, eq_ix2 (n0 := 256) (n1 := 4096) j⟩
  show xA m c ((Rect.unit (s := S1024x4096) ![256 * r.val, 0] S256x4096.size inb0).emb (ix2 p q))
    = XS m c r ((Rect.unit (s := S2x256x4096) ![s.val, 0, 0] S1x256x4096.size inb).emb (Shape.reshapeEquiv (s := S1x256x4096) _ (ix2 p q)))
  rw [drop1]
  refine ext2 (xA m c) _ _ ?_ ?_
  · show 256 * r.val + 1 * p.val = 256 * r.val + (0 + 1 * p.val); omega
  · show 0 + 1 * q.val = 0 + 1 * q.val; rfl

/-- What a copy of device `d`'s strip of weights leaves in staging slot `s`. -/
theorem w_lands (c d : Dev nD) (s : Fin 2) (off inb off0 inb0) (h : off = ![s.val, 0, 0]) (h0 : off0 = ![0, 512 * d.val]) :
    (waM off0 inb0).view.read (Elt F) (wA m c) = (wsM off inb).view.read (Elt F) (WS m c d) := by
  subst h h0
  funext j
  obtain ⟨p, q, rfl⟩ : ∃ (p : Fin 4096) (q : Fin 512), j = ix2 p q := ⟨_, _, eq_ix2 (n0 := 4096) (n1 := 512) j⟩
  show wA m c ((Rect.unit (s := S4096x2048) ![0, 512 * d.val] S4096x512.size inb0).emb (ix2 p q))
    = WS m c d ((Rect.unit (s := S2x4096x512) ![s.val, 0, 0] S1x4096x512.size inb).emb (Shape.reshapeEquiv (s := S1x4096x512) _ (ix2 p q)))
  rw [drop1]
  refine ext2 (wA m c) _ _ ?_ ?_
  · show 0 + 1 * p.val = 0 + 1 * p.val; rfl
  · show 512 * d.val + 1 * q.val = 512 * d.val + (0 + 1 * q.val); omega

/-- What a copy of half a strip of weights leaves in that half of staging slot `s`. -/
theorem wh_lands (c d : Dev nD) (s h : Fin 2) (off inb off0 inb0) (ho : off = ![s.val, 0, 256 * h.val]) (h0 : off0 = ![0, 512 * d.val + 256 * h.val]) :
    (waHM off0 inb0).view.read (Elt F) (wA m c) = (whM off inb).view.read (Elt F) (WS m c d) := by
  subst ho h0
  funext j
  obtain ⟨p, q, rfl⟩ : ∃ (p : Fin 4096) (q : Fin 256), j = ix2 p q := ⟨_, _, eq_ix2 (n0 := 4096) (n1 := 256) j⟩
  show wA m c ((Rect.unit (s := S4096x2048) ![0, 512 * d.val + 256 * h.val] S4096x256.size inb0).emb (ix2 p q))
    = WS m c d ((Rect.unit (s := S2x4096x512) ![s.val, 0, 256 * h.val] S1x4096x256.size inb).emb (Shape.reshapeEquiv (s := S1x4096x256) _ (ix2 p q)))
  rw [drop1]
  refine ext2 (wA m c) _ _ ?_ ?_
  · show 0 + 1 * p.val = 0 + 1 * p.val; rfl
  · show 512 * d.val + 256 * h.val + 1 * q.val = 512 * d.val + (256 * h.val + 1 * q.val); omega

/-- The send buffer and the receive buffer at a position of a slot. -/
theorem send_at (c : Dev nD) (i : S4x4x256x512.Idx) (a r : Fin 4) (p : Fin 256) (q : Fin 512)
    (h0 : (i 0).val = a.val) (h1 : (i 1).val = r.val) (h2 : (i 2).val = p.val) (h3 : (i 3).val = q.val) :
    SEND m c i = blk m c a r (ix4 0 0 p q) := by
  have e : i = ix4 a r p q := funext fun x => Fin.ext (match x with | ⟨0, _⟩ => h0 | ⟨1, _⟩ => h1 | ⟨2, _⟩ => h2 | ⟨3, _⟩ => h3)
  rw [e]; rfl
/-- An element of the receive buffer, as an element of the block that its sender made. -/
theorem recv_at (c s : Dev nD) (i : S4x4x256x512.Idx) (r : Fin 4) (p : Fin 256) (q : Fin 512)
    (h0 : (i 0).val = s.val) (h1 : (i 1).val = r.val) (h2 : (i 2).val = p.val) (h3 : (i 3).val = q.val) :
    RECV m c i = blk m s (strip s c) r (ix4 0 0 p q) := by
  have e : i = ix4 s r p q := funext fun x => Fin.ext (match x with | ⟨0, _⟩ => h0 | ⟨1, _⟩ => h1 | ⟨2, _⟩ => h2 | ⟨3, _⟩ => h3)
  rw [e]; rfl

/-- The strip that `c`'s `j`-th target gets from `c` is the `j`-th. -/
theorem strip_tgt (j : Fin 4) (c : Dev nD) : strip c (tgt j c) = j := by revert j c; decide

/-- Block `r` of strip `j`, sent by `c`, is what the receive buffer of the device it goes to is meant to hold there. -/
theorem blk_lands (c : Dev nD) (j r : Fin 4) (off inb off' inb') (h : off = ![j.val, r.val, 0, 0]) (h' : off' = ![c.val, r.val, 0, 0]) :
    (sdM off inb).view.read (Elt F) (SEND m c) = (rcM off' inb').view.read (Elt F) (RECV m (tgt j c)) := by
  subst h h'
  funext y
  obtain ⟨p, q, rfl⟩ : ∃ (p : Fin 256) (q : Fin 512), y = ix2 p q := ⟨_, _, eq_ix2 (n0 := 256) (n1 := 512) y⟩
  show SEND m c ((Rect.unit (s := S4x4x256x512) ![j.val, r.val, 0, 0] S1x1x256x512.size inb).emb (Shape.reshapeEquiv (s := S1x1x256x512) _ (ix2 p q)))
    = RECV m (tgt j c) ((Rect.unit (s := S4x4x256x512) ![c.val, r.val, 0, 0] S1x1x256x512.size inb').emb (Shape.reshapeEquiv (s := S1x1x256x512) _ (ix2 p q)))
  rw [drop2, send_at m c _ j r p q (Nat.add_zero _) (Nat.add_zero _) (by show 0 + 1 * p.val = _; omega) (by show 0 + 1 * q.val = _; omega),
    recv_at m _ c _ r p q (Nat.add_zero _) (Nat.add_zero _) (by show 0 + 1 * p.val = _; omega) (by show 0 + 1 * q.val = _; omega), strip_tgt]

/-- What copying a block of rows of the stage leaves in the result. -/
theorem out_lands (c : Dev nD) (off inb inb') :
    (ogM off inb).view.read (Elt F) (OUT m c) = (orM off inb').view.read (Elt F) (OUT m c) := rfl
/-- What copying half the columns of the own rows leaves in the result. -/
theorem outH_lands (c : Dev nD) (off inb inb') :
    (ogHM off inb).view.read (Elt F) (OUT m c) = (orHM off inb').view.read (Elt F) (OUT m c) := rfl

end Cert.GemmRing
-- ==== Proof.Loads.lean ====
/- What a load of a named part sees and what a store of a named part has to write, and that the kernel's arithmetic
   on the parts it loads gives the parts it stores. -/
module

public import proofs.«01_k».proof.Proof.Reads
public import Idealize.ShloMosaic.Lib.Pointwise

@[expose] public section

set_option maxRecDepth 16384

noncomputable section

namespace Cert.GemmRing

open Cert.KernelIdeal Cert.KernelIdeal.Gen
open Idealize.ShloMosaic Idealize.ShloMosaic.TcCoe

variable {F : FTy → Type} [FloatOps F]
variable (m : (ℓ : Loc nD τ sig) → Buf (Elt F) ℓ)

/-! ## Loads -/

/-- The strip that `c` gets from its `j`-th source is that source's `j`-th. -/
theorem strip_frm (j : Fin 4) (c : Dev nD) : strip (frm j c) c = j := by revert j c; decide

/-- Two indices of a rank-three array with equal coordinates. -/
theorem ext3 {d : Fin 3 → ℕ} {α : Type} (f : (⟨3, d⟩ : Shape).Idx → α) (i j : (⟨3, d⟩ : Shape).Idx)
    (h0 : (i 0).val = (j 0).val) (h1 : (i 1).val = (j 1).val) (h2 : (i 2).val = (j 2).val) : f i = f j :=
  congrArg f (funext fun a => Fin.ext (match a with | ⟨0, _⟩ => h0 | ⟨1, _⟩ => h1 | ⟨2, _⟩ => h2))

/-- What a load of a staged row block sees. -/
theorem xs_load (c : Dev nD) (s : Fin 2) (r : Fin 4) (off inb) (h : off = ![s.val, 0, 0]) :
    ((Memref.whole cc0_scratch2).access (Rect.unit (s := S2x256x4096) off S1x256x4096.size inb)).read (Elt F) (XS m c r) = xsv m c r := by
  subst h
  funext j
  show xA m c _ = xA m c _
  refine ext2 (xA m c) _ _ ?_ ?_
  · show 256 * r.val + (0 + 1 * (j 1).val) = 256 * r.val + (j 1).val; omega
  · show 0 + 1 * (j 2).val = (j 2).val; omega

/-- What a load of a block of narrowed rows sees. -/
theorem xb_load (c : Dev nD) (r : Fin 4) (off inb) (h : off = ![256 * r.val, 0]) :
    ((Memref.whole cc0_scratch0).access (Rect.unit (s := S1024x4096) off S256x4096.size inb)).read (Elt F) (XB m c) = xv m c r := by
  subst h
  funext j
  refine ext2 (XB m c) _ _ ?_ ?_
  · show 256 * r.val + 1 * (j 0).val = 256 * r.val + (j 0).val; omega
  · show 0 + 1 * (j 1).val = (j 1).val; omega

/-- What a load of all the narrowed rows sees. -/
theorem xb_load_all (c : Dev nD) (inb) :
    ((Memref.whole cc0_scratch0).access (Rect.unit (s := S1024x4096) ![0, 0] S1024x4096.size inb)).read (Elt F) (XB m c) = XB m c := by
  funext j
  refine ext2 (XB m c) _ _ ?_ ?_
  · show 0 + 1 * (j 0).val = (j 0).val; omega
  · show 0 + 1 * (j 1).val = (j 1).val; omega

/-- The staged weights are alike in both slots. -/
theorem WS_at (c d : Dev nD) (i j : S2x4096x512.Idx) (h1 : (i 1).val = (j 1).val) (h2 : (i 2).val = (j 2).val) : WS m c d i = WS m c d j :=
  ext2 (wA m c) _ _ h1 (congrArg (512 * d.val + ·) h2)
/-- The narrowed weights are alike in both slots. -/
theorem WB_at (c d : Dev nD) (i j : S2x4096x512.Idx) (h1 : (i 1).val = (j 1).val) (h2 : (i 2).val = (j 2).val) : WB m c d i = WB m c d j := by
  unfold WB truncf
  rw [WS_at m c d i j h1 h2]

/-- What a load of a staged strip of weights sees. -/
theorem ws_load (c d : Dev nD) (s : Fin 2) (off inb) (h : off = ![s.val, 0, 0]) :
    ((Memref.whole cc0_scratch3).access (Rect.unit (s := S2x4096x512) off S1x4096x512.size inb)).read (Elt F) (WS m c d) = wsv m c d := by
  subst h
  funext j
  refine WS_at m c d _ _ ?_ ?_
  · show 0 + 1 * (j 1).val = (j 1).val; omega
  · show 0 + 1 * (j 2).val = (j 2).val; omega

/-- What a load of a narrowed strip sees. -/
theorem wb_load (c d : Dev nD) (s : Fin 2) (off inb) (h : off = ![s.val, 0, 0]) :
    ((Memref.whole cc0_scratch1).access (Rect.unit (s := S2x4096x512) off S1x4096x512.size inb)).read (Elt F) (WB m c d) = wv m c d := by
  subst h
  funext j
  refine WB_at m c d _ _ ?_ ?_
  · show 0 + 1 * (j 1).val = (j 1).val; omega
  · show 0 + 1 * (j 2).val = (j 2).val; omega

/-- What a load of half a narrowed strip sees. -/
theorem wbh_load (c d : Dev nD) (s h : Fin 2) (off inb) (ho : off = ![s.val, 0, 256 * h.val]) :
    ((Memref.whole cc0_scratch1).access (Rect.unit (s := S2x4096x512) off S1x4096x256.size inb)).read (Elt F) (WB m c d) = wvh m c d h := by
  subst ho
  funext j
  refine WB_at m c d _ _ ?_ ?_
  · show 0 + 1 * (j 1).val = (j 1).val; omega
  · show 256 * h.val + 1 * (j 2).val = 256 * h.val + (j 2).val; omega

/-- What a load of a whole slot sees when only the first half of the columns is known. -/
theorem ws_part (c d : Dev nD) (s : Fin 2) (off inb) (h : off = ![s.val, 0, 0]) (f : FVec F S2x4096x512 .f32)
    (hf : ∀ i ∈ wHalf s 0, f i = WS m c d i) (j : S1x4096x512.Idx) (hj : (j 2).val < 256) :
    ((Memref.whole cc0_scratch3).access (Rect.unit (s := S2x4096x512) off S1x4096x512.size inb)).read (Elt F) f j = wsv m c d j := by
  rw [← ws_load m c d s off inb h]
  subst h
  refine hf _ (Finset.mem_filter.2 ⟨Finset.mem_univ _, ?_, ?_⟩)
  · have : (j 0).val < 1 := (j 0).isLt
    show s.val + 1 * (j 0).val = s.val; omega
  · show (0 + 1 * (j 2).val) / 256 = 0; omega
/-- What a load of a narrowed slot sees when only its first half of the columns is known. -/
theorem wb_part (c d : Dev nD) (s : Fin 2) (off inb) (h : off = ![s.val, 0, 0]) (f : FVec F S2x4096x512 .bf16)
    (hf : ∀ i ∈ wHalf s 0, f i = WB m c d i) (j : S1x4096x512.Idx) (hj : (j 2).val < 256) :
    ((Memref.whole cc0_scratch1).access (Rect.unit (s := S2x4096x512) off S1x4096x512.size inb)).read (Elt F) f j = wv m c d j := by
  rw [← wb_load m c d s off inb h]
  subst h
  refine hf _ (Finset.mem_filter.2 ⟨Finset.mem_univ _, ?_, ?_⟩)
  · have : (j 0).val < 1 := (j 0).isLt
    show s.val + 1 * (j 0).val = s.val; omega
  · show (0 + 1 * (j 2).val) / 256 = 0; omega

/-- What a copy from a send slot takes along. -/
theorem sd_read (c : Dev nD) (j r : Fin 4) (off inb) (h : off = ![j.val, r.val, 0, 0]) :
    ((Memref.whole cc0_scratch6).access (Rect.unit (s := S4x4x256x512) off S1x1x256x512.size inb)).read (Elt F) (SEND m c) = blk m c j r := by
  subst h
  funext y
  have e : y = ix4 0 0 (y 2) (y 3) := funext fun x => Fin.ext (match x with
    | ⟨0, _⟩ => (by have : (y 0).val < 1 := (y 0).isLt; show (y 0).val = 0; omega) | ⟨1, _⟩ => (by have : (y 1).val < 1 := (y 1).isLt; show (y 1).val = 0; omega)
    | ⟨2, _⟩ => rfl | ⟨3, _⟩ => rfl)
  have z0 : (y 0).val < 1 := (y 0).isLt
  have z1 : (y 1).val < 1 := (y 1).isLt
  refine (send_at m c _ j r (y 2) (y 3) ?_ ?_ ?_ ?_).trans (congrArg (blk m c j r) e.symm)
  · show j.val + 1 * (y 0).val = j.val; omega
  · show r.val + 1 * (y 1).val = r.val; omega
  · show 0 + 1 * (y 2).val = (y 2).val; omega
  · show 0 + 1 * (y 3).val = (y 3).val; omega

/-- What a load of a receive slot sees. -/
theorem rc_read (c : Dev nD) (j r : Fin 4) (off inb) (h : off = ![(frm j c).val, r.val, 0, 0]) :
    ((Memref.whole cc0_scratch7).access (Rect.unit (s := S4x4x256x512) off S1x1x256x512.size inb)).read (Elt F) (RECV m c) = blk m (frm j c) j r := by
  subst h
  funext y
  have e : y = ix4 0 0 (y 2) (y 3) := funext fun x => Fin.ext (match x with
    | ⟨0, _⟩ => (by have : (y 0).val < 1 := (y 0).isLt; show (y 0).val = 0; omega) | ⟨1, _⟩ => (by have : (y 1).val < 1 := (y 1).isLt; show (y 1).val = 0; omega)
    | ⟨2, _⟩ => rfl | ⟨3, _⟩ => rfl)
  have z0 : (y 0).val < 1 := (y 0).isLt
  have z1 : (y 1).val < 1 := (y 1).isLt
  have hs : strip (frm j c) c = j := strip_frm j c
  refine (recv_at m c (frm j c) _ r (y 2) (y 3) ?_ ?_ ?_ ?_).trans ((congrArg (blk m (frm j c) · r _) hs).trans (congrArg (blk m (frm j c) j r) e.symm))
  · show (frm j c).val + 1 * (y 0).val = (frm j c).val; omega
  · show r.val + 1 * (y 1).val = r.val; omega
  · show 0 + 1 * (y 2).val = (y 2).val; omega
  · show 0 + 1 * (y 3).val = (y 3).val; omega

/-- The result at a position of its own rows and at a position of another device's. -/
theorem out_own_at (c : Dev nD) (i : S4096x512.Idx) (h : Fin 2) (p : Fin 1024) (q : Fin 256)
    (h0 : (i 0).val = 1024 * c.val + p.val) (h1 : (i 1).val = 256 * h.val + q.val) : OUT m c i = own m c h (ix2 p q) := by
  have hd : (i 0).val / 1024 = c.val := by have := p.isLt; omega
  unfold OUT
  rw [if_pos hd]
  have eh : (⟨(i 1).val / 256, by have : (i 1).val < 512 := (i 1).isLt; omega⟩ : Fin 2) = h := Fin.ext (by have := q.isLt; show (i 1).val / 256 = _; omega)
  rw [eh]
  refine ext2 (own m c h) _ _ ?_ ?_
  · show (i 0).val % 1024 = p.val; have := p.isLt; omega
  · show (i 1).val % 256 = q.val; have := q.isLt; omega

/-- An element of the result in another device's rows is that device's block, widened. -/
theorem out_other_at (c : Dev nD) (i : S4096x512.Idx) (s : Dev nD) (hs : s ≠ c) (r : Fin 4) (p : Fin 256) (q : Fin 512)
    (h0 : (i 0).val = 1024 * s.val + (256 * r.val + p.val)) (h1 : (i 1).val = q.val) :
    OUT m c i = k0_pay34 (blk m s (strip s c) r) (ix2 p q) := by
  have hp := p.isLt
  have hr := r.isLt
  have hd : (i 0).val / 1024 = s.val := by omega
  unfold OUT
  rw [if_neg (by rw [hd]; exact fun h => hs (Fin.ext h))]
  have es : (⟨(i 0).val / 1024, by have : (i 0).val < 4096 := (i 0).isLt; show _ < 4; omega⟩ : Dev nD) = s := Fin.ext hd
  have er : (⟨(i 0).val % 1024 / 256, by omega⟩ : Fin 4) = r := Fin.ext (by show (i 0).val % 1024 / 256 = r.val; omega)
  rw [es, er]
  refine ext2 (k0_pay34 (blk m s (strip s c) r)) _ _ ?_ ?_
  · show (i 0).val % 256 = p.val; omega
  · exact h1

/-- What the stage holds at a received block. -/
theorem og_read (c : Dev nD) (j r : Fin 4) (hj : j ≠ 3) (off inb) (h : off = ![1024 * (frm j c).val + 256 * r.val, 0]) :
    ((Memref.whole cc0_scratch10).access (Rect.unit (s := S4096x512) off S256x512.size inb)).read (Elt F) (OUT m c) = k0_pay34 (blk m (frm j c) j r) := by
  subst h
  funext y
  have hs : strip (frm j c) c = j := strip_frm j c
  refine (out_other_at m c _ (frm j c) (frm_ne hj c) r (y 0) (y 1) ?_ ?_).trans
    ((congrArg (fun a => k0_pay34 (blk m (frm j c) a r) _) hs).trans (congrArg (k0_pay34 (blk m (frm j c) j r)) (eq_ix2 (n0 := 256) (n1 := 512) y).symm))
  · show 1024 * (frm j c).val + 256 * r.val + 1 * (y 0).val = _; omega
  · show 0 + 1 * (y 1).val = (y 1).val; omega

/-- What the stage holds at half the own strip. -/
theorem ogH_read (c : Dev nD) (h : Fin 2) (off inb) (ho : off = ![1024 * c.val, 256 * h.val]) :
    ((Memref.whole cc0_scratch10).access (Rect.unit (s := S4096x512) off S1024x256.size inb)).read (Elt F) (OUT m c) = own m c h := by
  subst ho
  funext y
  refine (out_own_at m c _ h (y 0) (y 1) ?_ ?_).trans (congrArg (own m c h) (eq_ix2 (n0 := 1024) (n1 := 256) y).symm)
  · show 1024 * c.val + 1 * (y 0).val = _; omega
  · show 256 * h.val + 1 * (y 1).val = _; omega

/-! ## The arithmetic -/

/-- Narrowing a staged row block gives the narrowed one. -/
theorem pay2_eq (c : Dev nD) (r : Fin 4) : k0_pay2 (xsv m c r) = xv m c r := by
  funext j
  obtain ⟨p, q, rfl⟩ : ∃ (p : Fin 256) (q : Fin 4096), j = ix2 p q := ⟨_, _, eq_ix2 (n0 := 256) (n1 := 4096) j⟩
  pointwise [k0_pay2, xv, XB, xsv]
/-- Narrowing a staged strip gives the narrowed one. -/
theorem pay17_eq (c d : Dev nD) : k0_pay17 (wsv m c d) = wv m c d := by
  funext j
  idx_vars j
  pointwise [k0_pay17, wv, WB, wsv]
/-- Narrowing the first half of a slot needs that half alone. -/
theorem pay1_eq (c d : Dev nD) (v : FVec F S1x4096x512 .f32) (hv : ∀ j, (j 2).val < 256 → v j = wsv m c d j) :
    k0_pay1 v = wvh m c d 0 := by
  funext j
  idx_vars j
  pointwise [k0_pay1, wvh, WB]
  rw [hv (ix3 0 j1 ⟨j2.val, by omega⟩) (show j2.val < 256 from j2.isLt)]
  refine congrArg (FloatOps.truncf FTy.bf16 bitsLt_bf16_f32) (WS_at m c d _ _ rfl rfl)
/-- Narrowing the second half of a slot. -/
theorem pay5_eq (c d : Dev nD) : k0_pay5 (wsv m c d) = wvh m c d 1 := by
  funext j
  idx_vars j
  pointwise [k0_pay5, wvh, WB, wsv]
/-- The own strip's left product needs the first half of the weights alone. -/
theorem pay28_eq (c d : Dev nD) (v : FVec F S1x4096x512 .bf16) (hv : ∀ j, (j 2).val < 256 → v j = wv m c d j) (x) :
    k0_pay28 x v = k0_pay28 x (wv m c d) := by
  unfold k0_pay28
  refine congrArg (fun y => matmul _ none x y _) ?_
  funext j
  idx_vars j
  pointwise
  exact hv (ix3 0 j0 ⟨j1.val, by omega⟩) (show j1.val < 256 from j1.isLt)
/-- Of the two that go on from it, likewise. -/
theorem pay29_eq (c d : Dev nD) (v : FVec F S1x4096x512 .bf16) (hv : ∀ j, (j 2).val < 256 → v j = wv m c d j) (x) :
    k0_pay29 x v = k0_pay29 x (wv m c d) := by
  unfold k0_pay29; rw [pay28_eq m c d v hv]
/-- And the other of the two. -/
theorem pay30_eq (c d : Dev nD) (v : FVec F S1x4096x512 .bf16) (hv : ∀ j, (j 2).val < 256 → v j = wv m c d j) (x) :
    k0_pay30 x v = k0_pay30 x (wv m c d) := by
  unfold k0_pay30; rw [pay28_eq m c d v hv]

/-! The same arithmetic is written out again at each place it is used. -/

/-- This payload is the same function as payload 2. -/
theorem pay9_eq (v : FVec F S1x256x4096 .f32) : k0_pay9 v = k0_pay2 v := rfl
/-- This payload is the same function as payload 2. -/
theorem pay11_eq (v : FVec F S1x256x4096 .f32) : k0_pay11 v = k0_pay2 v := rfl
/-- This payload is the same function as payload 17. -/
theorem pay15_eq (v : FVec F S1x256x4096 .f32) : k0_pay15 v = k0_pay2 v := rfl
/-- This payload is the same function as payload 1. -/
theorem pay22_eq (v : FVec F S1x4096x512 .f32) : k0_pay22 v = k0_pay17 v := rfl
/-- This payload is the same function as payload 5. -/
theorem pay27_eq (v : FVec F S1x4096x512 .f32) : k0_pay27 v = k0_pay1 v := rfl
/-- This payload is the same function as payload 5. -/
theorem pay32_eq (v : FVec F S1x4096x512 .f32) : k0_pay32 v = k0_pay5 v := rfl
/-- This payload is the same function as payload 10. -/
theorem pay14_eq (x : FVec F S256x4096 .bf16) (w : FVec F S1x4096x512 .bf16) :
    k0_pay14 (k0_pay12 x w) (k0_pay13 x w) (Scalar.ofBits .f32 0x3D372713#32) = k0_pay10 x w := rfl
/-- This payload is the same function as payload 10. -/
theorem pay16_eq (x : FVec F S256x4096 .bf16) (w : FVec F S1x4096x512 .bf16) : k0_pay16 x w = k0_pay10 x w := rfl
/-- This payload is the same function as payload 10. -/
theorem pay18_eq (x : FVec F S256x4096 .bf16) (w : FVec F S1x4096x512 .bf16) : k0_pay18 x w = k0_pay10 x w := rfl
/-- This payload is the same function as payload 10. -/
theorem pay19_eq (x : FVec F S256x4096 .bf16) (w : FVec F S1x4096x512 .bf16) : k0_pay19 x w = k0_pay10 x w := rfl
/-- This payload is the same function as payload 10. -/
theorem pay20_eq (x : FVec F S256x4096 .bf16) (w : FVec F S1x4096x512 .bf16) : k0_pay20 x w = k0_pay10 x w := rfl
/-- This payload is the same function as payload 10. -/
theorem pay21_eq (x : FVec F S256x4096 .bf16) (w : FVec F S1x4096x512 .bf16) : k0_pay21 x w = k0_pay10 x w := rfl
/-- This payload is the same function as payload 10. -/
theorem pay23_eq (x : FVec F S256x4096 .bf16) (w : FVec F S1x4096x512 .bf16) : k0_pay23 x w = k0_pay10 x w := rfl
/-- This payload is the same function as payload 10. -/
theorem pay24_eq (x : FVec F S256x4096 .bf16) (w : FVec F S1x4096x512 .bf16) : k0_pay24 x w = k0_pay10 x w := rfl
/-- This payload is the same function as payload 10. -/
theorem pay25_eq (x : FVec F S256x4096 .bf16) (w : FVec F S1x4096x512 .bf16) : k0_pay25 x w = k0_pay10 x w := rfl
/-- This payload is the same function as payload 34. -/
theorem pay26_eq (x : FVec F S256x4096 .bf16) (w : FVec F S1x4096x512 .bf16) : k0_pay26 x w = k0_pay10 x w := rfl
/-- This payload is the same function as payload 34. -/
theorem pay35_eq (v : FVec F S1x1x256x512 .bf16) : k0_pay35 v = k0_pay34 v := rfl
/-- This payload is the same function as payload 34. -/
theorem pay36_eq (v : FVec F S1x1x256x512 .bf16) : k0_pay36 v = k0_pay34 v := rfl
/-- This payload is the same function as payload 34. -/
theorem pay37_eq (v : FVec F S1x1x256x512 .bf16) : k0_pay37 v = k0_pay34 v := rfl
/-- This payload is the same function as payload 34. -/
theorem pay38_eq (v : FVec F S1x1x256x512 .bf16) : k0_pay38 v = k0_pay34 v := rfl
/-- This payload is the same function as payload 34. -/
theorem pay39_eq (v : FVec F S1x1x256x512 .bf16) : k0_pay39 v = k0_pay34 v := rfl
/-- This payload is the same function as payload 34. -/
theorem pay41_eq (v : FVec F S1x1x256x512 .bf16) : k0_pay41 (k0_pay40 v) = k0_pay34 v := rfl
/-- This payload is the same function as payload 34. -/
theorem pay42_eq (v : FVec F S1x1x256x512 .bf16) : k0_pay42 v = k0_pay34 v := rfl
/-- This payload is the same function as payload 34. -/
theorem pay44_eq (v : FVec F S1x1x256x512 .bf16) : k0_pay44 (k0_pay43 v) = k0_pay34 v := rfl
/-- This payload is the same function as payload 34. -/
theorem pay45_eq (v : FVec F S1x1x256x512 .bf16) : k0_pay45 v = k0_pay34 v := rfl
/-- This payload is the same function as payload 34. -/
theorem pay46_eq (v : FVec F S1x1x256x512 .bf16) : k0_pay46 v = k0_pay34 v := rfl
/-- This payload is the same function as payload 34. -/
theorem pay47_eq (v : FVec F S1x1x256x512 .bf16) : k0_pay47 v = k0_pay34 v := rfl

/-- A block of any other place than the first. -/
theorem blk_eq (c : Dev nD) {j r : Fin 4} (h : ¬ (j = 0 ∧ r = 0)) : blk m c j r = k0_pay10 (xv m c r) (wv m c (tgt j c)) := if_neg h
/-- The first block, made in two halves. -/
theorem blk_first (c : Dev nD) : blk m c 0 0 =
    k0_pay8 (k0_pay4 (k0_pay3 (xv m c 0) (wvh m c (tgt 0 c) 0))) (k0_pay6 (xv m c 0) (wvh m c (tgt 0 c) 1)) (k0_pay7 (xv m c 0) (wvh m c (tgt 0 c) 1)) :=
  if_pos ⟨rfl, rfl⟩

end Cert.GemmRing
-- ==== Proof.Protocol.lean ====
/- The protocol between the four devices.

   Semaphores shared between devices, all waited on by their own device:

   * the barrier: before anything is sent, device `c` is signalled once by each of its three peers and waits for the
     three together. The peer `tgt j c` (signal number `j`) hands over, with its signal, its own receive slots for what
     `c` will send it: row `c`, all four blocks, at whatever they hold.
   * the send semaphore of block `r` of strip `j`: raised once, by the credit of the block, when the copy has left; it
     hands back the slot of the send buffer, holding the block.
   * the receive semaphore of row `s`, block `r`: raised once, by the credit of the block, when the copy from device `s`
     has landed; it hands over the receive slot holding that device's block for `c`.

   Each device waits on its barrier first, then — after sending everything — on its receive semaphores, strip by strip,
   and last on its send semaphores. The remaining semaphores are for a device's own copies only and need no protocol:
   whoever starts such a copy waits for it. -/
module

public import proofs.«01_k».proof.Proof.Loads

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The ghost state: the launch's own, the protocol's, and counters for a device's own copies -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The shared semaphores -/

abbrev barC (c : Dev nD) : GSem nD τ sig := ((c : Thread nD τ), .reg barS)
abbrev sndC (c : Dev nD) (j r : Fin 4) : GSem nD τ sig := ((c : Thread nD τ), .dma (sQ j r))
abbrev rcvC (c : Dev nD) (s r : Fin 4) : GSem nD τ sig := ((c : Thread nD τ), .dma (rQ s r))

/-- What a semaphore is for. -/
inductive Role where
  | bar
  | snd (j r : Fin 4)
  | rcv (s r : Fin 4)
  | loc

set_option backward.proofsInPublic true in
/-- The use of each semaphore. -/
def role : SemLoc sig → Role
  | .reg _ => .bar
  | .dma q => if 6 ≤ q.val ∧ q.val < 22 then .snd ⟨(q.val - 6) / 4 % 4, Nat.mod_lt _ (by decide)⟩ ⟨(q.val - 6) % 4, Nat.mod_lt _ (by decide)⟩
      else if 22 ≤ q.val ∧ q.val < 38 then .rcv ⟨(q.val - 22) / 4 % 4, Nat.mod_lt _ (by decide)⟩ ⟨(q.val - 22) % 4, Nat.mod_lt _ (by decide)⟩
      else .loc

/-- The regular semaphore is the barrier. -/
theorem role_bar (b : Sem sig) : role (.reg b) = .bar := rfl
/-- The role of a send semaphore. -/
theorem role_snd (j r : Fin 4) : role (.dma (sQ j r)) = .snd j r := by
  have h : ∀ j r : Fin 4, role (.dma (sQ j r)) = .snd j r := by
    intro j r; fin_cases j <;> fin_cases r <;> rfl
  exact h j r
/-- The role of a receive semaphore. -/
theorem role_rcv (s r : Fin 4) : role (.dma (rQ s r)) = .rcv s r := by
  have h : ∀ j r : Fin 4, role (.dma (rQ j r)) = .rcv j r := by
    intro j r; fin_cases j <;> fin_cases r <;> rfl
  exact h s r

/-! ## The parts of the buffers, as assertions -/

abbrev xsPts (c : Dev nD) (s : Fin 2) (f : Buf (Elt F) ((c : Thread nD τ).loc cc0_scratch2)) : sProp 𝕄 := ((c : Thread nD τ).loc cc0_scratch2) ↦[xsSet s]{fullShare} f
abbrev wsPts (c : Dev nD) (s : Fin 2) (f : Buf (Elt F) ((c : Thread nD τ).loc cc0_scratch3)) : sProp 𝕄 := ((c : Thread nD τ).loc cc0_scratch3) ↦[wSet s]{fullShare} f
abbrev whPts (c : Dev nD) (s h : Fin 2) (f : Buf (Elt F) ((c : Thread nD τ).loc cc0_scratch3)) : sProp 𝕄 := ((c : Thread nD τ).loc cc0_scratch3) ↦[wHalf s h]{fullShare} f
abbrev wbPts (c : Dev nD) (s : Fin 2) (f : Buf (Elt F) ((c : Thread nD τ).loc cc0_scratch1)) : sProp 𝕄 := ((c : Thread nD τ).loc cc0_scratch1) ↦[wSet s]{fullShare} f
abbrev xbPts (c : Dev nD) (f : Buf (Elt F) ((c : Thread nD τ).loc cc0_scratch0)) : sProp 𝕄 := ((c : Thread nD τ).loc cc0_scratch0) ↦{fullShare} f
abbrev sdPts (c : Dev nD) (j r : Fin 4) (f : Buf (Elt F) ((c : Thread nD τ).loc cc0_scratch6)) : sProp 𝕄 := ((c : Thread nD τ).loc cc0_scratch6) ↦[slot j r]{fullShare} f
abbrev rcPts (c : Dev nD) (s r : Fin 4) (f : Buf (Elt F) ((c : Thread nD τ).loc cc0_scratch7)) : sProp 𝕄 := ((c : Thread nD τ).loc cc0_scratch7) ↦[slot s r]{fullShare} f
abbrev ogPts (c : Dev nD) (j r : Fin 4) (f : Buf (Elt F) ((c : Thread nD τ).loc cc0_scratch10)) : sProp 𝕄 := ((c : Thread nD τ).loc cc0_scratch10) ↦[outSet c j r]{fullShare} f
abbrev orPts (c : Dev nD) (j r : Fin 4) (f : Buf (Elt F) ((c : Thread nD τ).loc main_v1)) : sProp 𝕄 := ((c : Thread nD τ).loc main_v1) ↦[outSet c j r]{fullShare} f

/-- A receive slot at whatever it holds. -/
def RecvSlot (c : Dev nD) (s r : Fin 4) : sProp 𝕄 := iprop(∃ f, rcPts c s r f)

instance recvSlot_storable (c : Dev nD) (s r : Fin 4) : BI.Storable (upEmb : UEmb _ 𝕄) (RecvSlot (F := F) c s r) := by
  unfold RecvSlot; infer_instance

/-! ## The schedule -/

/-- The credit of one block's copy. -/
abbrev NB : ℕ := (rcM ![0, 0, 0, 0] inb_S4x4x256x512_S1x1x256x512_0_0_0_0).view.dmaCredit
/-- A block's copy brings a positive count. -/
theorem NB_pos : 0 < NB := View.dmaCredit_pos _ (by decide)

def dutiesOf (c : Dev nD) : Role → Finset (Fin 4)
  | .bar => {0, 1, 2}
  | .snd j _ => if j = 3 then ∅ else {0}
  | .rcv s _ => if s = c then ∅ else {0}
  | .loc => ∅

/-- What a barrier signal from device `p` to device `c` hands over. -/
def barPay (p c : Dev nD) : sProp 𝕄 := bigSep Finset.univ fun r : Fin 4 => RecvSlot p c r

def payOf (c : Dev nD) (d : Fin 4) : Role → sProp 𝕄
  | .bar => barPay (tgt d c) c
  | .snd j r => sdPts c j r (SEND m c)
  | .rcv s r => rcPts c s r (RECV m c)
  | .loc => iprop(emp)

def amtOf : Role → ℕ
  | .bar => 1
  | _ => NB

instance payOf_storable (c : Dev nD) (d : Fin 4) (k : Role) : BI.Storable (upEmb : UEmb _ 𝕄) (payOf m c d k) := by
  unfold payOf barPay
  split <;> infer_instance

/-- The protocol: one round. -/
def Rd : Rounds.Schedule (GSem nD τ sig) (Fin 4) 𝕄 where
  duties g r := if r = 0 ∧ g.1.2 = .tc then dutiesOf g.1.1 (role g.2) else ∅
  unitless _ := False
  amount g _ _ := amtOf (role g.2)
  payload g _ d := payOf m g.1.1 d (role g.2)
  amount_pos g _ _ _ := by
    unfold amtOf
    split
    · exact Nat.one_pos
    · exact NB_pos

instance Rd_payload_storable (g : GSem nD τ sig) (r : ℕ) (d : Fin 4) : BI.Storable (upEmb : UEmb _ 𝕄) ((Rd (F := F) m).payload g r d) := by
  show BI.Storable upEmb (payOf m g.1.1 d (role g.2)); infer_instance

section Sched
variable (c : Dev nD)

/-- Three others owe the barrier a signal each. -/
theorem duties_bar : (Rd (F := F) m).duties (barC c) 0 = {0, 1, 2} := by
  show (if (0 : ℕ) = 0 ∧ (c : Thread nD τ).2 = .tc then dutiesOf c .bar else ∅) = _; rw [if_pos ⟨rfl, rfl⟩]; rfl
/-- A send semaphore in use has one duty, its copy's. -/
theorem duties_snd {j : Fin 4} (h : j ≠ 3) (r : Fin 4) : (Rd (F := F) m).duties (sndC c j r) 0 = {0} := by
  show (if (0 : ℕ) = 0 ∧ (c : Thread nD τ).2 = .tc then dutiesOf c (role (.dma (sQ j r))) else ∅) = _; rw [if_pos ⟨rfl, rfl⟩, role_snd]; exact if_neg h
/-- A receive semaphore in use has one duty, its copy's. -/
theorem duties_rcv {s : Fin 4} (h : s ≠ c) (r : Fin 4) : (Rd (F := F) m).duties (rcvC c s r) 0 = {0} := by
  show (if (0 : ℕ) = 0 ∧ (c : Thread nD τ).2 = .tc then dutiesOf c (role (.dma (rQ s r))) else ∅) = _; rw [if_pos ⟨rfl, rfl⟩, role_rcv]; exact if_neg h
/-- The send semaphores of the unused row have no duties. -/
theorem no_duties_snd (r : Fin 4) : ∀ n, 0 ≤ n → (Rd (F := F) m).duties (sndC c 3 r) n = ∅ := fun n _ => by
  show (if n = 0 ∧ (c : Thread nD τ).2 = .tc then dutiesOf c (role (.dma (sQ 3 r))) else ∅) = _; rw [role_snd, show dutiesOf c (.snd 3 r) = ∅ from rfl, ite_self]
/-- The receive semaphores of the device's own row have no duties. -/
theorem no_duties_rcv (r : Fin 4) : ∀ n, 0 ≤ n → (Rd (F := F) m).duties (rcvC c c r) n = ∅ := fun n _ => by
  show (if n = 0 ∧ (c : Thread nD τ).2 = .tc then dutiesOf c (role (.dma (rQ c r))) else ∅) = _; rw [role_rcv, show dutiesOf c (.rcv c r) = ∅ from if_pos rfl, ite_self]
/-- There is nothing after the first round. -/
theorem duties_later (g : GSem nD τ sig) : ∀ r, 0 + 1 ≤ r → (Rd (F := F) m).duties g r = ∅ :=
  fun r hr => if_neg fun h => by omega

/-- A barrier's signal counts one. -/
theorem amount_bar (d : Fin 4) : (Rd (F := F) m).amount (barC c) 0 d = 1 := rfl
/-- A send semaphore gets the count of one block. -/
theorem amount_snd (j r d : Fin 4) : (Rd (F := F) m).amount (sndC c j r) 0 d = NB := by
  show amtOf (role (.dma (sQ j r))) = _; rw [role_snd]; rfl
/-- A receive semaphore gets the count of one block. -/
theorem amount_rcv (s r d : Fin 4) : (Rd (F := F) m).amount (rcvC c s r) 0 d = NB := by
  show amtOf (role (.dma (rQ s r))) = _; rw [role_rcv]; rfl

/-- A barrier's signal hands over the signaller's receive slots. -/
theorem payload_bar (d : Fin 4) : (Rd (F := F) m).payload (barC c) 0 d = barPay (tgt d c) c := rfl
/-- A send semaphore hands the sent block back. -/
theorem payload_snd (j r d : Fin 4) : (Rd (F := F) m).payload (sndC c j r) 0 d = sdPts c j r (SEND m c) := by
  show payOf m c d (role (.dma (sQ j r))) = _; rw [role_snd]; rfl
/-- A receive semaphore hands over the block that landed. -/
theorem payload_rcv (s r d : Fin 4) : (Rd (F := F) m).payload (rcvC c s r) 0 d = rcPts c s r (RECV m c) := by
  show payOf m c d (role (.dma (rQ s r))) = _; rw [role_rcv]; rfl

/-- The barrier expects three. -/
theorem expect_bar : (Rd (F := F) m).expect (barC c) 0 = 3 := by
  unfold Schedule.expect Schedule.amountOf
  rw [duties_bar, Finset.sum_congr rfl fun d _ => amount_bar m c d]; rfl
/-- A send semaphore in use expects one block. -/
theorem expect_snd {j : Fin 4} (h : j ≠ 3) (r : Fin 4) : (Rd (F := F) m).expect (sndC c j r) 0 = NB := by
  unfold Schedule.expect Schedule.amountOf; rw [duties_snd m c h, Finset.sum_singleton, amount_snd]
/-- A receive semaphore in use expects one block. -/
theorem expect_rcv {s : Fin 4} (h : s ≠ c) (r : Fin 4) : (Rd (F := F) m).expect (rcvC c s r) 0 = NB := by
  unfold Schedule.expect Schedule.amountOf; rw [duties_rcv m c h, Finset.sum_singleton, amount_rcv]

/-- What the three signals together hand over. -/
theorem rest_bar : bigSep ((Rd (F := F) m).duties (barC c) 0 \ ∅) (fun d => (Rd (F := F) m).payload (barC c) 0 d)
    = iprop(barPay (tgt 0 c) c ∗ barPay (tgt 1 c) c ∗ barPay (tgt 2 c) c) := by
  rw [Finset.sdiff_empty, duties_bar, bigSep_eq_bigSepL_of_eq [0, 1, 2] (by decide) (by decide), bigSepL_cons_cons, bigSepL_cons_cons, bigSepL_singleton]
  rfl
/-- All that a send semaphore hands over is its block. -/
theorem rest_snd {j : Fin 4} (h : j ≠ 3) (r : Fin 4) : bigSep ((Rd (F := F) m).duties (sndC c j r) 0 \ ∅) (fun d => (Rd (F := F) m).payload (sndC c j r) 0 d)
    = sdPts c j r (SEND m c) := by
  rw [Finset.sdiff_empty, duties_snd m c h, bigSep_singleton, payload_snd]
/-- All that a receive semaphore hands over is its block. -/
theorem rest_rcv {s : Fin 4} (h : s ≠ c) (r : Fin 4) : bigSep ((Rd (F := F) m).duties (rcvC c s r) 0 \ ∅) (fun d => (Rd (F := F) m).payload (rcvC c s r) 0 d)
    = rcPts c s r (RECV m c) := by
  rw [Finset.sdiff_empty, duties_rcv m c h, bigSep_singleton, payload_rcv]

end Sched

/-! ## What a device owes, and the levels that order the waits -/

/-- The blocks in the order they are sent. -/
abbrev sendOrder : List (Fin 4 × Fin 4) :=
  [(0, 0), (0, 1), (0, 2), (0, 3), (1, 0), (1, 1), (1, 2), (1, 3), (2, 0), (2, 1), (2, 2), (2, 3)]

/-- The credit of the blocks in a list, owed to the devices they go to; the first is on the outside. -/
def Ow (c : Dev nD) : List (Fin 4 × Fin 4) → CellTallies nD τ sig Unit
  | [] => 0
  | p :: ps => Ow c ps + tallyAt (rcvC (tgt p.1 c) c p.2) () NB

/-- What a device owes at launch: its blocks and its three signals. -/
def O₀ (c : Dev nD) : CellTallies nD τ sig Unit :=
  Ow c sendOrder + tallyAt (barC (tgt 2 c)) () 1 + tallyAt (barC (tgt 0 c)) () 1 + tallyAt (barC (tgt 1 c)) () 1

def L (g : GSem nD τ sig) : Finset Unit := if g.1.2 = .tc then {()} else ∅
def level : Role → ℕ
  | .bar => 1
  | .rcv _ _ => 2
  | _ => 0
/-- Barriers at 1, receive semaphores at 2, everything else at 0. -/
def lv (g : GSem nD τ sig) (_ : Unit) : ℕ := level (role g.2)

/-- Other cores' semaphores have no levels. -/
theorem L_of_ne (g : GSem nD τ sig) (h : g.1.2 ≠ .tc) : L g = ∅ := if_neg h
/-- Every semaphore of a device's core has one level. -/
theorem L_tc (c : Dev nD) (sm : SemLoc sig) : L ((c : Thread nD τ), sm) = {()} := if_pos rfl

/-- The level of a receive semaphore. -/
theorem lv_rcv (c : Dev nD) (s r : Fin 4) (u : Unit) : lv (rcvC c s r) u = 2 := by
  show level (role (.dma (rQ s r))) = 2; rw [role_rcv]; rfl

/-- A single tally is positive at its own semaphore only. -/
theorem tally_pos {g g' : GSem nD τ sig} {u : Unit} {n : ℕ} (h : 0 < tallyAt (nD := nD) (τ := τ) (sig := sig) g () n g' u) : g' = g := by
  rw [tallyAt_apply] at h
  by_contra hn
  rw [if_neg (fun h' => hn h'.1)] at h
  exact Nat.lt_irrefl 0 h

/-- What is still owed for a list of blocks is owed at their receive semaphores. -/
theorem Ow_pos {c : Dev nD} {l : List (Fin 4 × Fin 4)} {g : GSem nD τ sig} {u : Unit} (h : 0 < Ow c l g u) :
    ∃ p ∈ l, g = rcvC (tgt p.1 c) c p.2 := by
  induction l with
  | nil => exact absurd h (Nat.lt_irrefl 0)
  | cons p ps ih =>
    have h' : 0 < Ow c ps g u + tallyAt (rcvC (tgt p.1 c) c p.2) () NB g u := h
    rcases Nat.eq_zero_or_pos (Ow c ps g u) with h0 | h0
    · rw [h0, Nat.zero_add] at h'; exact ⟨p, List.mem_cons_self, tally_pos h'⟩
    · obtain ⟨q, hq, e⟩ := ih h0; exact ⟨q, List.mem_cons_of_mem _ hq, e⟩

/-- What is owed at the start is owed at barriers and at receive semaphores. -/
theorem O₀_pos {c : Dev nD} {g : GSem nD τ sig} {u : Unit} (h : 0 < O₀ c g u) :
    (∃ p ∈ sendOrder, g = rcvC (tgt p.1 c) c p.2) ∨ ∃ d, g = barC d := by
  unfold O₀ at h
  rw [Pi.add_apply, Finsupp.add_apply, Pi.add_apply, Finsupp.add_apply, Pi.add_apply, Finsupp.add_apply] at h
  by_contra hn
  obtain ⟨hn1, hn2⟩ := not_or.mp hn
  have a1 := fun d => Nat.eq_zero_of_not_pos fun h => hn2 ⟨d, tally_pos (g := barC d) (g' := g) (u := u) (n := 1) h⟩
  rw [a1, a1, a1, Nat.eq_zero_of_not_pos fun h => hn1 (Ow_pos h)] at h
  exact Nat.lt_irrefl 0 h

/-- While only blocks are owed, any wait but one on a receive semaphore is allowed. -/
theorem mayWait_lt (c : Dev nD) (sm : SemLoc sig) (l : List (Fin 4 × Fin 4)) (h : level (role sm) < 2) :
    (levAts L lv : sProp 𝕄) ⊢ MayWait (c : Thread nD τ) sm () (Ow c l) :=
  MayOwe.of_cut (L := L) (lev := lv) 1 (fun p hp => by rw [Finset.mem_singleton.mp hp, L_tc]; exact Finset.mem_singleton_self _)
    (fun g u hg => by obtain ⟨p, -, rfl⟩ := Ow_pos hg; exact Finset.mem_singleton_self _)
    (fun p hp => by rw [Finset.mem_singleton.mp hp]; exact Nat.lt_succ_iff.mp h)
    (fun g u hg => by obtain ⟨p, -, rfl⟩ := Ow_pos hg; rw [lv_rcv]; decide)

/-- With nothing owed any wait is allowed. -/
theorem mayWait_nil (c : Dev nD) (sm : SemLoc sig) :
    (levAts L lv : sProp 𝕄) ⊢ MayWait (c : Thread nD τ) sm () (Ow c []) := by
  show _ ⊢ MayWait (c : Thread nD τ) sm () 0
  rw [MayWait_zero]; iintro -; iempintro

/-! ## What every device knows -/

/-- The shared semaphores of a device: the barrier, the send semaphores, the receive semaphores. -/
abbrev CK : Type := Option (Bool × Fin 4 × Fin 4)
abbrev csem : CK → SemLoc sig
  | none => .reg barS
  | some (false, j, r) => .dma (sQ j r)
  | some (true, s, r) => .dma (rQ s r)
abbrev kcell (ck : Dev nD × CK) : GSem nD τ sig := ((ck.1 : Thread nD τ), csem ck.2)

/-- The protocol holds on every shared semaphore of every device, each has reached its only round, and the levels. -/
def Ctx (K : Dev nD × CK → ℕ) : sProp 𝕄 :=
  iprop((bigSep Finset.univ fun ck : Dev nD × CK => (cellInv ER (Rd m) (K ck) (kcell ck) : sProp 𝕄))
    ∗ (bigSep Finset.univ fun ck : Dev nD × CK => (reached ER (kcell ck) 0 : sProp 𝕄)) ∗ levAts L lv)

instance Ctx_persistent (K : Dev nD × CK → ℕ) : BI.Persistent (Ctx m K) := by unfold Ctx; infer_instance

/-- The shared context holds every protocol semaphore's invariant; -/
theorem Ctx_inv (K : Dev nD × CK → ℕ) (ck : Dev nD × CK) : Ctx m K ⊢ cellInv ER (Rd m) (K ck) (kcell ck) := by
  have h : (bigSep Finset.univ fun ck : Dev nD × CK => (cellInv ER (Rd m) (K ck) (kcell ck) : sProp 𝕄)) ⊢ cellInv ER (Rd m) (K ck) (kcell ck) :=
    bigSep_elim (Finset.mem_univ ck)
  unfold Ctx
  iintro ⟨H, -, -⟩; iapply h; iexact H
/-- the fact that each has reached its first round; -/
theorem Ctx_reached (K : Dev nD × CK → ℕ) (ck : Dev nD × CK) : Ctx m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold Ctx
  iintro ⟨-, H, -⟩; iapply h; iexact H
/-- and the levels. -/
theorem Ctx_lev (K : Dev nD × CK → ℕ) : Ctx m K ⊢ levAts L lv := by
  unfold Ctx; iintro ⟨-, -, H⟩; iexact H

/-- Device `c` owes the blocks in `l`. -/
def Owe (c : Dev nD) (l : List (Fin 4 × Fin 4)) : sProp 𝕄 := iprop(∃ W, owes (c : Thread nD τ) (Ow c l) W)

end Cert.GemmRing
-- ==== Proof.Split.lean ====
/- Reading beside a copy in flight.

   Twice the kernel loads a whole slot of staged weights while the copy of the slot's second half is still under way,
   and uses only the first half of what it loaded. Nothing is known of the second half's contents at that moment, but
   the load must still own a share of it. So while such a copy is in flight its destination is held in two half shares:
   the copy holds one and the shared record `Lent` the other, at contents nobody promises; each of the copy's writes
   takes the lent share out, writes, and puts a share back, and so does a load. Two tokens make the record end: the
   waiter's and the one that comes with the landing. -/
module

public import proofs.«01_k».proof.Proof.Protocol

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-- The two halves of a whole share. -/
abbrev halfL : PosShare TreeShare := fullShare.left
abbrev halfR : PosShare TreeShare := fullShare.right

variable {ℓ : Loc nD τ sig}

/-- The record: a half share of the destination at some contents, or — once the copy has been waited for — the tokens. -/
def Lent (ℓ : Loc nD τ sig) (S : Finset (Idx ℓ)) (a b : ℕ) : sProp 𝕄 :=
  iprop((∃ f : Buf (Elt F) ℓ, ℓ ↦[S]{halfL} f) ∨ (tok EC a ∗ tok EC b))

instance lent_storable (S : Finset (Idx ℓ)) (a b : ℕ) : BI.Storable (upEmb : UEmb _ 𝕄) (Lent (F := F) ℓ S a b) := by
  unfold Lent tok count; infer_instance

/-- The two half shares, held at two contents, are the whole share at either. -/
theorem halves_join {S : Finset (Idx ℓ)} (f g : Buf (Elt F) ℓ) :
    iprop((ℓ ↦[S]{halfL} f) ∗ (ℓ ↦[S]{halfR} g)) ⊢ (ℓ ↦[S]{fullShare} g : sProp 𝕄) := by
  iintro ⟨Hl, Hr⟩
  icombine Hl Hr gives %h
  irwh [pointsTo_congr (I := S) (f := f) (g := g) (fun i hi => (h i (Finset.mem_inter.2 ⟨hi, hi⟩)).1)] at Hl
  iapply (pointsTo_share (PosShare.mem_left_op_right fullShare)).2
  isplitl [Hl] <;> iassumption

/-- Full ownership is two half shares of the same contents. -/
theorem halves_split {S : Finset (Idx ℓ)} (f : Buf (Elt F) ℓ) :
    (ℓ ↦[S]{fullShare} f : sProp 𝕄) ⊢ iprop((ℓ ↦[S]{halfL} f) ∗ (ℓ ↦[S]{halfR} f)) :=
  (pointsTo_share (PosShare.mem_left_op_right fullShare)).1

/-- The writes of a copy whose destination is lent. -/
theorem lent_writes (c : Thread nD τ) {sp : Space} {s : Shape} {e : EltTy} {v : View sig c.2.kind sp s e} {w : s.Idx → Elt F e}
    (fd : Buf (Elt F) (v.loc c)) {a b : ℕ} {ι : ℕ} :
    (inv ι (Lent (F := F) (v.loc c) v.set a b) : sProp 𝕄)
      ⊢ writeSteps c v w (fun M => iprop((v.loc c ↦[v.set]{halfR} (v.write (Elt F) fd w M)) ∗ tok EC b)) := by
  rw [writeSteps_def]
  iintro #Hinv
  imodintro
  iintro %M %M' ⟨Hpt, Hb⟩
  rw [← View.write_write_union]
  imod (inv_acc (Set.mem_univ ι)) $$ Hinv with ⟨HL, Hclose⟩
  unfold Lent
  icases HL with (⟨%f, Hl⟩ | ⟨-, Hb'⟩)
  · imodintro
    rw [storeSpec_apply]
    iexists v.set, (v.write (Elt F) fd w M)
    isplitl [Hl Hpt]
    · iapply (halves_join f); isplitl [Hl] <;> iassumption
    isplitr; · ipureintro; exact View.setOn_subset_set _ _
    iintro Hpt
    ihave Hh := halves_split _ $$ Hpt
    icases Hh with ⟨Hl, Hr⟩
    ihave Hc := Hclose $$ [Hl]
    · ileft; iexists _; iexact Hl
    imod Hc
    imodintro
    isplitl [Hr] <;> iassumption
  · iexfalso; iapply (tok_tok_false EC b); isplitl [Hb] <;> iassumption

/-- Starting a copy whose destination is lent. -/
theorem wp_dmaLent (c : Thread nD τ) {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {α : Type} {k : PUnit → Prog (TpuEff nD τ sig (Elt F) Λ₀ c.2) α} {Q : α → sProp 𝕄}
    {q : PosShare TreeShare} {fs : Buf (Elt F) (src.view.loc c)} {fd : Buf (Elt F) (dst.view.loc c)}
    (N : ℕ) (hN : dst.view.amount sm = N) (hN0 : 0 < N) :
    iprop((src.view.loc c ↦[src.view.set]{q} fs) ∗ (dst.view.loc c ↦[dst.view.set]{fullShare} fd) ∗ semVal (c, sm) 0)
      ⊢ iprop((iprop(∃ a b ι, inv ι (Lent (F := F) (dst.view.loc c) dst.view.set a b) ∗ tok EC a
            ∗ Flight EC c sm () N iprop(((dst.view.loc c ↦[dst.view.set]{halfR} (dst.view.write (Elt F) fd (src.view.read (Elt F) fs) Finset.univ)) ∗ tok EC b)
                ∗ (src.view.loc c ↦[src.view.set]{q} fs)))
              -∗ wp frame (wpE (defs₀ (F := F)) 𝒱₀ c none) Set.univ (k ⟨⟩) Q)
          -∗ wp frame (wpE (defs₀ (F := F)) 𝒱₀ c none) Set.univ (.op (.enqueueDma src (.here dst) sm hsrc hdst hsem) k) Q) := by
  iintro ⟨Hs, Hd, Hv⟩ Hk
  imod (count_alloc EC ∅) $$ [] with ⟨%a, -, -, Ha⟩; · iempintro
  imod (count_alloc EC ∅) $$ [] with ⟨%b, -, -, Hb⟩; · iempintro
  ihave Hh := halves_split _ $$ Hd
  icases Hh with ⟨Hl, Hr⟩
  imod (inv_alloc (P := Lent (F := F) (dst.view.loc c) dst.view.set a b) (E := Set.univ)) $$ [Hl] with ⟨%ι, #HL⟩
  · unfold Lent; ileft; iexists _; iexact Hl
  imod (flight_alloc EC hN0 iprop(((dst.view.loc c ↦[dst.view.set]{halfR} (dst.view.write (Elt F) fd (src.view.read (Elt F) fs) Finset.univ)) ∗ tok EC b)
      ∗ (src.view.loc c ↦[src.view.set]{q} fs)) (g := (c, sm))) $$ Hv with ⟨%γ, %δ, %κ, #Hinv, Hγ, Hδ⟩
  iapply (wp_enqueueDmaAs 𝒱₀ c none Set.univ () N hN
    (R := iprop((dst.view.loc c ↦[dst.view.set]{halfR} (dst.view.write (Elt F) fd (src.view.read (Elt F) fs) Finset.univ)) ∗ tok EC b))) $$ [Hs Hr Hb] [Hγ]
  · isplitl [Hs]; · iexact Hs
    rw [writeUpdate, writeUpdateFrom_def]
    iexists (fun M => iprop((dst.view.loc c ↦[dst.view.set]{halfR} (dst.view.write (Elt F) fd (src.view.read (Elt F) fs) M)) ∗ tok EC b))
    simp only [View.write_empty]
    isplitl [Hr Hb]; · isplitl [Hr] <;> iassumption
    isplitr
    · iapply (lent_writes c fd (a := a) (ι := ι)); iexact HL
    · iintro H; iexact H
  · iapply (flight_creditUpdate EC (δ := δ))
    isplitr; · iexact Hinv
    iexact Hγ
  iintro Hcred
  iapply Hk
  iexists a, b, ι
  isplitr; · iexact HL
  isplitl [Ha]; · iexact Ha
  iapply (flight_intro EC c (κ := κ))
  isplitr; · iexact Hinv
  isplitl [Hδ] <;> iassumption

/-- Ending the record once the copy has landed: the destination is whole again. -/
theorem lent_end {S : Finset (Idx ℓ)} (g : Buf (Elt F) ℓ) {a b ι : ℕ} :
    iprop(inv ι (Lent (F := F) ℓ S a b) ∗ tok EC a ∗ ((ℓ ↦[S]{halfR} g) ∗ tok EC b)) ⊢ iprop(|={Set.univ}=> (ℓ ↦[S]{fullShare} g : sProp 𝕄)) := by
  iintro ⟨#Hinv, Ha, Hr, Hb⟩
  imod (inv_acc (Set.mem_univ ι)) $$ Hinv with ⟨HL, Hclose⟩
  unfold Lent
  icases HL with (⟨%f, Hl⟩ | ⟨-, Hb'⟩)
  · ihave Hc := Hclose $$ [Ha Hb]
    · iright; isplitl [Ha] <;> iassumption
    imod Hc
    imodintro
    iapply (halves_join f); isplitl [Hl] <;> iassumption
  · iexfalso; iapply (tok_tok_false EC b); isplitl [Hb] <;> iassumption

/-- A load of elements of which some are lent: what it reads is right where the elements held outright are. -/
theorem wp_loadLent (c : Thread nD τ) {cs : CoreSpace} {s : Shape} {e : EltTy} {mr : Memref sig c.2.kind cs s e} {r : Rect s}
    {hl : mr.view.LoadsAt r} {α : Type} {k : (r.shape.Idx → Elt F e) → Prog (TpuEff nD τ sig (Elt F) Λ₀ c.2) α} {Q : α → sProp 𝕄}
    {S T : Finset (Idx ((mr.access r).loc c))} (hST : Disjoint S T) (hS : (mr.access r).set ⊆ S ∪ T) (g : Buf (Elt F) ((mr.access r).loc c)) {a b ι : ℕ} :
    iprop((((mr.access r).loc c) ↦[S]{fullShare} g) ∗ inv ι (Lent (F := F) ((mr.access r).loc c) T a b) ∗ tok EC a)
      ⊢ iprop((∀ f : Buf (Elt F) ((mr.access r).loc c), iprop(⌜∀ i ∈ S, f i = g i⌝ -∗ (((mr.access r).loc c) ↦[S]{fullShare} g) -∗ tok EC a
            -∗ wp frame (wpE (defs₀ (F := F)) 𝒱₀ c none) Set.univ (k ((mr.access r).read (Elt F) f)) Q))
          -∗ wp frame (wpE (defs₀ (F := F)) 𝒱₀ c none) Set.univ (.op (.load mr r hl) k) Q) := by
  iintro ⟨Hg, #Hinv, Ha⟩ Hk
  imod (inv_acc (Set.mem_univ ι)) $$ Hinv with ⟨HL, Hclose⟩
  unfold Lent
  icases HL with (⟨%f, Hl⟩ | ⟨Ha', -⟩)
  · ihave Hh := halves_split _ $$ Hg
    icases Hh with ⟨Hgl, Hgr⟩
    ihave Hj := (pointsTo_join hST) $$ [Hgl Hl]
    · isplitl [Hgl] <;> iassumption
    imodintro
    iapply (fp_load c (S := S ∪ T) ((View.set_slice mr.view r).symm.subset.trans hS)) $$ Hj
    iintro Hj
    ihave Hj := (pointsTo_union hST).1 $$ Hj
    icases Hj with ⟨Hgl, Hl⟩
    ihave Hc := Hclose $$ [Hl]
    · ileft; iexists _; iexact Hl
    imod Hc
    imodintro
    iapply Hk $$ [] [Hgl Hgr] Ha
    · ipureintro; intro i hi; exact Finset.piecewise_eq_of_notMem _ _ _ (Finset.disjoint_left.1 hST hi)
    · iapply (halves_join _); isplitl [Hgl] <;> iassumption
  · iexfalso; iapply (tok_tok_false EC a); isplitl [Ha] <;> iassumption

end Cert.GemmRing
-- ==== Proof.Steps.lean ====
/- What a device holds of each buffer and semaphore at each stage, and the kernel's operations as steps between the
   stages: the local copies, the loads and the stores. -/
module

public import proofs.«01_k».proof.Proof.Split

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

/-- "Running `p` on device `c` establishes `Q`." -/
abbrev runs {α : Type} (c : Dev nD) (p : KProg α) (Q : α → sProp 𝕄) : sProp 𝕄 :=
  wp frame (wpE (defs₀ (F := F)) 𝒱₀ (c : Thread nD τ) none) Set.univ p Q

/-! ## Any copy, any load, any store -/

/-- Starting a local copy of what its destination is meant to hold. -/
theorem wp_copy (c : Dev nD) {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (p := (Proc.tc : Proc τ)) sp sm (.here dst)}
    {α : Type} {Q : α → sProp 𝕄} {k : PUnit → KProg α} {q : PosShare TreeShare} {fs : Buf (Elt F) (src.view.loc (c : Thread nD τ))}
    {S : Finset (Idx (dst.view.loc (c : Thread nD τ)))} (hS : dst.view.set = S)
    (N : ℕ) (hN : dst.view.amount sm = N) (hN0 : 0 < N) (G : Buf (Elt F) (dst.view.loc (c : Thread nD τ)))
    (hG : src.view.read (Elt F) fs = dst.view.read (Elt F) G) :
    iprop((src.view.loc (c : Thread nD τ) ↦[src.view.set]{q} fs) ∗ (∃ f, dst.view.loc (c : Thread nD τ) ↦[S]{fullShare} f) ∗ semVal ((c : Thread nD τ), sm) 0)
      ⊢ iprop((Flight EC (c : Thread nD τ) sm () N iprop((dst.view.loc (c : Thread nD τ) ↦[S]{fullShare} G) ∗ (src.view.loc (c : Thread nD τ) ↦[src.view.set]{q} fs)) -∗ runs c (k ⟨⟩) Q)
          -∗ runs c (.op (.enqueueDma src (.here dst) sm hsrc hdst hsem) k) Q) := by
  subst hS
  iintro ⟨Hs, ⟨%fd, Hd⟩, Hv⟩ Hk
  iapply (wp_dmaLocal EC 𝒱₀ (c : Thread nD τ) none () N hN hN0 (Finset.Subset.refl _)) $$ [Hs Hd Hv]
  · isplitl [Hs]; · iexact Hs
    isplitl [Hd] <;> iassumption
  iintro H
  iapply Hk
  iapply (Flight_mono EC (c : Thread nD τ) (sep_mono_left (Entails.of_eq (pointsTo_congr fun i hi => ?_)))) $$ H
  show dst.view.write (Elt F) fd (src.view.read (Elt F) fs) Finset.univ i = G i
  rw [hG, View.write_read_eq_piecewise]
  exact Finset.piecewise_eq_of_mem _ _ _ hi

variable (K : Dev nD × CK → ℕ)

/-- Waiting for a local copy while only blocks are owed. -/
theorem wp_arrive (c : Dev nD) {sp sp' : Space} {s s' : Shape} {e e' : EltTy} {κ' : Kind} {sem : DmaSem sig}
    {srcw : Memref sig .tc sp' s' e'} {dstw : Memref sig κ' sp s e} {hsrc : srcw.view.WordExact} {hdst : dstw.view.WordExact}
    {α : Type} {Q : α → sProp 𝕄} {k : PUnit → KProg α} {N : ℕ} (hN : dstw.view.dmaCredit = N) {D : sProp 𝕄} {l : List (Fin 4 × Fin 4)} (hl : level (role (.dma sem)) < 2) :
    iprop(Ctx m K ∗ Flight EC (c : Thread nD τ) (.dma sem) () N D ∗ Owe c l)
      ⊢ iprop((iprop(D ∗ semVal ((c : Thread nD τ), .dma sem) 0 ∗ Owe c l) -∗ runs c (k ⟨⟩) Q)
          -∗ runs c (.op (.waitDma2 sem srcw dstw hsrc hdst) k) Q) := by
  unfold Owe
  iintro ⟨#HC, HF, ⟨%W, HO⟩⟩ Hk
  iapply (wp_waitLocalO EC 𝒱₀ (c : Thread nD τ) none () hN (D := D) (O := Ow c l) (W := W)) $$ [HF HO]
  · isplitl [HF]; · iexact HF
    isplitl [HO]; · iexact HO
    iapply (mayWait_lt c _ l hl); iapply (Ctx_lev m K); iexact HC
  iintro ⟨HD, Hv, HO⟩
  iapply Hk
  isplitl [HD]; · iexact HD
  isplitl [Hv]; · iexact Hv
  iexists _; iexact HO

/-- Loading what the loaded window is known to hold. -/
theorem wp_get (c : Dev nD) {cs : CoreSpace} {s : Shape} {e : EltTy} {mr : Memref sig .tc cs s e} {r : Rect s} {hl : mr.view.LoadsAt r}
    {α : Type} {Q : α → sProp 𝕄} {k : (r.shape.Idx → Elt F e) → KProg α} {S : Finset (Idx ((mr.access r).loc (c : Thread nD τ)))} {q : PosShare TreeShare}
    {f : Buf (Elt F) ((mr.access r).loc (c : Thread nD τ))} (hS : (mr.access r).set ⊆ S) {v : r.shape.Idx → Elt F e}
    (hv : (mr.access r).read (Elt F) f = v) :
    ((mr.access r).loc (c : Thread nD τ) ↦[S]{q} f)
      ⊢ iprop((((mr.access r).loc (c : Thread nD τ) ↦[S]{q} f) -∗ runs c (k v) Q) -∗ runs c (.op (.load mr r hl) k) Q) := by
  subst hv
  exact wp_load_rect 𝒱₀ (c : Thread nD τ) none Set.univ hS

/-- Loading a window at whatever it holds. -/
theorem wp_peek (c : Dev nD) {cs : CoreSpace} {s : Shape} {e : EltTy} {mr : Memref sig .tc cs s e} {r : Rect s} {hl : mr.view.LoadsAt r}
    {α : Type} {Q : α → sProp 𝕄} {k : (r.shape.Idx → Elt F e) → KProg α} {S : Finset (Idx ((mr.access r).loc (c : Thread nD τ)))} (hS : (mr.access r).set ⊆ S) :
    iprop(∃ f, (mr.access r).loc (c : Thread nD τ) ↦[S]{fullShare} f)
      ⊢ iprop((∀ v, iprop((∃ f, (mr.access r).loc (c : Thread nD τ) ↦[S]{fullShare} f) -∗ runs c (k v) Q)) -∗ runs c (.op (.load mr r hl) k) Q) := by
  iintro ⟨%f, H⟩ Hk
  iapply (wp_load_rect 𝒱₀ (c : Thread nD τ) none Set.univ hS) $$ H
  iintro H
  iapply Hk
  iexists f; iexact H

/-- Storing what the stored window is meant to hold. -/
theorem wp_fill (c : Dev nD) {cs : CoreSpace} {s : Shape} {e : EltTy} {mr : Memref sig .tc cs s e} {r : Rect s} {w : r.shape.Idx → Elt F e}
    {hx : (mr.access r).Stores Finset.univ} {hm : (Finset.univ : Finset r.shape.Idx) = Finset.univ ∨ ∀ a, r.stride a = 1}
    {α : Type} {Q : α → sProp 𝕄} {k : PUnit → KProg α} {S : Finset (Idx ((mr.access r).loc (c : Thread nD τ)))} (hS : (mr.access r).set = S)
    (G : Buf (Elt F) ((mr.access r).loc (c : Thread nD τ))) (hG : (mr.access r).read (Elt F) G = w) :
    iprop(∃ f, (mr.access r).loc (c : Thread nD τ) ↦[S]{fullShare} f)
      ⊢ iprop((((mr.access r).loc (c : Thread nD τ) ↦[S]{fullShare} G) -∗ runs c (k ⟨⟩) Q) -∗ runs c (.op (.store mr r w Finset.univ hx hm) k) Q) := by
  subst hS hG
  iintro ⟨%f, H⟩ Hk
  iapply (wp_store 𝒱₀ (c : Thread nD τ) none Set.univ (m := mr) (r := r) (Mk := Finset.univ) (View.setOn_subset_set _ _)) $$ H
  iintro H
  iapply Hk
  iapply (Entails.of_eq (pointsTo_congr fun i hi => ?_)) $$ H
  rw [View.write_read_eq_piecewise]
  exact Finset.piecewise_eq_of_mem _ _ _ hi

/-! ## The arguments -/

/-- Some share of an argument, which is never written. -/
def Arg0 (c : Dev nD) : sProp 𝕄 := iprop(∃ q : PosShare TreeShare, ((c : Thread nD τ).loc main_arg0) ↦{q} (xA m c))
def Arg1 (c : Dev nD) : sProp 𝕄 := iprop(∃ q : PosShare TreeShare, ((c : Thread nD τ).loc main_arg1) ↦{q} (wA m c))

/-- A piece of an argument's share can be lent to a copy, with some share kept. -/
theorem arg_lend {ℓ : Loc nD τ sig} (f : Buf (Elt F) ℓ) (S : Finset (Idx ℓ)) :
    iprop(∃ q : PosShare TreeShare, ℓ ↦{q} f) ⊢ (iprop((∃ q : PosShare TreeShare, ℓ ↦{q} f) ∗ ∃ q : PosShare TreeShare, ℓ ↦[S]{q} f) : sProp 𝕄) := by
  iintro ⟨%q, H⟩
  ihave H := (pointsTo_share (PosShare.mem_left_op_right q)).1 $$ H
  icases H with ⟨Hl, Hr⟩
  isplitl [Hl]; · iexists _; iexact Hl
  ihave Hr := (pointsTo_split_subset (Finset.subset_univ S)).1 $$ Hr
  icases Hr with ⟨Hr, -⟩
  iexists _; iexact Hr

/-! ## The activations -/

abbrev NX : ℕ := (xsM ![0, 0, 0] inb_S2x256x4096_S1x256x4096_0_0_0).view.dmaCredit
/-- A row block's copy brings a positive count. -/
theorem NX_pos : 0 < NX := View.dmaCredit_pos _ (by decide)
/-- The elements of one staging slot of the rows. -/
theorem xs_set (s : Fin 2) (off inb) (h : off = ![s.val, 0, 0]) : (xsM off inb).view.set = xsSet s := by
  exact (View.set_reshape _ _).trans ((View.set_slice_whole _ _).trans (xs_rect s off inb h))
/-- The rows' semaphores lie below the receive semaphores. -/
theorem xs_level (s : Fin 2) : level (role (.dma (xQ s))) < 2 := by fin_cases s <;> decide

/-- A slot of staged activations: free; being filled with rows `256 r …`; holding them. -/
def XFree (c : Dev nD) (s : Fin 2) : sProp 𝕄 := iprop((∃ f, xsPts c s f) ∗ semVal ((c : Thread nD τ), .dma (xQ s)) 0)
def XFly (c : Dev nD) (s : Fin 2) (r : Fin 4) : sProp 𝕄 := Flight EC (c : Thread nD τ) (.dma (xQ s)) () NX (xsPts c s (XS m c r))
def XHas (c : Dev nD) (s : Fin 2) (r : Fin 4) : sProp 𝕄 := iprop(xsPts c s (XS m c r) ∗ semVal ((c : Thread nD τ), .dma (xQ s)) 0)

/-- A filled slot of rows may be filled again. -/
theorem XHas_free (c : Dev nD) (s : Fin 2) (r : Fin 4) : XHas m c s r ⊢ XFree (F := F) c s := by
  unfold XHas XFree; iintro ⟨H, Hv⟩; isplitl [H]; · iexists _; iexact H
  iexact Hv

/-- Starting the copy of a row block. -/
theorem x_start (c : Dev nD) (s : Fin 2) (r : Fin 4) {off inb off0 inb0} (h : off = ![s.val, 0, 0]) (h0 : off0 = ![256 * r.val, 0])
    {sm : DmaSem sig} (hsm : sm = xQ s) {hsrc hdst hsem} {α : Type} {Q : α → sProp 𝕄} {k : PUnit → KProg α} :
    iprop(Arg0 m c ∗ XFree c s)
      ⊢ iprop((iprop(Arg0 m c ∗ XFly m c s r) -∗ runs c (k ⟨⟩) Q)
        -∗ runs c (.op (.enqueueDma (xaM off0 inb0) (.here (xsM off inb)) (.dma sm) hsrc hdst hsem) k) Q) := by
  subst hsm
  unfold Arg0 XFree XFly
  iintro ⟨HA, Hd, Hv⟩ Hk
  ihave HA := (arg_lend _ (xaM off0 inb0).view.set) $$ HA
  icases HA with ⟨HA, ⟨%q, Hs⟩⟩
  iapply (wp_copy c (src := xaM off0 inb0) (dst := xsM off inb) (fs := xA m c) (xs_set s off inb h) NX rfl NX_pos (XS m c r) (x_lands m c s r off inb off0 inb0 h h0)) $$ [Hs Hd Hv]
  · isplitl [Hs]; · iexact Hs
    isplitl [Hd] <;> iassumption
  iintro H
  iapply Hk
  isplitl [HA]; · iexact HA
  iapply (Flight_mono EC (c : Thread nD τ) sep_elim_left) $$ H

/-- Waiting for a row block. -/
theorem x_arrive (c : Dev nD) (s : Fin 2) (r : Fin 4) {sp' : Space} {s' : Shape} {e' : EltTy} {srcw : Memref sig .tc sp' s' e'}
    {off inb} {sm : DmaSem sig} (hsm : sm = xQ s) {hsrc hdst} {α : Type} {Q : α → sProp 𝕄} {k : PUnit → KProg α} {l : List (Fin 4 × Fin 4)} :
    iprop(Ctx m K ∗ XFly m c s r ∗ Owe c l)
      ⊢ iprop((iprop(XHas m c s r ∗ Owe c l) -∗ runs c (k ⟨⟩) Q)
        -∗ runs c (.op (.waitDma2 sm srcw (xsM off inb) hsrc hdst) k) Q) := by
  subst hsm
  unfold XFly XHas
  iintro H Hk
  iapply (wp_arrive m K c (srcw := srcw) (dstw := xsM off inb) (hsrc := hsrc) (hdst := hdst) (N := NX) rfl (xs_level s)) $$ H
  iintro ⟨Hd, Hv, HO⟩
  iapply Hk
  isplitl [Hd Hv]; · isplitl [Hd] <;> iassumption
  iexact HO

/-- Loading a staged row block. -/
theorem x_load (c : Dev nD) (s : Fin 2) (r : Fin 4) {off inb} (h : off = ![s.val, 0, 0]) {hl} {α : Type} {Q : α → sProp 𝕄} {k : FVec F S1x256x4096 .f32 → KProg α} :
    XHas m c s r ⊢ iprop((XHas m c s r -∗ runs c (k (xsv m c r)) Q)
      -∗ runs c (.op (.load (Memref.whole cc0_scratch2) (Rect.unit (s := S2x256x4096) off S1x256x4096.size inb).toLoadRect hl) k) Q) := by
  unfold XHas
  iintro ⟨H, Hv⟩ Hk
  iapply (wp_get c (mr := Memref.whole cc0_scratch2) (r := Rect.unit (s := S2x256x4096) off S1x256x4096.size inb) (S := xsSet s)
    (by show ((View.whole cc0_scratch2).slice _).set ⊆ _; rw [View.set_slice_whole, xs_rect s off inb h]) (xs_load m c s r off inb h)) $$ H
  iintro H
  iapply Hk
  isplitl [H] <;> iassumption

/-! ## The narrowed activations -/

/-- The narrowed activations, filled in as far as row `256 n`. -/
def XUp (c : Dev nD) (n : ℕ) : sProp 𝕄 :=
  iprop(∃ f : FVec F S1024x4096 .bf16, ⌜∀ i : S1024x4096.Idx, (i 0).val < 256 * n → f i = XB m c i⌝ ∗ xbPts c f)

/-- The elements of one block of the narrowed rows. -/
theorem xb_set (off inb) (r : Fin 4) (h : off = ![256 * r.val, 0]) :
    ((Memref.whole cc0_scratch0).access (Rect.unit (s := S1024x4096) off S256x4096.size inb)).set = xbSet r := by
  show ((View.whole cc0_scratch0).slice _).set = _; rw [View.set_slice_whole, xb_rect r off inb h]

/-- A load of the narrowed rows whose value is not used. -/
theorem xb_peek (c : Dev nD) (n : ℕ) {r : Rect S1024x4096} {hl} {α : Type} {Q : α → sProp 𝕄} {k : (r.shape.Idx → Elt F .bf16) → KProg α} :
    XUp m c n ⊢ iprop((∀ v, iprop(XUp m c n -∗ runs c (k v) Q))
      -∗ runs c (.op (.load (Memref.whole cc0_scratch0) r.toLoadRect hl) k) Q) := by
  unfold XUp
  iintro ⟨%f, %hf, H⟩ Hk
  iapply (wp_get c (mr := Memref.whole cc0_scratch0) (r := r) (S := Finset.univ) (Finset.subset_univ _) rfl) $$ H
  iintro H
  iapply Hk
  iexists f; isplitr; · ipureintro; exact hf
  iexact H

/-- Loading a block of narrowed rows that is filled in. -/
theorem xb_read (c : Dev nD) {n : ℕ} (r : Fin 4) (hr : r.val < n) {off inb} (h : off = ![256 * r.val, 0]) {hl}
    {α : Type} {Q : α → sProp 𝕄} {k : FVec F S256x4096 .bf16 → KProg α} :
    XUp m c n ⊢ iprop((XUp m c n -∗ runs c (k (xv m c r)) Q)
      -∗ runs c (.op (.load (Memref.whole cc0_scratch0) (Rect.unit (s := S1024x4096) off S256x4096.size inb).toLoadRect hl) k) Q) := by
  unfold XUp
  iintro ⟨%f, %hf, H⟩ Hk
  iapply (wp_get c (mr := Memref.whole cc0_scratch0) (r := Rect.unit (s := S1024x4096) off S256x4096.size inb) (S := Finset.univ) (v := xv m c r)
    (Finset.subset_univ _) ?hv) $$ H
  case hv =>
    rw [← xb_load m c r off inb h]
    refine View.read_congr fun i hi => ?_
    rw [xb_set off inb r h, xbSet, Finset.mem_filter] at hi
    exact hf i (by omega)
  iintro H
  iapply Hk
  iexists f; isplitr; · ipureintro; exact hf
  iexact H

/-- Loading all the narrowed rows once they are filled in. -/
theorem xb_read_all (c : Dev nD) {inb} {hl} {α : Type} {Q : α → sProp 𝕄} {k : FVec F S1024x4096 .bf16 → KProg α} :
    XUp m c 4 ⊢ iprop((XUp m c 4 -∗ runs c (k (XB m c)) Q)
      -∗ runs c (.op (.load (Memref.whole cc0_scratch0) (Rect.unit (s := S1024x4096) ![0, 0] S1024x4096.size inb).toLoadRect hl) k) Q) := by
  unfold XUp
  iintro ⟨%f, %hf, H⟩ Hk
  iapply (wp_get c (mr := Memref.whole cc0_scratch0) (r := Rect.unit (s := S1024x4096) ![0, 0] S1024x4096.size inb) (S := Finset.univ) (v := XB m c)
    (Finset.subset_univ _) ?hv) $$ H
  case hv =>
    rw [← xb_load_all m c inb]
    refine View.read_congr fun i hi => ?_
    have : (i 0).val < 1024 := (i 0).isLt
    exact hf i (by omega)
  iintro H
  iapply Hk
  iexists f; isplitr; · ipureintro; exact hf
  iexact H

/-- Storing a block of narrowed rows. -/
theorem xb_fill (c : Dev nD) (r : Fin 4) {off inb} (h : off = ![256 * r.val, 0]) {w : FVec F S256x4096 .bf16} (hw : w = xv m c r) {hx hm}
    {α : Type} {Q : α → sProp 𝕄} {k : PUnit → KProg α} :
    XUp m c r.val ⊢ iprop((XUp m c (r.val + 1) -∗ runs c (k ⟨⟩) Q)
      -∗ runs c (.op (.store (Memref.whole cc0_scratch0) (Rect.unit (s := S1024x4096) off S256x4096.size inb) w Finset.univ hx hm) k) Q) := by
  unfold XUp
  iintro ⟨%f, %hf, H⟩ Hk
  iapply (wp_store 𝒱₀ (c : Thread nD τ) none Set.univ (m := Memref.whole cc0_scratch0) (r := Rect.unit (s := S1024x4096) off S256x4096.size inb) (S := Finset.univ) (Finset.subset_univ _)) $$ H
  iintro H
  iapply Hk
  iexists _
  isplitr
  rotate_left
  · iexact H
  ipureintro
  intro i hi
  rw [hw, ← xb_load m c r off inb h, View.write_read_eq_piecewise]
  by_cases hm : i ∈ xbSet r
  · exact Finset.piecewise_eq_of_mem _ _ _ (by rw [← xb_set off inb r h] at hm; exact hm)
  · refine (Finset.piecewise_eq_of_notMem _ _ _ (by rw [← xb_set off inb r h] at hm; exact hm)).trans (hf i ?_)
    rw [xbSet, Finset.mem_filter] at hm
    have : ¬ (i 0).val / 256 = r.val := fun e => hm ⟨Finset.mem_univ _, e⟩
    omega

end Cert.GemmRing
-- ==== Proof.StepsW.lean ====
/- The weights: how a slot is staged, whole or in halves, and narrowed. -/
module

public import proofs.«01_k».proof.Proof.Steps

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

variable (K : Dev nD × CK → ℕ)

/-! ## The staged weights, a whole slot at a time -/

abbrev NW : ℕ := (wsM ![0, 0, 0] inb_S2x4096x512_S1x4096x512_0_0_0).view.dmaCredit
/-- A strip's copy brings a positive count. -/
theorem NW_pos : 0 < NW := View.dmaCredit_pos _ (by decide)
/-- The elements of one staging slot of the weights. -/
theorem ws_set (s : Fin 2) (off inb) (h : off = ![s.val, 0, 0]) : (wsM off inb).view.set = wSet s :=
  (View.set_reshape _ _).trans ((View.set_slice_whole _ _).trans (w_rect s off inb h))
/-- The weights' semaphores lie below the receive semaphores. -/
theorem wsm_level (s h : Fin 2) : level (role (.dma (wQ s h))) < 2 := by fin_cases s <;> fin_cases h <;> decide

/-- A slot of staged weights: free; being filled with the columns of device `d`'s strip; holding them. -/
def WSFree (c : Dev nD) (s : Fin 2) : sProp 𝕄 :=
  iprop((∃ f, wsPts c s f) ∗ semVal ((c : Thread nD τ), .dma (wQ s 0)) 0 ∗ semVal ((c : Thread nD τ), .dma (wQ s 1)) 0)
def WFly (c : Dev nD) (s : Fin 2) (d : Dev nD) : sProp 𝕄 :=
  iprop(Flight EC (c : Thread nD τ) (.dma (wQ s 0)) () NW (wsPts c s (WS m c d)) ∗ semVal ((c : Thread nD τ), .dma (wQ s 1)) 0)
def WHas (c : Dev nD) (s : Fin 2) (d : Dev nD) : sProp 𝕄 :=
  iprop(wsPts c s (WS m c d) ∗ semVal ((c : Thread nD τ), .dma (wQ s 0)) 0 ∗ semVal ((c : Thread nD τ), .dma (wQ s 1)) 0)

/-- A filled slot of weights may be filled again. -/
theorem WHas_free (c : Dev nD) (s : Fin 2) (d : Dev nD) : WHas m c s d ⊢ WSFree (F := F) c s := by
  unfold WHas WSFree
  iintro ⟨H, Hv⟩
  isplitl [H]; · iexists _; iexact H
  iexact Hv

/-- Starting the copy of a whole strip of weights. -/
theorem w_start (c : Dev nD) (s : Fin 2) (d : Dev nD) {off inb off0 inb0} (h : off = ![s.val, 0, 0]) (h0 : off0 = ![0, 512 * d.val])
    {sm : DmaSem sig} (hsm : sm = wQ s 0) {hsrc hdst hsem} {α : Type} {Q : α → sProp 𝕄} {k : PUnit → KProg α} :
    iprop(Arg1 m c ∗ WSFree c s)
      ⊢ iprop((iprop(Arg1 m c ∗ WFly m c s d) -∗ runs c (k ⟨⟩) Q)
        -∗ runs c (.op (.enqueueDma (waM off0 inb0) (.here (wsM off inb)) (.dma sm) hsrc hdst hsem) k) Q) := by
  subst hsm
  unfold Arg1 WSFree WFly
  iintro ⟨HA, Hd, Hv, Hv'⟩ Hk
  ihave HA := (arg_lend _ (waM off0 inb0).view.set) $$ HA
  icases HA with ⟨HA, ⟨%q, Hs⟩⟩
  iapply (wp_copy c (src := waM off0 inb0) (dst := wsM off inb) (fs := wA m c) (ws_set s off inb h) NW rfl NW_pos (WS m c d) (w_lands m c d s off inb off0 inb0 h h0)) $$ [Hs Hd Hv]
  · isplitl [Hs]; · iexact Hs
    isplitl [Hd] <;> iassumption
  iintro H
  iapply Hk
  isplitl [HA]; · iexact HA
  isplitl [H]; · iapply (Flight_mono EC (c : Thread nD τ) sep_elim_left) $$ H
  iexact Hv'

/-- Waiting for a whole strip of weights. -/
theorem w_arrive (c : Dev nD) (s : Fin 2) (d : Dev nD) {sp' : Space} {s' : Shape} {e' : EltTy} {srcw : Memref sig .tc sp' s' e'}
    {off inb} {sm : DmaSem sig} (hsm : sm = wQ s 0) {hsrc hdst} {α : Type} {Q : α → sProp 𝕄} {k : PUnit → KProg α} {l : List (Fin 4 × Fin 4)} :
    iprop(Ctx m K ∗ WFly m c s d ∗ Owe c l)
      ⊢ iprop((iprop(WHas m c s d ∗ Owe c l) -∗ runs c (k ⟨⟩) Q)
        -∗ runs c (.op (.waitDma2 sm srcw (wsM off inb) hsrc hdst) k) Q) := by
  subst hsm
  unfold WFly WHas
  iintro ⟨HC, ⟨H, Hv'⟩, HO⟩ Hk
  iapply (wp_arrive m K c (srcw := srcw) (dstw := wsM off inb) (hsrc := hsrc) (hdst := hdst) (N := NW) rfl (wsm_level s 0)) $$ [HC H HO]
  · isplitl [HC]; · iexact HC
    isplitl [H] <;> iassumption
  iintro ⟨Hd, Hv, HO⟩
  iapply Hk
  isplitr [HO]
  · isplitl [Hd]; · iexact Hd
    isplitl [Hv] <;> iassumption
  iexact HO

/-- Loading a staged strip of weights. -/
theorem w_load (c : Dev nD) (s : Fin 2) (d : Dev nD) {off inb} (h : off = ![s.val, 0, 0]) {hl} {α : Type} {Q : α → sProp 𝕄} {k : FVec F S1x4096x512 .f32 → KProg α} :
    WHas m c s d ⊢ iprop((WHas m c s d -∗ runs c (k (wsv m c d)) Q)
      -∗ runs c (.op (.load (Memref.whole cc0_scratch3) (Rect.unit (s := S2x4096x512) off S1x4096x512.size inb).toLoadRect hl) k) Q) := by
  unfold WHas
  iintro ⟨H, Hv⟩ Hk
  iapply (wp_get c (mr := Memref.whole cc0_scratch3) (r := Rect.unit (s := S2x4096x512) off S1x4096x512.size inb) (S := wSet s)
    (by show ((View.whole cc0_scratch3).slice _).set ⊆ _; rw [View.set_slice_whole, w_rect s off inb h]) (ws_load m c d s off inb h)) $$ H
  iintro H
  iapply Hk
  isplitl [H] <;> iassumption

/-! ## The staged weights, half a slot at a time -/

abbrev NH : ℕ := (whM ![0, 0, 0] inb_S2x4096x512_S1x4096x256_0_0_0).view.dmaCredit
/-- Half a strip's copy brings a positive count. -/
theorem NH_pos : 0 < NH := View.dmaCredit_pos _ (by decide)
/-- The elements of half a staging slot. -/
theorem wh_set (s h : Fin 2) (off inb) (ho : off = ![s.val, 0, 256 * h.val]) : (whM off inb).view.set = wHalf s h :=
  (View.set_reshape _ _).trans ((View.set_slice_whole _ _).trans (wHalf_rect s h off inb ho))

/-- The two halves of a slot are disjoint. -/
theorem halves_disjoint (s : Fin 2) : Disjoint (wHalf s 0) (wHalf s 1) := by
  rw [Finset.disjoint_left]
  intro i h0 h1
  rw [wHalf, Finset.mem_filter] at h0 h1
  have := h0.2.2.symm.trans h1.2.2
  exact absurd this (by decide)
/-- The two halves make up the slot. -/
theorem halves_union (s : Fin 2) : wSet s = wHalf s 0 ∪ wHalf s 1 := by
  ext i
  have h2 : (i 2).val < 512 := (i 2).isLt
  simp only [wSet, wHalf, Finset.mem_union, Finset.mem_filter, Finset.mem_univ, true_and]
  show (i 0).val = s.val ↔ ((i 0).val = s.val ∧ (i 2).val / 256 = 0) ∨ ((i 0).val = s.val ∧ (i 2).val / 256 = 1)
  omega

/-- The second half in flight with its destination lent. -/
def FlLent (c : Dev nD) (s : Fin 2) (d : Dev nD) : sProp 𝕄 :=
  iprop(∃ a b ι, inv ι (Lent (F := F) ((c : Thread nD τ).loc cc0_scratch3) (wHalf s 1) a b) ∗ tok EC a
    ∗ Flight EC (c : Thread nD τ) (.dma (wQ s 1)) () NH iprop((((c : Thread nD τ).loc cc0_scratch3) ↦[wHalf s 1]{halfR} (WS m c d)) ∗ tok EC b))
/-- The slot with its first half in flight, then both halves, then the first half landed. -/
def WH1 (c : Dev nD) (s : Fin 2) (d : Dev nD) : sProp 𝕄 :=
  iprop(Flight EC (c : Thread nD τ) (.dma (wQ s 0)) () NH (whPts c s 0 (WS m c d)) ∗ (∃ f, whPts c s 1 f) ∗ semVal ((c : Thread nD τ), .dma (wQ s 1)) 0)
def WH2 (c : Dev nD) (s : Fin 2) (d : Dev nD) : sProp 𝕄 :=
  iprop(Flight EC (c : Thread nD τ) (.dma (wQ s 0)) () NH (whPts c s 0 (WS m c d)) ∗ FlLent m c s d)
def WH3 (c : Dev nD) (s : Fin 2) (d : Dev nD) : sProp 𝕄 :=
  iprop(whPts c s 0 (WS m c d) ∗ semVal ((c : Thread nD τ), .dma (wQ s 0)) 0 ∗ FlLent m c s d)

/-- Starting the copy of a strip's first half. -/
theorem wh_start0 (c : Dev nD) (s : Fin 2) (d : Dev nD) {off inb off0 inb0} (h : off = ![s.val, 0, 0]) (h0 : off0 = ![0, 512 * d.val])
    {sm : DmaSem sig} (hsm : sm = wQ s 0) {hsrc hdst hsem} {α : Type} {Q : α → sProp 𝕄} {k : PUnit → KProg α} :
    iprop(Arg1 m c ∗ WSFree c s)
      ⊢ iprop((iprop(Arg1 m c ∗ WH1 m c s d) -∗ runs c (k ⟨⟩) Q)
        -∗ runs c (.op (.enqueueDma (waHM off0 inb0) (.here (whM off inb)) (.dma sm) hsrc hdst hsem) k) Q) := by
  subst hsm
  unfold Arg1 WSFree WH1
  iintro ⟨HA, ⟨%f, Hd⟩, Hv, Hv'⟩ Hk
  ihave HA := (arg_lend _ (waHM off0 inb0).view.set) $$ HA
  icases HA with ⟨HA, ⟨%q, Hs⟩⟩
  ihave Hd := (Entails.of_eq (congrArg (fun S => (((c : Thread nD τ).loc cc0_scratch3) ↦[S]{fullShare} f : sProp 𝕄)) (halves_union s))) $$ Hd
  ihave Hd := (pointsTo_union (halves_disjoint s)).1 $$ Hd
  icases Hd with ⟨Hd, Hd'⟩
  iapply (wp_copy c (src := waHM off0 inb0) (dst := whM off inb) (fs := wA m c) (wh_set s 0 off inb h) NH rfl NH_pos (WS m c d) (wh_lands m c d s 0 off inb off0 inb0 h h0)) $$ [Hs Hd Hv]
  · isplitl [Hs]; · iexact Hs
    isplitl [Hd]; · iexists f; iexact Hd
    iexact Hv
  iintro H
  iapply Hk
  isplitl [HA]; · iexact HA
  isplitl [H]; · iapply (Flight_mono EC (c : Thread nD τ) sep_elim_left) $$ H
  isplitl [Hd']; · iexists f; iexact Hd'
  iexact Hv'

/-- Starting the copy of a strip's second half, its destination lent so that the slot can still be loaded. -/
theorem wh_start1 (c : Dev nD) (s : Fin 2) (d : Dev nD) {off inb off0 inb0} (h : off = ![s.val, 0, 256]) (h0 : off0 = ![0, 512 * d.val + 256])
    {sm : DmaSem sig} (hsm : sm = wQ s 1) {hsrc hdst hsem} {α : Type} {Q : α → sProp 𝕄} {k : PUnit → KProg α} :
    iprop(Arg1 m c ∗ WH1 m c s d)
      ⊢ iprop((iprop(Arg1 m c ∗ WH2 m c s d) -∗ runs c (k ⟨⟩) Q)
        -∗ runs c (.op (.enqueueDma (waHM off0 inb0) (.here (whM off inb)) (.dma sm) hsrc hdst hsem) k) Q) := by
  subst hsm
  unfold Arg1 WH1 WH2 FlLent
  iintro ⟨HA, HF, ⟨%f, Hd⟩, Hv⟩ Hk
  ihave HA := (arg_lend _ (waHM off0 inb0).view.set) $$ HA
  icases HA with ⟨HA, ⟨%q, Hs⟩⟩
  ihave Hd := (Entails.of_eq (congrArg (fun S => (((c : Thread nD τ).loc cc0_scratch3) ↦[S]{fullShare} f : sProp 𝕄)) (wh_set s 1 off inb h).symm)) $$ Hd
  iapply (wp_dmaLent (c : Thread nD τ) (src := waHM off0 inb0) (dst := whM off inb) (fs := wA m c) NH rfl NH_pos) $$ [Hs Hd Hv]
  · isplitl [Hs]; · iexact Hs
    isplitl [Hd]; · iexact Hd
    iexact Hv
  iintro ⟨%a, %b, %ι, #HL, Ha, H⟩
  iapply Hk
  isplitl [HA]; · iexact HA
  isplitl [HF]; · iexact HF
  iexists a, b, ι
  isplitr
  · iapply (Entails.of_eq (congrArg (fun S => (inv ι (Lent (F := F) ((c : Thread nD τ).loc cc0_scratch3) S a b) : sProp 𝕄)) (wh_set s 1 off inb h))); iexact HL
  isplitl [Ha]; · iexact Ha
  iapply (Flight_mono EC (c : Thread nD τ) ?mono) $$ H
  case mono =>
    refine sep_elim_left.trans (sep_mono_left (Entails.of_eq ?_))
    refine (congrArg (fun S => (((c : Thread nD τ).loc cc0_scratch3) ↦[S]{halfR} _ : sProp 𝕄)) (wh_set s 1 off inb h)).trans (pointsTo_congr fun i hi => ?_)
    show (whM off inb).view.write (Elt F) f ((waHM off0 inb0).view.read (Elt F) (wA m c)) Finset.univ i = WS m c d i
    rw [wh_lands m c d s 1 off inb off0 inb0 h h0, View.write_read_eq_piecewise]
    exact Finset.piecewise_eq_of_mem _ _ _ (by rw [← wh_set s 1 off inb h] at hi; exact hi)

/-- Waiting for a strip's first half. -/
theorem wh_arrive0 (c : Dev nD) (s : Fin 2) (d : Dev nD) {sp' : Space} {s' : Shape} {e' : EltTy} {srcw : Memref sig .tc sp' s' e'}
    {off inb} {sm : DmaSem sig} (hsm : sm = wQ s 0) {hsrc hdst} {α : Type} {Q : α → sProp 𝕄} {k : PUnit → KProg α} {l : List (Fin 4 × Fin 4)} :
    iprop(Ctx m K ∗ WH2 m c s d ∗ Owe c l)
      ⊢ iprop((iprop(WH3 m c s d ∗ Owe c l) -∗ runs c (k ⟨⟩) Q)
        -∗ runs c (.op (.waitDma2 sm srcw (whM off inb) hsrc hdst) k) Q) := by
  subst hsm
  unfold WH2 WH3
  iintro ⟨HC, ⟨H, HL⟩, HO⟩ Hk
  iapply (wp_arrive m K c (srcw := srcw) (dstw := whM off inb) (hsrc := hsrc) (hdst := hdst) (N := NH) rfl (wsm_level s 0)) $$ [HC H HO]
  · isplitl [HC]; · iexact HC
    isplitl [H] <;> iassumption
  iintro ⟨Hd, Hv, HO⟩
  iapply Hk
  isplitr [HO]
  · isplitl [Hd]; · iexact Hd
    isplitl [Hv] <;> iassumption
  iexact HO

/-- A load of the slot beside its second half's copy: right in the first half. -/
theorem wh_load (c : Dev nD) (s : Fin 2) (d : Dev nD) {off inb} (h : off = ![s.val, 0, 0]) {hl} {α : Type} {Q : α → sProp 𝕄} {k : FVec F S1x4096x512 .f32 → KProg α} :
    WH3 m c s d ⊢ iprop((∀ v, iprop(⌜∀ j : S1x4096x512.Idx, (j 2).val < 256 → v j = wsv m c d j⌝ -∗ WH3 m c s d -∗ runs c (k v) Q))
      -∗ runs c (.op (.load (Memref.whole cc0_scratch3) (Rect.unit (s := S2x4096x512) off S1x4096x512.size inb).toLoadRect hl) k) Q) := by
  unfold WH3 FlLent
  iintro ⟨H, Hv, ⟨%a, %b, %ι, #HL, Ha, HF⟩⟩ Hk
  iapply (wp_loadLent (c : Thread nD τ) (mr := Memref.whole cc0_scratch3) (r := Rect.unit (s := S2x4096x512) off S1x4096x512.size inb) (halves_disjoint s)
    (by show ((View.whole cc0_scratch3).slice _).set ⊆ _; rw [View.set_slice_whole, w_rect s off inb h, halves_union s]) (WS m c d)) $$ [H Ha]
  · isplitl [H]; · iexact H
    isplitr; · iexact HL
    iexact Ha
  iintro %f %hf H Ha
  iapply Hk $$ %_ [] [H Hv Ha HF]
  · ipureintro; exact fun j hj => ws_part m c d s off inb h f hf j hj
  isplitl [H]; · iexact H
  isplitl [Hv]; · iexact Hv
  iexists a, b, ι
  isplitr; · iexact HL
  isplitl [Ha] <;> iassumption

/-- Waiting for a strip's second half: the slot is whole again. -/
theorem wh_arrive1 (c : Dev nD) (s : Fin 2) (d : Dev nD) {sp' : Space} {s' : Shape} {e' : EltTy} {srcw : Memref sig .tc sp' s' e'}
    {off inb} {sm : DmaSem sig} (hsm : sm = wQ s 1) {hsrc hdst} {α : Type} {Q : α → sProp 𝕄} {k : PUnit → KProg α} {l : List (Fin 4 × Fin 4)} :
    iprop(Ctx m K ∗ WH3 m c s d ∗ Owe c l)
      ⊢ iprop((iprop(WHas m c s d ∗ Owe c l) -∗ runs c (k ⟨⟩) Q)
        -∗ runs c (.op (.waitDma2 sm srcw (whM off inb) hsrc hdst) k) Q) := by
  subst hsm
  unfold WHas WH3 FlLent
  iintro ⟨HC, ⟨H, Hv, ⟨%a, %b, %ι, #HL, Ha, HF⟩⟩, HO⟩ Hk
  iapply (wp_arrive m K c (srcw := srcw) (dstw := whM off inb) (hsrc := hsrc) (hdst := hdst) (N := NH) rfl (wsm_level s 1)) $$ [HC HF HO]
  · isplitl [HC]; · iexact HC
    isplitl [HF] <;> iassumption
  iintro ⟨⟨Hd, Hb⟩, Hv', HO⟩
  imod (lent_end (ℓ := (c : Thread nD τ).loc cc0_scratch3) (WS m c d)) $$ [Ha Hd Hb] with Hd
  · isplitr; · iexact HL
    isplitl [Ha]; · iexact Ha
    isplitl [Hd] <;> iassumption
  iapply Hk
  isplitr [HO]
  · isplitl [H Hd]
    · iapply (Entails.of_eq (congrArg (fun S => (((c : Thread nD τ).loc cc0_scratch3) ↦[S]{fullShare} WS m c d : sProp 𝕄)) (halves_union s).symm))
      iapply (pointsTo_union (halves_disjoint s)).2
      isplitl [H] <;> iassumption
    isplitl [Hv] <;> iassumption
  iexact HO

/-! ## The narrowed weights -/

/-- A slot of narrowed weights, filled in as far as column `n` with device `d`'s strip. -/
def WUp (c : Dev nD) (s : Fin 2) (d : Dev nD) (n : ℕ) : sProp 𝕄 :=
  iprop(∃ f : FVec F S2x4096x512 .bf16, ⌜∀ i ∈ wSet s, (i 2).val < n → f i = WB m c d i⌝ ∗ wbPts c s f)

/-- Before anything is in it, a slot is ready for any strip. -/
theorem WUp_again (c : Dev nD) (s : Fin 2) (d d' : Dev nD) (n : ℕ) : WUp m c s d n ⊢ WUp m c s d' 0 := by
  unfold WUp
  iintro ⟨%f, -, H⟩
  iexists f
  isplitr; · ipureintro; exact fun _ _ h => absurd h (Nat.not_lt_zero _)
  iexact H

/-- What the rectangle of a slot of narrowed weights touches. -/
theorem wb_sub {s : Fin 2} {off : Fin 3 → ℕ} {inb : ∀ a, off a + S1x4096x512.size a ≤ S2x4096x512.size a} (h : off = ![s.val, 0, 0]) :
    ((Memref.whole cc0_scratch1).access (Rect.unit (s := S2x4096x512) off S1x4096x512.size inb)).set = wSet s := by
  show ((View.whole cc0_scratch1).slice _).set = _
  rw [View.set_slice_whole, w_rect s off inb h]
/-- What the rectangle of half such a slot touches. -/
theorem wbh_sub {s h : Fin 2} {off : Fin 3 → ℕ} {inb : ∀ a, off a + S1x4096x256.size a ≤ S2x4096x512.size a} (ho : off = ![s.val, 0, 256 * h.val]) :
    ((Memref.whole cc0_scratch1).access (Rect.unit (s := S2x4096x512) off S1x4096x256.size inb)).set = wHalf s h := by
  show ((View.whole cc0_scratch1).slice _).set = _
  rw [View.set_slice_whole, wHalf_rect s h off inb ho]
/-- Half a slot lies in the slot. -/
theorem half_sub (s h : Fin 2) : wHalf s h ⊆ wSet s := fun i hi => by
  rw [wHalf, Finset.mem_filter] at hi
  exact Finset.mem_filter.2 ⟨Finset.mem_univ _, hi.2.1⟩

/-- The load before a store, whose value nothing uses. -/
theorem wb_peek (c : Dev nD) (s : Fin 2) (d : Dev nD) (n : ℕ) {off inb} (h : off = ![s.val, 0, 0]) {hl} {α : Type} {Q : α → sProp 𝕄} {k : FVec F S1x4096x512 .bf16 → KProg α} :
    WUp m c s d n ⊢ iprop((∀ v, iprop(WUp m c s d n -∗ runs c (k v) Q))
      -∗ runs c (.op (.load (Memref.whole cc0_scratch1) (Rect.unit (s := S2x4096x512) off S1x4096x512.size inb).toLoadRect hl) k) Q) := by
  unfold WUp
  iintro ⟨%f, %hf, H⟩ Hk
  iapply (wp_get c (mr := Memref.whole cc0_scratch1) (r := Rect.unit (s := S2x4096x512) off S1x4096x512.size inb) (S := wSet s) (wb_sub h).subset rfl) $$ H
  iintro H
  iapply Hk
  iexists f; isplitr; · ipureintro; exact hf
  iexact H
/-- A load of half a slot of narrowed weights whose value is not used. -/
theorem wbh_peek (c : Dev nD) (s h : Fin 2) (d : Dev nD) (n : ℕ) {off inb} (ho : off = ![s.val, 0, 256 * h.val]) {hl} {α : Type} {Q : α → sProp 𝕄}
    {k : FVec F S1x4096x256 .bf16 → KProg α} :
    WUp m c s d n ⊢ iprop((∀ v, iprop(WUp m c s d n -∗ runs c (k v) Q))
      -∗ runs c (.op (.load (Memref.whole cc0_scratch1) (Rect.unit (s := S2x4096x512) off S1x4096x256.size inb).toLoadRect hl) k) Q) := by
  unfold WUp
  iintro ⟨%f, %hf, H⟩ Hk
  iapply (wp_get c (mr := Memref.whole cc0_scratch1) (r := Rect.unit (s := S2x4096x512) off S1x4096x256.size inb) (S := wSet s)
    ((wbh_sub ho).subset.trans (half_sub s h)) rfl) $$ H
  iintro H
  iapply Hk
  iexists f; isplitr; · ipureintro; exact hf
  iexact H

/-- A whole slot, and its halves, read back. -/
theorem wb_read (c : Dev nD) (s : Fin 2) (d : Dev nD) {off inb} (h : off = ![s.val, 0, 0]) {hl} {α : Type} {Q : α → sProp 𝕄} {k : FVec F S1x4096x512 .bf16 → KProg α} :
    WUp m c s d 512 ⊢ iprop((WUp m c s d 512 -∗ runs c (k (wv m c d)) Q)
      -∗ runs c (.op (.load (Memref.whole cc0_scratch1) (Rect.unit (s := S2x4096x512) off S1x4096x512.size inb).toLoadRect hl) k) Q) := by
  unfold WUp
  iintro ⟨%f, %hf, H⟩ Hk
  iapply (wp_get c (mr := Memref.whole cc0_scratch1) (r := Rect.unit (s := S2x4096x512) off S1x4096x512.size inb) (S := wSet s) (v := wv m c d) (wb_sub h).subset ?hv) $$ H
  case hv =>
    rw [← wb_load m c d s off inb h]
    refine View.read_congr fun i hi => ?_
    rw [wb_sub h] at hi
    exact hf i hi (i 2).isLt
  iintro H
  iapply Hk
  iexists f; isplitr; · ipureintro; exact hf
  iexact H
/-- Loading half a slot of narrowed weights that is filled in. -/
theorem wbh_read (c : Dev nD) (s h : Fin 2) (d : Dev nD) {n : ℕ} (hn : 256 * (h.val + 1) ≤ n) {off inb} (ho : off = ![s.val, 0, 256 * h.val]) {hl} {α : Type} {Q : α → sProp 𝕄}
    {k : FVec F S1x4096x256 .bf16 → KProg α} :
    WUp m c s d n ⊢ iprop((WUp m c s d n -∗ runs c (k (wvh m c d h)) Q)
      -∗ runs c (.op (.load (Memref.whole cc0_scratch1) (Rect.unit (s := S2x4096x512) off S1x4096x256.size inb).toLoadRect hl) k) Q) := by
  unfold WUp
  iintro ⟨%f, %hf, H⟩ Hk
  iapply (wp_get c (mr := Memref.whole cc0_scratch1) (r := Rect.unit (s := S2x4096x512) off S1x4096x256.size inb) (S := wSet s) (v := wvh m c d h)
    ((wbh_sub ho).subset.trans (half_sub s h)) ?hv) $$ H
  case hv =>
    rw [← wbh_load m c d s h off inb ho]
    refine View.read_congr fun i hi => ?_
    rw [wbh_sub ho] at hi
    have hs := half_sub s h hi
    rw [wHalf, Finset.mem_filter] at hi
    exact hf i hs (by omega)
  iintro H
  iapply Hk
  iexists f; isplitr; · ipureintro; exact hf
  iexact H
/-- A whole slot read when only its first half is filled in. -/
theorem wb_read_part (c : Dev nD) (s : Fin 2) (d : Dev nD) {off inb} (h : off = ![s.val, 0, 0]) {hl} {α : Type} {Q : α → sProp 𝕄} {k : FVec F S1x4096x512 .bf16 → KProg α} :
    WUp m c s d 256 ⊢ iprop((∀ v, iprop(⌜∀ j : S1x4096x512.Idx, (j 2).val < 256 → v j = wv m c d j⌝ -∗ WUp m c s d 256 -∗ runs c (k v) Q))
      -∗ runs c (.op (.load (Memref.whole cc0_scratch1) (Rect.unit (s := S2x4096x512) off S1x4096x512.size inb).toLoadRect hl) k) Q) := by
  unfold WUp
  iintro ⟨%f, %hf, H⟩ Hk
  iapply (wp_get c (mr := Memref.whole cc0_scratch1) (r := Rect.unit (s := S2x4096x512) off S1x4096x512.size inb) (S := wSet s) (wb_sub h).subset rfl) $$ H
  iintro H
  iapply Hk $$ %_ [] [H]
  · ipureintro
    refine fun j hj => wb_part m c d s off inb h f (fun i hi => hf i (half_sub s 0 hi) ?_) j hj
    rw [wHalf, Finset.mem_filter] at hi
    have : (i 2).val / 256 = 0 := hi.2.2
    omega
  iexists f; isplitr; · ipureintro; exact hf
  iexact H

/-- Storing a whole slot, and its halves. -/
theorem wb_fill (c : Dev nD) (s : Fin 2) (d d' : Dev nD) (n : ℕ) {off inb} (h : off = ![s.val, 0, 0]) {w : FVec F S1x4096x512 .bf16} (hw : w = wv m c d) {hx hm}
    {α : Type} {Q : α → sProp 𝕄} {k : PUnit → KProg α} :
    WUp m c s d' n ⊢ iprop((WUp m c s d 512 -∗ runs c (k ⟨⟩) Q)
      -∗ runs c (.op (.store (Memref.whole cc0_scratch1) (Rect.unit (s := S2x4096x512) off S1x4096x512.size inb) w Finset.univ hx hm) k) Q) := by
  unfold WUp
  iintro ⟨%f, -, H⟩ Hk
  iapply (wp_fill c (mr := Memref.whole cc0_scratch1) (r := Rect.unit (s := S2x4096x512) off S1x4096x512.size inb) (wb_sub h) (WB m c d) ((wb_load m c d s off inb h).trans hw.symm)) $$ [H]
  · iexists f; iexact H
  iintro H
  iapply Hk
  iexists (WB m c d); isplitr; · ipureintro; exact fun _ _ _ => rfl
  iexact H
/-- Storing half a slot of narrowed weights. -/
theorem wbh_fill (c : Dev nD) (s h : Fin 2) (d : Dev nD) {off inb} (ho : off = ![s.val, 0, 256 * h.val]) {w : FVec F S1x4096x256 .bf16} (hw : w = wvh m c d h) {hx hm}
    {α : Type} {Q : α → sProp 𝕄} {k : PUnit → KProg α} :
    WUp m c s d (256 * h.val) ⊢ iprop((WUp m c s d (256 * (h.val + 1)) -∗ runs c (k ⟨⟩) Q)
      -∗ runs c (.op (.store (Memref.whole cc0_scratch1) (Rect.unit (s := S2x4096x512) off S1x4096x256.size inb) w Finset.univ hx hm) k) Q) := by
  unfold WUp
  iintro ⟨%f, %hf, H⟩ Hk
  iapply (wp_store 𝒱₀ (c : Thread nD τ) none Set.univ (m := Memref.whole cc0_scratch1) (r := Rect.unit (s := S2x4096x512) off S1x4096x256.size inb) (Mk := Finset.univ) (S := wSet s)
    (show ((Memref.whole cc0_scratch1).access (Rect.unit (s := S2x4096x512) off S1x4096x256.size inb)).set ⊆ wSet s from (wbh_sub ho).subset.trans (half_sub s h))) $$ H
  iintro H
  iapply Hk
  iexists _
  isplitr
  rotate_left
  · iexact H
  ipureintro
  intro i his hi
  rw [hw, ← wbh_load m c d s h off inb ho, View.write_read_eq_piecewise]
  by_cases hm : i ∈ wHalf s h
  · exact Finset.piecewise_eq_of_mem _ _ _ (by rw [← wbh_sub ho (inb := inb)] at hm; exact hm)
  · refine (Finset.piecewise_eq_of_notMem _ _ _ (by rw [← wbh_sub ho (inb := inb)] at hm; exact hm)).trans (hf i his ?_)
    rw [wSet, Finset.mem_filter] at his
    rw [wHalf, Finset.mem_filter] at hm
    have : ¬ (i 2).val / 256 = h.val := fun e => hm ⟨Finset.mem_univ _, his.2, e⟩
    omega

end Cert.GemmRing
-- ==== Proof.StepsR.lean ====
/- The exchange between devices and the result: the barrier, sending and receiving a block, and copying results out. -/
module

public import proofs.«01_k».proof.Proof.Steps

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

variable (K : Dev nD × CK → ℕ)

/-! ## The barrier -/

/-- What a device needs to signal `p`'s barrier by duty `d`, and to wait on its own. -/
def BarTok (p : Dev nD) (d : Fin 4) : sProp 𝕄 := dutyTok ER (barC p) 0 d
def BarKit (c : Dev nD) : sProp 𝕄 := iprop(atPos ER (barC c) 0 ∅ 0 ∗ cred (tallyAt (barC c) () 3))

/-- A signal to `p`, handing over the receive slots that `p` will fill. -/
theorem bar_signal (c p n : Dev nD) (d : Fin 4) (hn : n = p) (hd : d ∈ ({0, 1, 2} : Finset (Fin 4))) (hp : tgt d p = c)
    {sem : Sem sig} (hsem : sem = barS) {w : Int} (hw : w = ((1 : ℕ) : Int)) {O : CellTallies nD τ sig Unit} {W : Waits sig Unit}
    {α : Type} {Q : α → sProp 𝕄} {k : PUnit → KProg α} :
    iprop(Ctx m K ∗ BarTok p d ∗ barPay c p ∗ owes (c : Thread nD τ) (O + tallyAt (barC p) () 1) W)
      ⊢ iprop((owes (c : Thread nD τ) O W -∗ runs c (k ⟨⟩) Q)
        -∗ runs c (.op (.semSignal ((n : Dev nD) : Thread nD τ) sem w) k) Q) := by
  subst hn hp hsem hw
  unfold BarTok
  iintro ⟨#HC, Ht, Hp, HO⟩ Hk
  iapply (Rounds.wp_signal 𝒱₀ ER (Rd m) (tgt d n : Thread nD τ) none (dst := (n : Thread nD τ)) (κ := K (n, none)) (d := d)
    (by rw [duties_bar]; exact hd) (amount_bar m n d) () O rfl) $$ [Ht Hp HO]
  · isplitr; · iapply (Ctx_inv m K (n, none)); iexact HC
    isplitl [HO]; · iexact HO
    isplitl [Ht]; · iexact Ht
    isplitl [Hp]; · rw [payload_bar]; iexact Hp
    iapply (Ctx_reached m K (n, none)); iexact HC
  iexact Hk

/-- The wait for the three signals: the other devices' receive slots, and the barrier semaphore back at zero. -/
theorem bar_wait (c : Dev nD) {sem : Sem sig} (hsem : sem = barS) {w : Int} (hw : w = ((3 : ℕ) : Int)) {l : List (Fin 4 × Fin 4)}
    {α : Type} {Q : α → sProp 𝕄} {k : PUnit → KProg α} :
    iprop(Ctx m K ∗ BarKit c ∗ Owe c l)
      ⊢ iprop((iprop((barPay (tgt 0 c) c ∗ barPay (tgt 1 c) c ∗ barPay (tgt 2 c) c) ∗ semVal (barC c) 0 ∗ Owe c l) -∗ runs c (k ⟨⟩) Q)
        -∗ runs c (.op (.semWait sem w) k) Q) := by
  subst hsem hw
  unfold BarKit Owe
  iintro ⟨#HC, ⟨Hat, Hcr⟩, ⟨%W, HO⟩⟩ Hk
  iapply (Rounds.wp_wait_rest_token 𝒱₀ ER (Rd m) (c : Thread nD τ) none (κ := K (c, none))
    (wpE_semWait_eq 𝒱₀ (c : Thread nD τ) none Set.univ) (Set.mem_univ _) () (O := Ow c l) (W := W) (R := 0) (m := 0) (T := ∅)
    (by rw [expect_bar])) $$ [Hat Hcr HO]
  · isplitr; · iapply (Ctx_inv m K (c, none)); iexact HC
    isplitl [Hcr]; · iexact Hcr
    isplitl [HO]; · iexact HO
    isplitr; · iapply (mayWait_lt c _ l (by decide)); iapply (Ctx_lev m K); iexact HC
    iexact Hat
  iintro ⟨HO, Hat, -, Hp⟩
  ihave Hp := (Entails.of_eq (rest_bar m c)) $$ Hp
  imod (Rounds.cell_close ER (Rd m) (Set.mem_univ (K (c, none))) (fun h => h) (R := 0 + 1) (duties_later m (barC c))) $$ [Hat] with Hv
  · isplitr; · iapply (Ctx_inv m K (c, none)); iexact HC
    iexact Hat
  iapply Hk
  isplitl [Hp]; · iexact Hp
  isplitl [Hv]; · iexact Hv
  iexists _; iexact HO

/-! ## Sending a block -/

/-- The licence to send block `r` of strip `j`, without and with the slot it goes to. -/
def SendTok (c : Dev nD) (j r : Fin 4) : sProp 𝕄 :=
  iprop(dutyTok ER (sndC c j r) 0 0 ∗ dutyTok ER (rcvC (tgt j c) c r) 0 0 ∗ atPos ER (sndC c j r) 0 ∅ 0)
/-- A slot of the send buffer at whatever it holds; what is needed to fill and send it. -/
def SendFree (c : Dev nD) (j r : Fin 4) : sProp 𝕄 := iprop(∃ f, sdPts c j r f)
def SendKit (c : Dev nD) (j r : Fin 4) : sProp 𝕄 := iprop(SendTok c j r ∗ RecvSlot (tgt j c) c r ∗ SendFree c j r)
/-- The slot filled; sent; and back after the send has completed. -/
def SendHas (c : Dev nD) (j r : Fin 4) : sProp 𝕄 := iprop(SendTok c j r ∗ RecvSlot (tgt j c) c r ∗ sdPts c j r (SEND m c))
def SendGone (c : Dev nD) (j r : Fin 4) : sProp 𝕄 := iprop(atPos ER (sndC c j r) 0 ∅ 0 ∗ cred (tallyAt (sndC c j r) () NB))
def SendDone (c : Dev nD) (j r : Fin 4) : sProp 𝕄 := iprop(sdPts c j r (SEND m c) ∗ semVal (sndC c j r) 0)

/-- What a send slot's rectangle touches. -/
theorem sd_sub {j r : Fin 4} {off : Fin 4 → ℕ} {inb : ∀ a, off a + S1x1x256x512.size a ≤ S4x4x256x512.size a} (h : off = ![j.val, r.val, 0, 0]) :
    ((Memref.whole cc0_scratch6).access (Rect.unit (s := S4x4x256x512) off S1x1x256x512.size inb)).set = slot j r := by
  show ((View.whole cc0_scratch6).slice _).set = _
  rw [View.set_slice_whole, slot_rect j r off inb h]
/-- What a send slot's reference touches. -/
theorem sdm_set {j r : Fin 4} {off : Fin 4 → ℕ} {inb : ∀ a, off a + S1x1x256x512.size a ≤ S4x4x256x512.size a} (h : off = ![j.val, r.val, 0, 0]) :
    (sdM off inb).view.set = slot j r :=
  (View.set_reshape _ _).trans ((View.set_slice_whole _ _).trans (slot_rect j r off inb h))
/-- What a receive slot's reference touches. -/
theorem rcm_set {s r : Fin 4} {off : Fin 4 → ℕ} {inb : ∀ a, off a + S1x1x256x512.size a ≤ S4x4x256x512.size a} (h : off = ![s.val, r.val, 0, 0]) :
    (rcM off inb).view.set = slot s r :=
  (View.set_reshape _ _).trans ((View.set_slice_whole _ _).trans (slot_rect s r off inb h))

/-- A load of a send slot whose value is not used. -/
theorem sd_peek (c : Dev nD) (j r : Fin 4) {off inb} (h : off = ![j.val, r.val, 0, 0]) {hl} {α : Type} {Q : α → sProp 𝕄} {k : FVec F S1x1x256x512 .bf16 → KProg α} :
    SendKit c j r ⊢ iprop((∀ v, iprop(SendKit c j r -∗ runs c (k v) Q))
      -∗ runs c (.op (.load (Memref.whole cc0_scratch6) (Rect.unit (s := S4x4x256x512) off S1x1x256x512.size inb).toLoadRect hl) k) Q) := by
  unfold SendKit SendFree
  iintro ⟨Ht, Hr, H⟩ Hk
  iapply (wp_peek c (mr := Memref.whole cc0_scratch6) (r := Rect.unit (s := S4x4x256x512) off S1x1x256x512.size inb) (S := slot j r) (sd_sub h).subset) $$ H
  iintro %v H
  iapply Hk
  isplitl [Ht]; · iexact Ht
  isplitl [Hr] <;> iassumption

/-- Storing a block into its send slot. -/
theorem sd_fill (c : Dev nD) (j r : Fin 4) {off inb} (h : off = ![j.val, r.val, 0, 0]) {w : FVec F S1x1x256x512 .bf16} (hw : w = blk m c j r) {hx hm}
    {α : Type} {Q : α → sProp 𝕄} {k : PUnit → KProg α} :
    SendKit c j r ⊢ iprop((SendHas m c j r -∗ runs c (k ⟨⟩) Q)
      -∗ runs c (.op (.store (Memref.whole cc0_scratch6) (Rect.unit (s := S4x4x256x512) off S1x1x256x512.size inb) w Finset.univ hx hm) k) Q) := by
  unfold SendKit SendFree SendHas
  iintro ⟨Ht, Hr, H⟩ Hk
  iapply (wp_fill c (mr := Memref.whole cc0_scratch6) (r := Rect.unit (s := S4x4x256x512) off S1x1x256x512.size inb) (S := slot j r) (sd_sub h) (SEND m c) ((sd_read m c j r off inb h).trans hw.symm)) $$ H
  iintro H
  iapply Hk
  isplitl [Ht]; · iexact Ht
  isplitl [Hr] <;> iassumption

/-- Starting a block's remote copy: it pays both its semaphores, with the receive slot that the barrier handed over. -/
theorem sd_send (c n : Dev nD) (j r : Fin 4) (hn : n = tgt j c) (hj : j ≠ 3) {l : List (Fin 4 × Fin 4)}
    {off inb off' inb'} (h : off = ![j.val, r.val, 0, 0]) (h' : off' = ![c.val, r.val, 0, 0])
    {s₁ s₂ : DmaSem sig} (hs₁ : s₁ = sQ j r) (hs₂ : s₂ = rQ c r)
    {hsc : (rcM off' inb' : Memref sig (Dev.tc n : Thread nD τ).2.kind .vmem S256x512 .bf16).view.ref.isScScratch = false}
    {hsrc : (sdM off inb).view.WordExact} {hdst : (rcM off' inb' : Memref sig (Dev.tc n : Thread nD τ).2.kind .vmem S256x512 .bf16).view.WordExact}
    {hsem : DmaTarget.Typed .vmem (.dma s₂) (.remote (Dev.tc n : Thread nD τ) (rcM off' inb' : Memref sig (Dev.tc n : Thread nD τ).2.kind .vmem S256x512 .bf16) (.dma s₁) hsc)}
    {α : Type} {Q : α → sProp 𝕄} {k : PUnit → KProg α} :
    iprop(Ctx m K ∗ SendHas m c j r ∗ Owe c ((j, r) :: l))
      ⊢ iprop((iprop(SendGone c j r ∗ Owe c l) -∗ runs c (k ⟨⟩) Q)
        -∗ runs c (.op (.enqueueDma (sdM off inb) (.remote (Dev.tc n : Thread nD τ) (rcM off' inb') (.dma s₁) hsc) (.dma s₂) hsrc hdst hsem) k) Q) := by
  subst hn hs₁ hs₂
  unfold SendHas SendTok RecvSlot SendGone Owe
  iintro ⟨#HC, ⟨⟨Ht1, Ht2, Hat⟩, ⟨%fd, Hd⟩, Hs⟩, ⟨%W, HO⟩⟩ Hk
  ihave Hs := (Entails.of_eq (congrArg (fun S => (((c : Thread nD τ).loc cc0_scratch6) ↦[S]{fullShare} SEND m c : sProp 𝕄)) (sdm_set (inb := inb) h).symm)) $$ Hs
  ihave Hd := (Entails.of_eq (congrArg (fun S => (((tgt j c : Thread nD τ).loc cc0_scratch7) ↦[S]{fullShare} fd : sProp 𝕄)) (rcm_set (inb := inb') h').symm)) $$ Hd
  iapply (Rounds.wp_send_pointsTo 𝒱₀ ER (Rd m) (c : Thread nD τ) none (κ₁ := K (c, some (false, j, r))) (κ₂ := K (tgt j c, some (true, c, r)))
    (r₁ := 0) (r₂ := 0) (d₁ := 0) (d₂ := 0) (c' := (tgt j c : Thread nD τ)) (src := sdM off inb) (dst := rcM off' inb') (fs := SEND m c) (fd := fd)
    (by rw [duties_snd m c hj]; exact Finset.mem_singleton_self _) (by rw [duties_rcv m (tgt j c) (tgt_ne hj c).symm]; exact Finset.mem_singleton_self _)
    () () NB rfl (amount_snd m c j r 0) (amount_rcv m (tgt j c) c r 0) (Ow c l) rfl (W := W) ?p1 ?p2) $$ [Ht1 Ht2 Hs Hd HO]
  case p1 =>
    rw [payload_snd]
    exact Entails.of_eq (congrArg (fun S => (((c : Thread nD τ).loc cc0_scratch6) ↦[S]{fullShare} SEND m c : sProp 𝕄)) (sdm_set (inb := inb) h))
  case p2 =>
    rw [payload_rcv]
    refine Entails.of_eq ?_
    refine (congrArg (fun S => (((tgt j c : Thread nD τ).loc cc0_scratch7) ↦[S]{fullShare} _ : sProp 𝕄)) (rcm_set (inb := inb') h')).trans (pointsTo_congr fun i hi => ?_)
    show (rcM off' inb').view.write (Elt F) fd ((sdM off inb).view.read (Elt F) (SEND m c)) Finset.univ i = RECV m (tgt j c) i
    rw [blk_lands m c j r off inb off' inb' h h', View.write_read_eq_piecewise]
    exact Finset.piecewise_eq_of_mem _ _ _ (by rw [← rcm_set (inb := inb') h'] at hi; exact hi)
  · isplitr; · iapply (Ctx_inv m K (c, some (false, j, r))); iexact HC
    isplitr; · iapply (Ctx_inv m K (tgt j c, some (true, c, r))); iexact HC
    isplitl [Hs]; · iexact Hs
    isplitl [Hd]; · iexact Hd
    isplitl [HO]; · iexact HO
    isplitl [Ht1]; · iexact Ht1
    isplitr; · iapply (Ctx_reached m K (c, some (false, j, r))); iexact HC
    isplitl [Ht2]; · iexact Ht2
    iapply (Ctx_reached m K (tgt j c, some (true, c, r))); iexact HC
  iintro ⟨Hcr, HO⟩
  iapply Hk
  isplitr [HO]
  · isplitl [Hat] <;> iassumption
  iexists W; iexact HO

/-- The wait for a send to complete. -/
theorem sd_wait (c : Dev nD) (j r : Fin 4) (hj : j ≠ 3) {l : List (Fin 4 × Fin 4)} {sp sp' : Space} {s s' : Shape} {e e' : EltTy} {κ' : Kind}
    {srcw : Memref sig .tc sp' s' e'} {dstw : Memref sig κ' sp s e} (hN : dstw.view.dmaCredit = NB) {hsrc : srcw.view.WordExact} {hdst : dstw.view.WordExact}
    {sm : DmaSem sig} (hsm : sm = sQ j r) {α : Type} {Q : α → sProp 𝕄} {k : PUnit → KProg α} :
    iprop(Ctx m K ∗ SendGone c j r ∗ Owe c l)
      ⊢ iprop((iprop(SendDone m c j r ∗ Owe c l) -∗ runs c (k ⟨⟩) Q)
        -∗ runs c (.op (.waitDma2 sm srcw dstw hsrc hdst) k) Q) := by
  subst hsm
  unfold SendGone SendDone Owe
  iintro ⟨#HC, ⟨Hat, Hcr⟩, ⟨%W, HO⟩⟩ Hk
  iapply (Rounds.wp_wait_rest_token 𝒱₀ ER (Rd m) (c : Thread nD τ) none (κ := K (c, some (false, j, r)))
    (wpE_waitDma2_eq 𝒱₀ (c : Thread nD τ) none Set.univ) (Set.mem_univ _) () (O := Ow c l) (W := W) (R := 0) (m := 0) (T := ∅)
    (by rw [Nat.zero_add, expect_snd m c hj]; exact hN)) $$ [Hat Hcr HO]
  · isplitr; · iapply (Ctx_inv m K (c, some (false, j, r))); iexact HC
    isplitl [Hcr]; · rw [hN]; iexact Hcr
    isplitl [HO]; · iexact HO
    isplitr; · iapply (mayWait_lt c _ l (by rw [role_snd]; exact Nat.zero_lt_two)); iapply (Ctx_lev m K); iexact HC
    iexact Hat
  iintro ⟨HO, Hat, -, Hp⟩
  ihave Hp := (Entails.of_eq (rest_snd m c hj r)) $$ Hp
  imod (Rounds.cell_close ER (Rd m) (Set.mem_univ (K (c, some (false, j, r)))) (fun h => h) (R := 0 + 1) (duties_later m (sndC c j r))) $$ [Hat] with Hv
  · isplitr; · iapply (Ctx_inv m K (c, some (false, j, r))); iexact HC
    iexact Hat
  iapply Hk
  isplitl [Hp Hv]; · isplitl [Hp] <;> iassumption
  iexists _; iexact HO

/-! ## Receiving a block -/

/-- The receive slot of block `r` of the strip that comes from `frm j c`: awaited; received. -/
def RecvKit (c : Dev nD) (j r : Fin 4) : sProp 𝕄 :=
  iprop(atPos ER (rcvC c (frm j c) r) 0 ∅ 0 ∗ cred (tallyAt (rcvC c (frm j c) r) () NB))
def RecvHas (c : Dev nD) (j r : Fin 4) : sProp 𝕄 := iprop(rcPts c (frm j c) r (RECV m c) ∗ semVal (rcvC c (frm j c) r) 0)

/-- Waiting for a block to land. -/
theorem rc_wait (c : Dev nD) (j r : Fin 4) (hj : j ≠ 3) {sp sp' : Space} {s s' : Shape} {e e' : EltTy} {κ' : Kind}
    {srcw : Memref sig .tc sp' s' e'} {dstw : Memref sig κ' sp s e} (hN : dstw.view.dmaCredit = NB) {hsrc : srcw.view.WordExact} {hdst : dstw.view.WordExact}
    {sm : DmaSem sig} (hsm : sm = rQ (frm j c) r) {α : Type} {Q : α → sProp 𝕄} {k : PUnit → KProg α} :
    iprop(Ctx m K ∗ RecvKit c j r ∗ Owe c [])
      ⊢ iprop((iprop(RecvHas m c j r ∗ Owe c []) -∗ runs c (k ⟨⟩) Q)
        -∗ runs c (.op (.waitDma2 sm srcw dstw hsrc hdst) k) Q) := by
  subst hsm
  unfold RecvKit RecvHas Owe
  iintro ⟨#HC, ⟨Hat, Hcr⟩, ⟨%W, HO⟩⟩ Hk
  iapply (Rounds.wp_wait_rest_token 𝒱₀ ER (Rd m) (c : Thread nD τ) none (κ := K (c, some (true, frm j c, r)))
    (wpE_waitDma2_eq 𝒱₀ (c : Thread nD τ) none Set.univ) (Set.mem_univ _) () (O := Ow c []) (W := W) (R := 0) (m := 0) (T := ∅)
    (by rw [Nat.zero_add, expect_rcv m c (frm_ne hj c)]; exact hN)) $$ [Hat Hcr HO]
  · isplitr; · iapply (Ctx_inv m K (c, some (true, frm j c, r))); iexact HC
    isplitl [Hcr]; · rw [hN]; iexact Hcr
    isplitl [HO]; · iexact HO
    isplitr; · iapply (mayWait_nil c); iapply (Ctx_lev m K); iexact HC
    iexact Hat
  iintro ⟨HO, Hat, -, Hp⟩
  ihave Hp := (Entails.of_eq (rest_rcv m c (frm_ne hj c) r)) $$ Hp
  imod (Rounds.cell_close ER (Rd m) (Set.mem_univ (K (c, some (true, frm j c, r)))) (fun h => h) (R := 0 + 1) (duties_later m (rcvC c (frm j c) r))) $$ [Hat] with Hv
  · isplitr; · iapply (Ctx_inv m K (c, some (true, frm j c, r))); iexact HC
    iexact Hat
  iapply Hk
  isplitl [Hp Hv]; · isplitl [Hp] <;> iassumption
  iexists _; iexact HO

/-- Loading a block that has landed. -/
theorem rc_load (c : Dev nD) (j r : Fin 4) {off inb} (h : off = ![(frm j c).val, r.val, 0, 0]) {hl} {α : Type} {Q : α → sProp 𝕄} {k : FVec F S1x1x256x512 .bf16 → KProg α} :
    RecvHas m c j r ⊢ iprop((RecvHas m c j r -∗ runs c (k (blk m (frm j c) j r)) Q)
      -∗ runs c (.op (.load (Memref.whole cc0_scratch7) (Rect.unit (s := S4x4x256x512) off S1x1x256x512.size inb).toLoadRect hl) k) Q) := by
  unfold RecvHas
  iintro ⟨H, Hv⟩ Hk
  iapply (wp_get c (mr := Memref.whole cc0_scratch7) (r := Rect.unit (s := S4x4x256x512) off S1x1x256x512.size inb) (S := slot (frm j c) r)
    (by show ((View.whole cc0_scratch7).slice _).set ⊆ _; rw [View.set_slice_whole, slot_rect (frm j c) r off inb h]) (rc_read m c j r off inb h)) $$ H
  iintro H
  iapply Hk
  isplitl [H] <;> iassumption

/-! ## The result -/

abbrev NR : ℕ := (orM ![0, 0] (by decide)).view.dmaCredit
abbrev NO : ℕ := (orHM ![0, 0] (by decide)).view.dmaCredit
/-- A received block's copy to the result brings a positive count. -/
theorem NR_pos : 0 < NR := View.dmaCredit_pos _ (by decide)
/-- An own half's copy to the result brings a positive count. -/
theorem NO_pos : 0 < NO := View.dmaCredit_pos _ (by decide)
/-- The result's semaphores lie below the receive semaphores. -/
theorem out_level (a r : Fin 4) : level (role (.dma (oQ a r))) < 2 := by
  have h : ∀ a r : Fin 4, level (role (.dma (oQ a r))) < 2 := by intro a r; fin_cases a <;> fin_cases r <;> decide
  exact h a r

/-- A part of the result, staged and in place: neither yet; staged; being copied; in place. -/
def OutFree (c : Dev nD) (j r : Fin 4) : sProp 𝕄 := iprop((∃ f, ogPts c j r f) ∗ (∃ f, orPts c j r f) ∗ semVal ((c : Thread nD τ), .dma (oQ (orow j) r)) 0)
def OutHas (c : Dev nD) (j r : Fin 4) : sProp 𝕄 := iprop(ogPts c j r (OUT m c) ∗ (∃ f, orPts c j r f) ∗ semVal ((c : Thread nD τ), .dma (oQ (orow j) r)) 0)
def OutFly (c : Dev nD) (j r : Fin 4) : sProp 𝕄 :=
  Flight EC (c : Thread nD τ) (.dma (oQ (orow j) r)) () (if j = 3 then NO else NR) iprop(orPts c j r (OUT m c) ∗ ogPts c j r (OUT m c))
def OutDone (c : Dev nD) (j r : Fin 4) : sProp 𝕄 :=
  iprop((orPts c j r (OUT m c) ∗ ogPts c j r (OUT m c)) ∗ semVal ((c : Thread nD τ), .dma (oQ (orow j) r)) 0)

/-- What a received block's rectangle of the stage touches. -/
theorem og_sub {c : Dev nD} {j r : Fin 4} (hj : j ≠ 3) {off : Fin 2 → ℕ} {inb : ∀ a, off a + S256x512.size a ≤ S4096x512.size a} (h : off = ![1024 * (frm j c).val + 256 * r.val, 0]) :
    ((Memref.whole cc0_scratch10).access (Rect.unit (s := S4096x512) off S256x512.size inb)).set = outSet c j r := by
  show ((View.whole cc0_scratch10).slice _).set = _
  rw [View.set_slice_whole, out_rect c r hj off inb h]
/-- What an own half's rectangle of the stage touches. -/
theorem ogH_sub {c : Dev nD} (h : Fin 2) {r : Fin 4} (hr : r.val = h.val) {off : Fin 2 → ℕ} {inb : ∀ a, off a + S1024x256.size a ≤ S4096x512.size a} (ho : off = ![1024 * c.val, 256 * h.val]) :
    ((Memref.whole cc0_scratch10).access (Rect.unit (s := S4096x512) off S1024x256.size inb)).set = outSet c 3 r := by
  show ((View.whole cc0_scratch10).slice _).set = _
  rw [View.set_slice_whole, out_rect_own c h hr off inb ho]
/-- What the stage's reference to a received block touches. -/
theorem ogm_set {c : Dev nD} {j r : Fin 4} (hj : j ≠ 3) {off inb} (h : off = ![1024 * (frm j c).val + 256 * r.val, 0]) : (ogM off inb).view.set = outSet c j r :=
  (View.set_slice_whole _ _).trans (out_rect c r hj off inb h)
/-- What the result's reference to a received block touches. -/
theorem orm_set {c : Dev nD} {j r : Fin 4} (hj : j ≠ 3) {off inb} (h : off = ![1024 * (frm j c).val + 256 * r.val, 0]) : (orM off inb).view.set = outSet c j r :=
  (View.set_slice_whole _ _).trans (out_rect c r hj off inb h)
/-- What the stage's reference to an own half touches. -/
theorem ogHm_set {c : Dev nD} (h : Fin 2) {r : Fin 4} (hr : r.val = h.val) {off inb} (ho : off = ![1024 * c.val, 256 * h.val]) : (ogHM off inb).view.set = outSet c 3 r :=
  (View.set_slice_whole _ _).trans (out_rect_own c h hr off inb ho)
/-- What the result's reference to an own half touches. -/
theorem orHm_set {c : Dev nD} (h : Fin 2) {r : Fin 4} (hr : r.val = h.val) {off inb} (ho : off = ![1024 * c.val, 256 * h.val]) : (orHM off inb).view.set = outSet c 3 r :=
  (View.set_slice_whole _ _).trans (out_rect_own c h hr off inb ho)

/-- A load of a received block's place in the stage whose value is not used. -/
theorem og_peek (c : Dev nD) (j r : Fin 4) (hj : j ≠ 3) {off inb} (h : off = ![1024 * (frm j c).val + 256 * r.val, 0]) {hl} {α : Type} {Q : α → sProp 𝕄} {k : FVec F S256x512 .f32 → KProg α} :
    OutFree c j r ⊢ iprop((∀ v, iprop(OutFree c j r -∗ runs c (k v) Q))
      -∗ runs c (.op (.load (Memref.whole cc0_scratch10) (Rect.unit (s := S4096x512) off S256x512.size inb).toLoadRect hl) k) Q) := by
  unfold OutFree
  iintro ⟨H, Hr⟩ Hk
  iapply (wp_peek c (mr := Memref.whole cc0_scratch10) (r := Rect.unit (s := S4096x512) off S256x512.size inb) (S := outSet c j r) (og_sub hj h).subset) $$ H
  iintro %v H
  iapply Hk
  isplitl [H] <;> iassumption
/-- A load of an own half's place in the stage whose value is not used. -/
theorem ogH_peek (c : Dev nD) (h : Fin 2) {r : Fin 4} (hr : r.val = h.val) {off inb} (ho : off = ![1024 * c.val, 256 * h.val]) {hl} {α : Type} {Q : α → sProp 𝕄} {k : FVec F S1024x256 .f32 → KProg α} :
    OutFree c 3 r ⊢ iprop((∀ v, iprop(OutFree c 3 r -∗ runs c (k v) Q))
      -∗ runs c (.op (.load (Memref.whole cc0_scratch10) (Rect.unit (s := S4096x512) off S1024x256.size inb).toLoadRect hl) k) Q) := by
  unfold OutFree
  iintro ⟨H, Hr⟩ Hk
  iapply (wp_peek c (mr := Memref.whole cc0_scratch10) (r := Rect.unit (s := S4096x512) off S1024x256.size inb) (S := outSet c 3 r) (ogH_sub h hr ho).subset) $$ H
  iintro %v H
  iapply Hk
  isplitl [H] <;> iassumption

/-- Storing a received block into the stage. -/
theorem og_fill (c : Dev nD) (j r : Fin 4) (hj : j ≠ 3) {off inb} (h : off = ![1024 * (frm j c).val + 256 * r.val, 0]) {w : FVec F S256x512 .f32} (hw : w = k0_pay34 (blk m (frm j c) j r)) {hx hm}
    {α : Type} {Q : α → sProp 𝕄} {k : PUnit → KProg α} :
    OutFree c j r ⊢ iprop((OutHas m c j r -∗ runs c (k ⟨⟩) Q)
      -∗ runs c (.op (.store (Memref.whole cc0_scratch10) (Rect.unit (s := S4096x512) off S256x512.size inb) w Finset.univ hx hm) k) Q) := by
  unfold OutFree OutHas
  iintro ⟨H, Hr⟩ Hk
  iapply (wp_fill c (mr := Memref.whole cc0_scratch10) (r := Rect.unit (s := S4096x512) off S256x512.size inb) (S := outSet c j r) (og_sub hj h) (OUT m c) ((og_read m c j r hj off inb h).trans hw.symm)) $$ H
  iintro H
  iapply Hk
  isplitl [H] <;> iassumption
/-- Storing half the own strip into the stage. -/
theorem ogH_fill (c : Dev nD) (h : Fin 2) {r : Fin 4} (hr : r.val = h.val) {off inb} (ho : off = ![1024 * c.val, 256 * h.val]) {w : FVec F S1024x256 .f32} (hw : w = own m c h) {hx hm}
    {α : Type} {Q : α → sProp 𝕄} {k : PUnit → KProg α} :
    OutFree c 3 r ⊢ iprop((OutHas m c 3 r -∗ runs c (k ⟨⟩) Q)
      -∗ runs c (.op (.store (Memref.whole cc0_scratch10) (Rect.unit (s := S4096x512) off S1024x256.size inb) w Finset.univ hx hm) k) Q) := by
  unfold OutFree OutHas
  iintro ⟨H, Hr⟩ Hk
  iapply (wp_fill c (mr := Memref.whole cc0_scratch10) (r := Rect.unit (s := S4096x512) off S1024x256.size inb) (S := outSet c 3 r) (ogH_sub h hr ho) (OUT m c) ((ogH_read m c h off inb ho).trans hw.symm)) $$ H
  iintro H
  iapply Hk
  isplitl [H] <;> iassumption

/-- Starting a received block's copy to the result. -/
theorem og_start (c : Dev nD) (j r : Fin 4) (hj : j ≠ 3) {off inb inb'} (h : off = ![1024 * (frm j c).val + 256 * r.val, 0])
    {sm : DmaSem sig} (hsm : sm = oQ (orow j) r) {hsrc hdst hsem} {α : Type} {Q : α → sProp 𝕄} {k : PUnit → KProg α} :
    OutHas m c j r
      ⊢ iprop((OutFly m c j r -∗ runs c (k ⟨⟩) Q)
        -∗ runs c (.op (.enqueueDma (ogM off inb) (.here (orM off inb')) (.dma sm) hsrc hdst hsem) k) Q) := by
  subst hsm
  unfold OutHas OutFly
  iintro ⟨Hs, Hd, Hv⟩ Hk
  ihave Hs := (Entails.of_eq (congrArg (fun S => (((c : Thread nD τ).loc cc0_scratch10) ↦[S]{fullShare} OUT m c : sProp 𝕄)) (ogm_set (inb := inb) hj h).symm)) $$ Hs
  iapply (wp_copy c (src := ogM off inb) (dst := orM off inb') (fs := OUT m c) (orm_set hj h) NR rfl NR_pos (OUT m c) (out_lands m c off inb inb')) $$ [Hs Hd Hv]
  · isplitl [Hs]; · iexact Hs
    isplitl [Hd] <;> iassumption
  iintro H
  iapply Hk
  rw [if_neg hj]
  iapply (Flight_mono EC (c : Thread nD τ) (sep_mono_right
    (Entails.of_eq (congrArg (fun S => (((c : Thread nD τ).loc cc0_scratch10) ↦[S]{fullShare} OUT m c : sProp 𝕄)) (ogm_set (inb := inb) hj h))))) $$ H
/-- Starting an own half's copy to the result. -/
theorem ogH_start (c : Dev nD) (h : Fin 2) {r : Fin 4} (hr : r.val = h.val) {off inb inb'} (ho : off = ![1024 * c.val, 256 * h.val])
    {sm : DmaSem sig} (hsm : sm = oQ 3 r) {hsrc hdst hsem} {α : Type} {Q : α → sProp 𝕄} {k : PUnit → KProg α} :
    OutHas m c 3 r
      ⊢ iprop((OutFly m c 3 r -∗ runs c (k ⟨⟩) Q)
        -∗ runs c (.op (.enqueueDma (ogHM off inb) (.here (orHM off inb')) (.dma sm) hsrc hdst hsem) k) Q) := by
  subst hsm
  unfold OutHas OutFly
  iintro ⟨Hs, Hd, Hv⟩ Hk
  ihave Hs := (Entails.of_eq (congrArg (fun S => (((c : Thread nD τ).loc cc0_scratch10) ↦[S]{fullShare} OUT m c : sProp 𝕄)) (ogHm_set (inb := inb) h hr ho).symm)) $$ Hs
  iapply (wp_copy c (src := ogHM off inb) (dst := orHM off inb') (fs := OUT m c) (orHm_set h hr ho) NO rfl NO_pos (OUT m c) (outH_lands m c off inb inb')) $$ [Hs Hd Hv]
  · isplitl [Hs]; · iexact Hs
    isplitl [Hd]; · iexact Hd
    iexact Hv
  iintro H
  iapply Hk
  rw [if_pos rfl]
  iapply (Flight_mono EC (c : Thread nD τ) (sep_mono_right
    (Entails.of_eq (congrArg (fun S => (((c : Thread nD τ).loc cc0_scratch10) ↦[S]{fullShare} OUT m c : sProp 𝕄)) (ogHm_set (inb := inb) h hr ho))))) $$ H

/-- Waiting for a piece of the result. -/
theorem out_wait (c : Dev nD) (j r : Fin 4) {l : List (Fin 4 × Fin 4)} {sp sp' : Space} {s s' : Shape} {e e' : EltTy} {κ' : Kind}
    {srcw : Memref sig .tc sp' s' e'} {dstw : Memref sig κ' sp s e} (hN : dstw.view.dmaCredit = if j = 3 then NO else NR) {hsrc : srcw.view.WordExact} {hdst : dstw.view.WordExact}
    {sm : DmaSem sig} (hsm : sm = oQ (orow j) r) {α : Type} {Q : α → sProp 𝕄} {k : PUnit → KProg α} :
    iprop(Ctx m K ∗ OutFly m c j r ∗ Owe c l)
      ⊢ iprop((iprop(OutDone m c j r ∗ Owe c l) -∗ runs c (k ⟨⟩) Q)
        -∗ runs c (.op (.waitDma2 sm srcw dstw hsrc hdst) k) Q) := by
  subst hsm
  unfold OutFly OutDone
  iintro H Hk
  iapply (wp_arrive m K c (srcw := srcw) (dstw := dstw) (hsrc := hsrc) (hdst := hdst) hN (out_level (orow j) r)) $$ H
  iintro ⟨Hd, Hv, HO⟩
  iapply Hk
  isplitl [Hd Hv]; · isplitl [Hd] <;> iassumption
  iexact HO

end Cert.GemmRing
-- ==== Proof.Steps0.lean ====
/- Two fills of the converted buffers, with the amount done as a numeral. -/
module

public import proofs.«01_k».proof.Proof.StepsW
public import proofs.«01_k».proof.Proof.StepsR
public import proofs.«01_k».proof.Proof.Offsets

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

/-- The own strip of weights starts at column `512 c`. -/
theorem off1_own0 (c : Dev nD) : k0_off1 c 0#32 0#32 = ![0, 512 * c.val] := by
  revert c; decide
/-- The second half of the own strip of weights. -/
theorem off1_own1 (c : Dev nD) : k0_off1 c 0#32 256#32 = ![0, 512 * c.val + 256] := by
  revert c; decide

/-- The first strip starts at column `512` times its owner. -/
theorem off1_at0 (c : Dev nD) : k0_off1 c 2#32 0#32 = ![0, 512 * (tgt 0 c).val] := by
  revert c; decide
/-- The second half of the first strip of weights. -/
theorem off1_at1 (c : Dev nD) : k0_off1 c 2#32 256#32 = ![0, 512 * (tgt 0 c).val + 256] := by
  revert c; decide

/-- A program that first asks for its device goes on at `c`. -/
theorem dev_first (c : Dev nD) {α : Type} {f : Dev nD → KProg α} {Q : α → sProp 𝕄} {R A : sProp 𝕄}
    (h : R ⊢ iprop(A -∗ runs c (f c) Q)) : R ⊢ iprop(A -∗ runs c (.op .deviceId f) Q) := by
  have e : runs c (.op .deviceId f) Q = runs c (f c) Q := wp_deviceId 𝒱₀ (c : Thread nD τ) none Set.univ (k := f)
  rw [e]; exact h

/-- Block `r` of the rows is converted. -/
theorem xb_put (c : Dev nD) (r : Fin 4) (n n' : ℕ) (hn : n = r.val) (hn' : n' = r.val + 1) {off inb} (h : off = ![256 * r.val, 0])
    {w : FVec F S256x4096 .bf16} (hw : w = xv m c r) {hx hm} {α : Type} {Q : α → sProp 𝕄} {k : PUnit → KProg α} :
    XUp m c n ⊢ iprop((XUp m c n' -∗ runs c (k ⟨⟩) Q)
      -∗ runs c (.op (.store (Memref.whole cc0_scratch0) (Rect.unit (s := S1024x4096) off S256x4096.size inb) w Finset.univ hx hm) k) Q) := by
  subst hn hn'
  exact xb_fill m c r h hw

/-- Half `h` of a strip is converted. -/
theorem wbh_put (c : Dev nD) (s h : Fin 2) (d : Dev nD) (n n' : ℕ) (hn : n = 256 * h.val) (hn' : n' = 256 * (h.val + 1))
    {off inb} (ho : off = ![s.val, 0, 256 * h.val]) {w : FVec F S1x4096x256 .bf16} (hw : w = wvh m c d h) {hx hm}
    {α : Type} {Q : α → sProp 𝕄} {k : PUnit → KProg α} :
    WUp m c s d n ⊢ iprop((WUp m c s d n' -∗ runs c (k ⟨⟩) Q)
      -∗ runs c (.op (.store (Memref.whole cc0_scratch1) (Rect.unit (s := S2x4096x512) off S1x4096x256.size inb) w Finset.univ hx hm) k) Q) := by
  subst hn hn'
  exact wbh_fill m c s h d ho hw

end Cert.GemmRing
-- ==== Proof.PartsA.lean ====
/- Triples of parts of the kernel: each says what the part takes and what it leaves. -/
module

public import proofs.«01_k».proof.Proof.Steps0

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

variable (K : Dev nD × CK → ℕ)

/-- Part 1 starts the first half of the first strip of weights and the first block of rows. -/
theorem part1 (c : Dev nD)  {α : Type} {Q : α → sProp 𝕄} {k : (Σ' (d0 : Dev nD) (v2 : BitVec 32) (v28 : BitVec 32), BitVec 32) → KProg α} :
    iprop(Arg0 m c ∗ Arg1 m c ∗ XFree c 0 ∗ WSFree c 0)
      ⊢ iprop((∀ v2 v28 v29, iprop(Arg0 m c ∗ Arg1 m c ∗ XFly m c 0 0 ∗ WH1 m c 0 (tgt 0 c)) -∗ runs c (k ⟨c, v2, v28, v29⟩) Q)
        -∗ runs c (k0_part1 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 >>= k) Q) := by
  simp only [k0_part1_eq_skeleton]; unfold k0_part1_skel
  simp only [Prog.lift, Prog.bind_op, Prog.bind_ret, Prog.pure_eq_ret, Prog.bind_assoc]
  refine dev_first c ?_
  iintro ⟨HA0, HA1, HX0, HW0⟩ Hk
  iapply (wh_start0 m c 0 (tgt 0 c) rfl (off1_at0 c) rfl) $$ [HA1 HW0]
  · isplitl [HA1] <;> iassumption
  iintro ⟨HA1, HW0⟩
  iapply (x_start m c 0 0 rfl rfl rfl) $$ [HA0 HX0]
  · isplitl [HA0] <;> iassumption
  iintro ⟨HA0, HX0⟩
  iapply Hk $$ %_ %_ %_ [HA0 HA1 HX0 HW0]
  isplitl [HA0]; · iexact HA0
  isplitl [HA1]; · iexact HA1
  isplitl [HX0]; · iexact HX0
  iexact HW0

/-- Part 2 starts the second half and the second block of rows. -/
theorem part2 (c : Dev nD) (v2 : BitVec 32) (v28 : BitVec 32) (v29 : BitVec 32) {α : Type} {Q : α → sProp 𝕄} {k : (Σ' (v49 : Sems sig S_), BitVec 32) → KProg α} :
    iprop(Arg0 m c ∗ Arg1 m c ∗ XFree c 1 ∗ WH1 m c 0 (tgt 0 c))
      ⊢ iprop((∀ v61, iprop(Arg0 m c ∗ Arg1 m c ∗ XFly m c 1 1 ∗ WH2 m c 0 (tgt 0 c)) -∗ runs c (k ⟨(SemArray.scalar (sig.barrier 0 rfl)), v61⟩) Q)
        -∗ runs c (k0_part2 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v28 v29 >>= k) Q) := by
  simp only [k0_part2_eq_skeleton]; unfold k0_part2_skel
  simp only [Prog.lift, Prog.bind_op, Prog.bind_ret, Prog.pure_eq_ret, Prog.bind_assoc]
  iintro ⟨HA0, HA1, HX1, HW0⟩ Hk
  iapply (wh_start1 m c 0 (tgt 0 c) rfl (off1_at1 c) rfl) $$ [HA1 HW0]
  · isplitl [HA1] <;> iassumption
  iintro ⟨HA1, HW0⟩
  iapply (x_start m c 1 1 rfl rfl rfl) $$ [HA0 HX1]
  · isplitl [HA0] <;> iassumption
  iintro ⟨HA0, HX1⟩
  iapply Hk $$ %_ [HA0 HA1 HX1 HW0]
  isplitl [HA0]; · iexact HA0
  isplitl [HA1]; · iexact HA1
  isplitl [HX1]; · iexact HX1
  iexact HW0

/-- Part 3 signals the three peers, handing each the slots it will fill, and waits for their three signals. -/
theorem part3 (c : Dev nD) (v2 v61 : BitVec 32) {W : Waits sig Unit} {α : Type} {Q : α → sProp 𝕄} {k : (Σ' (v89 : BitVec 32) (c4_i32_69 : BitVec 32) (v90 : BitVec 1), BitVec 32) → KProg α} :
    iprop(Ctx m K ∗ (BarTok (tgt 1 c) 2 ∗ BarTok (tgt 0 c) 0 ∗ BarTok (tgt 2 c) 1) ∗ (barPay c (tgt 1 c) ∗ barPay c (tgt 0 c) ∗ barPay c (tgt 2 c)) ∗ BarKit c ∗ owes (c : Thread nD τ) (O₀ c) W)
      ⊢ iprop((∀ v89 v90, iprop((barPay (tgt 0 c) c ∗ barPay (tgt 1 c) c ∗ barPay (tgt 2 c) c) ∗ semVal (barC c) 0 ∗ Owe c sendOrder) -∗ runs c (k ⟨v89, 4#32, v90, 1#32⟩) Q)
        -∗ runs c (k0_part3 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 (SemArray.scalar (sig.barrier 0 rfl)) v61 >>= k) Q) := by
  simp only [k0_part3_eq_skeleton]; unfold k0_part3_skel
  simp only [semSignalWord, semWaitWord, Prog.lift, Prog.bind_op, Prog.bind_ret, Prog.pure_eq_ret, Prog.bind_assoc]
  iintro ⟨#HC, ⟨Ht1, Ht0, Ht2⟩, ⟨Hp1, Hp0, Hp2⟩, Hb, HO⟩ Hk
  unfold O₀
  iapply (bar_signal m K c (tgt 1 c) _ 2 (dev1_to c) (by decide) (by revert c; decide) rfl rfl) $$ [Ht1 Hp1 HO]
  · isplitr; · iexact HC
    isplitl [Ht1]; · iexact Ht1
    isplitl [Hp1] <;> iassumption
  iintro HO
  iapply (bar_signal m K c (tgt 0 c) _ 0 (dev2_to c) (by decide) (by revert c; decide) rfl rfl) $$ [Ht0 Hp0 HO]
  · isplitr; · iexact HC
    isplitl [Ht0]; · iexact Ht0
    isplitl [Hp0] <;> iassumption
  iintro HO
  iapply (bar_signal m K c (tgt 2 c) _ 1 (dev3_to c) (by decide) (by revert c; decide) rfl rfl) $$ [Ht2 Hp2 HO]
  · isplitr; · iexact HC
    isplitl [Ht2]; · iexact Ht2
    isplitl [Hp2] <;> iassumption
  iintro HO
  iapply (bar_wait m K c (l := sendOrder) rfl rfl) $$ [Hb HO]
  · isplitr; · iexact HC
    isplitl [Hb]; · iexact Hb
    unfold Owe; iexists W; iexact HO
  iintro ⟨Hp, Hv, HO⟩
  iapply Hk $$ %_ %_ [Hp Hv HO]
  isplitl [Hp]; · iexact Hp
  isplitl [Hv] <;> iassumption

/-- Part 4 starts the second strip and waits for the first half of the first. -/
theorem part4 (c : Dev nD) (v2 : BitVec 32) (v89 : BitVec 32) (c4_i32_69 : BitVec 32) (v90 : BitVec 1) (c1_i32_71 : BitVec 32) {α : Type} {Q : α → sProp 𝕄} {k : (BitVec 32) → KProg α} :
    iprop(Ctx m K ∗ Arg1 m c ∗ WH2 m c 0 (tgt 0 c) ∗ WSFree c 1 ∗ Owe c [(0, 0), (0, 1), (0, 2), (0, 3), (1, 0), (1, 1), (1, 2), (1, 3), (2, 0), (2, 1), (2, 2), (2, 3)])
      ⊢ iprop((∀ v99, iprop(Arg1 m c ∗ WH3 m c 0 (tgt 0 c) ∗ WFly m c 1 (tgt 1 c) ∗ Owe c [(0, 0), (0, 1), (0, 2), (0, 3), (1, 0), (1, 1), (1, 2), (1, 3), (2, 0), (2, 1), (2, 2), (2, 3)]) -∗ runs c (k v99) Q)
        -∗ runs c (k0_part4 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v89 c4_i32_69 v90 c1_i32_71 >>= k) Q) := by
  simp only [k0_part4_eq_skeleton]; unfold k0_part4_skel
  simp only [Prog.lift, Prog.bind_op, Prog.bind_ret, Prog.pure_eq_ret, Prog.bind_assoc]
  iintro ⟨#HC, HA1, HW0, HW1, HO⟩ Hk
  iapply (w_start m c 1 (tgt 1 c) rfl (off2_1 c) rfl) $$ [HA1 HW1]
  · isplitl [HA1] <;> iassumption
  iintro ⟨HA1, HW1⟩
  iapply (wh_arrive0 m K c 0 (tgt 0 c) rfl) $$ [HW0 HO]
  · isplitr; · iexact HC
    isplitl [HW0] <;> iassumption
  iintro ⟨HW0, HO⟩
  iapply Hk $$ %_ [HA1 HW0 HW1 HO]
  isplitl [HA1]; · iexact HA1
  isplitl [HW0]; · iexact HW0
  isplitl [HW1]; · iexact HW1
  iexact HO

/-- Part 5 converts the first half and the first block of rows, and starts the third block. -/
theorem part5 (c : Dev nD)  {α : Type} {Q : α → sProp 𝕄} {k : (FVec F S256x256 .f32) → KProg α} :
    iprop(Ctx m K ∗ Arg0 m c ∗ XFly m c 0 0 ∗ XUp m c 0 ∗ WH3 m c 0 (tgt 0 c) ∗ WUp m c 0 (tgt 0 c) 0 ∗ Owe c [(0, 0), (0, 1), (0, 2), (0, 3), (1, 0), (1, 1), (1, 2), (1, 3), (2, 0), (2, 1), (2, 2), (2, 3)])
      ⊢ iprop((iprop(Arg0 m c ∗ XFly m c 0 2 ∗ XUp m c 1 ∗ WH3 m c 0 (tgt 0 c) ∗ WUp m c 0 (tgt 0 c) 256 ∗ Owe c [(0, 0), (0, 1), (0, 2), (0, 3), (1, 0), (1, 1), (1, 2), (1, 3), (2, 0), (2, 1), (2, 2), (2, 3)]) -∗ runs c (k (k0_pay3 (xv m c 0) (wvh m c (tgt 0 c) 0))) Q)
        -∗ runs c (k0_part5 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 >>= k) Q) := by
  simp only [k0_part5_eq_skeleton]; unfold k0_part5_skel
  simp only [Prog.lift, Prog.bind_op, Prog.bind_ret, Prog.pure_eq_ret, Prog.bind_assoc]
  iintro ⟨#HC, HA0, HX0, HXU, HW0, HU0, HO⟩ Hk
  iapply (wh_load m c 0 (tgt 0 c) rfl) $$ HW0
  iintro %v124 %hv124 HW0
  iapply (wbh_peek m c 0 0 (tgt 0 c) 0 rfl) $$ HU0
  iintro %v128 HU0
  iapply (wbh_put m c 0 0 (tgt 0 c) 0 256 rfl rfl rfl (pay1_eq m c (tgt 0 c) v124 hv124)) $$ HU0
  iintro HU0
  iapply (x_arrive m K c 0 0 rfl) $$ [HX0 HO]
  · isplitr; · iexact HC
    isplitl [HX0] <;> iassumption
  iintro ⟨HX0, HO⟩
  iapply (x_load m c 0 0 rfl) $$ HX0
  iintro HX0
  iapply (xb_peek m c 0) $$ HXU
  iintro %v139 HXU
  iapply (xb_put m c 0 0 1 rfl rfl rfl (pay2_eq m c 0)) $$ HXU
  iintro HXU
  ihave HX0 := (XHas_free m c 0 0) $$ HX0
  iapply (x_start m c 0 2 rfl rfl rfl) $$ [HA0 HX0]
  · isplitl [HA0] <;> iassumption
  iintro ⟨HA0, HX0⟩
  iapply (xb_read m c (n := 1) 0 (by decide) rfl) $$ HXU
  iintro HXU
  iapply (wbh_read m c 0 0 (tgt 0 c) (n := 256) (by decide) rfl) $$ HU0
  iintro HU0
  iapply Hk
  isplitl [HA0]; · iexact HA0
  isplitl [HX0]; · iexact HX0
  isplitl [HXU]; · iexact HXU
  isplitl [HW0]; · iexact HW0
  isplitl [HU0]; · iexact HU0
  iexact HO

/-- Part 6 waits for the second half and converts it. -/
theorem part6 (c : Dev nD) (v99 : BitVec 32) {α : Type} {Q : α → sProp 𝕄} {k : (Σ' (v163 : FVec F S256x256 .f32) (v181 : FVec F S256x256 .f32), FVec F S256x256 .f32) → KProg α} :
    iprop(Ctx m K ∗ XUp m c 1 ∗ WH3 m c 0 (tgt 0 c) ∗ WUp m c 0 (tgt 0 c) 256 ∗ Owe c [(0, 0), (0, 1), (0, 2), (0, 3), (1, 0), (1, 1), (1, 2), (1, 3), (2, 0), (2, 1), (2, 2), (2, 3)])
      ⊢ iprop((iprop(XUp m c 1 ∗ WHas m c 0 (tgt 0 c) ∗ WUp m c 0 (tgt 0 c) 512 ∗ Owe c [(0, 0), (0, 1), (0, 2), (0, 3), (1, 0), (1, 1), (1, 2), (1, 3), (2, 0), (2, 1), (2, 2), (2, 3)]) -∗ runs c (k ⟨(k0_pay4 (k0_pay3 (xv m c 0) (wvh m c (tgt 0 c) 0))), (k0_pay6 (xv m c 0) (wvh m c (tgt 0 c) 1)), (k0_pay7 (xv m c 0) (wvh m c (tgt 0 c) 1))⟩) Q)
        -∗ runs c (k0_part6 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v99 (k0_pay3 (xv m c 0) (wvh m c (tgt 0 c) 0)) >>= k) Q) := by
  simp only [k0_part6_eq_skeleton]; unfold k0_part6_skel
  simp only [Prog.lift, Prog.bind_op, Prog.bind_ret, Prog.pure_eq_ret, Prog.bind_assoc]
  iintro ⟨#HC, HXU, HW0, HU0, HO⟩ Hk
  iapply (wh_arrive1 m K c 0 (tgt 0 c) rfl) $$ [HW0 HO]
  · isplitr; · iexact HC
    isplitl [HW0] <;> iassumption
  iintro ⟨HW0, HO⟩
  iapply (w_load m c 0 (tgt 0 c) rfl) $$ HW0
  iintro HW0
  iapply (wbh_peek m c 0 1 (tgt 0 c) 256 rfl) $$ HU0
  iintro %v175 HU0
  iapply (wbh_put m c 0 1 (tgt 0 c) 256 512 rfl rfl rfl (pay5_eq m c (tgt 0 c))) $$ HU0
  iintro HU0
  iapply (xb_read m c (n := 1) 0 (by decide) rfl) $$ HXU
  iintro HXU
  iapply (wbh_read m c 0 1 (tgt 0 c) (n := 512) (by decide) rfl) $$ HU0
  iintro HU0
  iapply Hk
  isplitl [HXU]; · iexact HXU
  isplitl [HW0]; · iexact HW0
  isplitl [HU0]; · iexact HU0
  iexact HO

/-- Part 7 stages the first block to send, and sends it. -/
theorem part7 (c : Dev nD) (v99 : BitVec 32) {α : Type} {Q : α → sProp 𝕄} {k : (PUnit) → KProg α} :
    iprop(Ctx m K ∗ XFly m c 1 1 ∗ SendKit c 0 0 ∗ Owe c [(0, 0), (0, 1), (0, 2), (0, 3), (1, 0), (1, 1), (1, 2), (1, 3), (2, 0), (2, 1), (2, 2), (2, 3)])
      ⊢ iprop((iprop(XHas m c 1 1 ∗ SendGone c 0 0 ∗ Owe c [(0, 1), (0, 2), (0, 3), (1, 0), (1, 1), (1, 2), (1, 3), (2, 0), (2, 1), (2, 2), (2, 3)]) -∗ runs c (k ⟨⟩) Q)
        -∗ runs c (k0_part7 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v99 (k0_pay4 (k0_pay3 (xv m c 0) (wvh m c (tgt 0 c) 0))) (k0_pay6 (xv m c 0) (wvh m c (tgt 0 c) 1)) (k0_pay7 (xv m c 0) (wvh m c (tgt 0 c) 1)) >>= k) Q) := by
  simp only [k0_part7_eq_skeleton]; unfold k0_part7_skel
  simp only [Prog.lift, Prog.bind_op, Prog.bind_ret, Prog.pure_eq_ret, Prog.bind_assoc]
  iintro ⟨#HC, HX1, HS00, HO⟩ Hk
  iapply (sd_peek c 0 0 rfl) $$ HS00
  iintro %v197 HS00
  iapply (sd_fill m c 0 0 rfl (blk_first m c).symm) $$ HS00
  iintro HS00
  iapply (sd_send m K c _ 0 0 (dev4_to c) (by decide) rfl (off4_at c) rfl (Fin.ext (sem_at44 _ c 0 _ _ (off3_at c)))) $$ [HS00 HO]
  · isplitr; · iexact HC
    isplitl [HS00] <;> iassumption
  iintro ⟨HS00, HO⟩
  iapply (x_arrive m K c 1 1 rfl) $$ [HX1 HO]
  · isplitr; · iexact HC
    isplitl [HX1] <;> iassumption
  iintro ⟨HX1, HO⟩
  iapply Hk
  isplitl [HX1]; · iexact HX1
  isplitl [HS00]; · iexact HS00
  iexact HO

/-- Part 8 takes the second block of rows, and stages what is sent of it. -/
theorem part8 (c : Dev nD)  {α : Type} {Q : α → sProp 𝕄} {k : (PUnit) → KProg α} :
    iprop(Arg0 m c ∗ XHas m c 1 1 ∗ XUp m c 1 ∗ WUp m c 0 (tgt 0 c) 512 ∗ SendKit c 0 1)
      ⊢ iprop((iprop(Arg0 m c ∗ XFly m c 1 3 ∗ XUp m c 2 ∗ WUp m c 0 (tgt 0 c) 512 ∗ SendHas m c 0 1) -∗ runs c (k ⟨⟩) Q)
        -∗ runs c (k0_part8 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 >>= k) Q) := by
  simp only [k0_part8_eq_skeleton]; unfold k0_part8_skel
  simp only [Prog.lift, Prog.bind_op, Prog.bind_ret, Prog.pure_eq_ret, Prog.bind_assoc]
  iintro ⟨HA0, HX1, HXU, HU0, HS01⟩ Hk
  iapply (x_load m c 1 1 rfl) $$ HX1
  iintro HX1
  iapply (xb_peek m c 1) $$ HXU
  iintro %v218 HXU
  iapply (xb_put m c 1 1 2 rfl rfl rfl ((pay9_eq _).trans (pay2_eq m c 1))) $$ HXU
  iintro HXU
  ihave HX1 := (XHas_free m c 1 1) $$ HX1
  iapply (x_start m c 1 3 rfl rfl rfl) $$ [HA0 HX1]
  · isplitl [HA0] <;> iassumption
  iintro ⟨HA0, HX1⟩
  iapply (xb_read m c (n := 2) 1 (by decide) rfl) $$ HXU
  iintro HXU
  iapply (wb_read m c 0 (tgt 0 c) rfl) $$ HU0
  iintro HU0
  iapply (sd_peek c 0 1 rfl) $$ HS01
  iintro %v244 HS01
  iapply (sd_fill m c 0 1 rfl (blk_eq m c (by decide)).symm) $$ HS01
  iintro HS01
  iapply Hk
  isplitl [HA0]; · iexact HA0
  isplitl [HX1]; · iexact HX1
  isplitl [HXU]; · iexact HXU
  isplitl [HU0]; · iexact HU0
  iexact HS01

/-- Part 9 sends the second block and takes the third block of rows. -/
theorem part9 (c : Dev nD) (v99 : BitVec 32) {α : Type} {Q : α → sProp 𝕄} {k : (Σ' (v271 : FVec F S256x512 .f32) (v273 : FVec F S256x512 .f32), F .f32) → KProg α} :
    iprop(Ctx m K ∗ XFly m c 0 2 ∗ XUp m c 2 ∗ WUp m c 0 (tgt 0 c) 512 ∗ SendHas m c 0 1 ∗ Owe c [(0, 1), (0, 2), (0, 3), (1, 0), (1, 1), (1, 2), (1, 3), (2, 0), (2, 1), (2, 2), (2, 3)])
      ⊢ iprop((iprop(XHas m c 0 2 ∗ XUp m c 3 ∗ WUp m c 0 (tgt 0 c) 512 ∗ SendGone c 0 1 ∗ Owe c [(0, 2), (0, 3), (1, 0), (1, 1), (1, 2), (1, 3), (2, 0), (2, 1), (2, 2), (2, 3)]) -∗ runs c (k ⟨(k0_pay12 (xv m c 2) (wv m c (tgt 0 c))), (k0_pay13 (xv m c 2) (wv m c (tgt 0 c))), (Scalar.ofBits .f32 0x3D372713#32)⟩) Q)
        -∗ runs c (k0_part9 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v99 >>= k) Q) := by
  simp only [k0_part9_eq_skeleton]; unfold k0_part9_skel
  simp only [Prog.lift, Prog.bind_op, Prog.bind_ret, Prog.pure_eq_ret, Prog.bind_assoc]
  iintro ⟨#HC, HX0, HXU, HU0, HS01, HO⟩ Hk
  iapply (sd_send m K c _ 0 1 (dev5_to c) (by decide) rfl (off6_at c) rfl (Fin.ext (sem_at44 _ c 1 _ _ (off5_at c)))) $$ [HS01 HO]
  · isplitr; · iexact HC
    isplitl [HS01] <;> iassumption
  iintro ⟨HS01, HO⟩
  iapply (x_arrive m K c 0 2 rfl) $$ [HX0 HO]
  · isplitr; · iexact HC
    isplitl [HX0] <;> iassumption
  iintro ⟨HX0, HO⟩
  iapply (x_load m c 0 2 rfl) $$ HX0
  iintro HX0
  iapply (xb_peek m c 2) $$ HXU
  iintro %v265 HXU
  iapply (xb_put m c 2 2 3 rfl rfl rfl ((pay11_eq _).trans (pay2_eq m c 2))) $$ HXU
  iintro HXU
  iapply (xb_read m c (n := 3) 2 (by decide) rfl) $$ HXU
  iintro HXU
  iapply (wb_read m c 0 (tgt 0 c) rfl) $$ HU0
  iintro HU0
  iapply Hk
  isplitl [HX0]; · iexact HX0
  isplitl [HXU]; · iexact HXU
  isplitl [HU0]; · iexact HU0
  isplitl [HS01]; · iexact HS01
  iexact HO

/-- Part 10 stages and sends the third block. -/
theorem part10 (c : Dev nD) (v99 : BitVec 32) {α : Type} {Q : α → sProp 𝕄} {k : (PUnit) → KProg α} :
    iprop(Ctx m K ∗ XFly m c 1 3 ∗ SendKit c 0 2 ∗ Owe c [(0, 2), (0, 3), (1, 0), (1, 1), (1, 2), (1, 3), (2, 0), (2, 1), (2, 2), (2, 3)])
      ⊢ iprop((iprop(XHas m c 1 3 ∗ SendGone c 0 2 ∗ Owe c [(0, 3), (1, 0), (1, 1), (1, 2), (1, 3), (2, 0), (2, 1), (2, 2), (2, 3)]) -∗ runs c (k ⟨⟩) Q)
        -∗ runs c (k0_part10 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v99 (k0_pay12 (xv m c 2) (wv m c (tgt 0 c))) (k0_pay13 (xv m c 2) (wv m c (tgt 0 c))) (Scalar.ofBits .f32 0x3D372713#32) >>= k) Q) := by
  simp only [k0_part10_eq_skeleton]; unfold k0_part10_skel
  simp only [Prog.lift, Prog.bind_op, Prog.bind_ret, Prog.pure_eq_ret, Prog.bind_assoc]
  iintro ⟨#HC, HX1, HS02, HO⟩ Hk
  iapply (sd_peek c 0 2 rfl) $$ HS02
  iintro %v286 HS02
  iapply (sd_fill m c 0 2 rfl ((pay14_eq _ _).trans (blk_eq m c (by decide)).symm)) $$ HS02
  iintro HS02
  iapply (sd_send m K c _ 0 2 (dev6_to c) (by decide) rfl (off8_at c) rfl (Fin.ext (sem_at44 _ c 2 _ _ (off7_at c)))) $$ [HS02 HO]
  · isplitr; · iexact HC
    isplitl [HS02] <;> iassumption
  iintro ⟨HS02, HO⟩
  iapply (x_arrive m K c 1 3 rfl) $$ [HX1 HO]
  · isplitr; · iexact HC
    isplitl [HX1] <;> iassumption
  iintro ⟨HX1, HO⟩
  iapply Hk
  isplitl [HX1]; · iexact HX1
  isplitl [HS02]; · iexact HS02
  iexact HO

/-- Part 11 takes the last block of rows and stages what is sent of it. -/
theorem part11 (c : Dev nD) (v99 : BitVec 32) {α : Type} {Q : α → sProp 𝕄} {k : (PUnit) → KProg α} :
    iprop(XHas m c 1 3 ∗ XUp m c 3 ∗ WUp m c 0 (tgt 0 c) 512 ∗ SendKit c 0 3)
      ⊢ iprop((iprop(XHas m c 1 3 ∗ XUp m c 4 ∗ WUp m c 0 (tgt 0 c) 512 ∗ SendHas m c 0 3) -∗ runs c (k ⟨⟩) Q)
        -∗ runs c (k0_part11 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v99 >>= k) Q) := by
  simp only [k0_part11_eq_skeleton]; unfold k0_part11_skel
  simp only [Prog.lift, Prog.bind_op, Prog.bind_ret, Prog.pure_eq_ret, Prog.bind_assoc]
  iintro ⟨HX1, HXU, HU0, HS03⟩ Hk
  iapply (x_load m c 1 3 rfl) $$ HX1
  iintro HX1
  iapply (xb_peek m c 3) $$ HXU
  iintro %v307 HXU
  iapply (xb_put m c 3 3 4 rfl rfl rfl ((pay15_eq _).trans (pay2_eq m c 3))) $$ HXU
  iintro HXU
  iapply (xb_read m c (n := 4) 3 (by decide) rfl) $$ HXU
  iintro HXU
  iapply (wb_read m c 0 (tgt 0 c) rfl) $$ HU0
  iintro HU0
  iapply (sd_peek c 0 3 rfl) $$ HS03
  iintro %v328 HS03
  iapply (sd_fill m c 0 3 rfl ((pay16_eq _ _).trans (blk_eq m c (by decide)).symm)) $$ HS03
  iintro HS03
  iapply Hk
  isplitl [HX1]; · iexact HX1
  isplitl [HXU]; · iexact HXU
  isplitl [HU0]; · iexact HU0
  iexact HS03

end Cert.GemmRing
-- ==== Proof.PartsB.lean ====
/- Triples of parts of the kernel: each says what the part takes and what it leaves. -/
module

public import proofs.«01_k».proof.Proof.Steps0

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

variable (K : Dev nD × CK → ℕ)

/-- Part 12 sends the last block for the first peer, and starts the third strip. -/
theorem part12 (c : Dev nD) (v2 : BitVec 32) {α : Type} {Q : α → sProp 𝕄} {k : (BitVec 32) → KProg α} :
    iprop(Ctx m K ∗ Arg1 m c ∗ WHas m c 0 (tgt 0 c) ∗ SendHas m c 0 3 ∗ Owe c [(0, 3), (1, 0), (1, 1), (1, 2), (1, 3), (2, 0), (2, 1), (2, 2), (2, 3)])
      ⊢ iprop((∀ v351, iprop(Arg1 m c ∗ WFly m c 0 (tgt 2 c) ∗ SendGone c 0 3 ∗ Owe c [(1, 0), (1, 1), (1, 2), (1, 3), (2, 0), (2, 1), (2, 2), (2, 3)]) -∗ runs c (k v351) Q)
        -∗ runs c (k0_part12 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 >>= k) Q) := by
  simp only [k0_part12_eq_skeleton]; unfold k0_part12_skel
  simp only [Prog.lift, Prog.bind_op, Prog.bind_ret, Prog.pure_eq_ret, Prog.bind_assoc]
  iintro ⟨#HC, HA1, HW0, HS03, HO⟩ Hk
  iapply (sd_send m K c _ 0 3 (dev7_to c) (by decide) rfl (off10_at c) rfl (Fin.ext (sem_at44 _ c 3 _ _ (off9_at c)))) $$ [HS03 HO]
  · isplitr; · iexact HC
    isplitl [HS03] <;> iassumption
  iintro ⟨HS03, HO⟩
  ihave HW0 := (WHas_free m c 0 (tgt 0 c)) $$ HW0
  iapply (w_start m c 0 (tgt 2 c) rfl (off2_2 c) rfl) $$ [HA1 HW0]
  · isplitl [HA1] <;> iassumption
  iintro ⟨HA1, HW0⟩
  iapply Hk $$ %_ [HA1 HW0 HS03 HO]
  isplitl [HA1]; · iexact HA1
  isplitl [HW0]; · iexact HW0
  isplitl [HS03]; · iexact HS03
  iexact HO

/-- Part 13 takes the second strip. -/
theorem part13 (c : Dev nD)  {α : Type} {Q : α → sProp 𝕄} {k : (FVec F S1x1x256x512 .bf16) → KProg α} :
    iprop(Ctx m K ∗ XUp m c 4 ∗ WFly m c 1 (tgt 1 c) ∗ WUp m c 1 (tgt 1 c) 0 ∗ SendKit c 1 0 ∗ Owe c [(1, 0), (1, 1), (1, 2), (1, 3), (2, 0), (2, 1), (2, 2), (2, 3)])
      ⊢ iprop((iprop(XUp m c 4 ∗ WHas m c 1 (tgt 1 c) ∗ WUp m c 1 (tgt 1 c) 512 ∗ SendKit c 1 0 ∗ Owe c [(1, 0), (1, 1), (1, 2), (1, 3), (2, 0), (2, 1), (2, 2), (2, 3)]) -∗ runs c (k (k0_pay18 (xv m c 0) (wv m c (tgt 1 c)))) Q)
        -∗ runs c (k0_part13 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c >>= k) Q) := by
  simp only [k0_part13_eq_skeleton]; unfold k0_part13_skel
  simp only [Prog.lift, Prog.bind_op, Prog.bind_ret, Prog.pure_eq_ret, Prog.bind_assoc]
  iintro ⟨#HC, HXU, HW1, HU1, HS10, HO⟩ Hk
  iapply (w_arrive m K c 1 (tgt 1 c) rfl) $$ [HW1 HO]
  · isplitr; · iexact HC
    isplitl [HW1] <;> iassumption
  iintro ⟨HW1, HO⟩
  iapply (w_load m c 1 (tgt 1 c) rfl) $$ HW1
  iintro HW1
  iapply (wb_peek m c 1 (tgt 1 c) 0 rfl) $$ HU1
  iintro %v378 HU1
  iapply (wb_fill m c 1 (tgt 1 c) (tgt 1 c) 0 rfl (pay17_eq m c (tgt 1 c))) $$ HU1
  iintro HU1
  iapply (xb_read m c (n := 4) 0 (by decide) rfl) $$ HXU
  iintro HXU
  iapply (wb_read m c 1 (tgt 1 c) rfl) $$ HU1
  iintro HU1
  iapply (sd_peek c 1 0 rfl) $$ HS10
  iintro %v399 HS10
  iapply Hk
  isplitl [HXU]; · iexact HXU
  isplitl [HW1]; · iexact HW1
  isplitl [HU1]; · iexact HU1
  isplitl [HS10]; · iexact HS10
  iexact HO

/-- Part 14 sends the first block for the second peer and stages the second. -/
theorem part14 (c : Dev nD) (v351 : BitVec 32) {α : Type} {Q : α → sProp 𝕄} {k : (PUnit) → KProg α} :
    iprop(Ctx m K ∗ XUp m c 4 ∗ WUp m c 1 (tgt 1 c) 512 ∗ SendKit c 1 0 ∗ SendKit c 1 1 ∗ Owe c [(1, 0), (1, 1), (1, 2), (1, 3), (2, 0), (2, 1), (2, 2), (2, 3)])
      ⊢ iprop((iprop(XUp m c 4 ∗ WUp m c 1 (tgt 1 c) 512 ∗ SendGone c 1 0 ∗ SendHas m c 1 1 ∗ Owe c [(1, 1), (1, 2), (1, 3), (2, 0), (2, 1), (2, 2), (2, 3)]) -∗ runs c (k ⟨⟩) Q)
        -∗ runs c (k0_part14 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v351 (k0_pay18 (xv m c 0) (wv m c (tgt 1 c))) >>= k) Q) := by
  simp only [k0_part14_eq_skeleton]; unfold k0_part14_skel
  simp only [Prog.lift, Prog.bind_op, Prog.bind_ret, Prog.pure_eq_ret, Prog.bind_assoc]
  iintro ⟨#HC, HXU, HU1, HS10, HS11, HO⟩ Hk
  iapply (sd_fill m c 1 0 rfl ((pay18_eq _ _).trans (blk_eq m c (by decide)).symm)) $$ HS10
  iintro HS10
  iapply (sd_send m K c _ 1 0 (dev8_to c) (by decide) rfl (off4_at c) rfl (Fin.ext (sem_at44 _ c 0 _ _ (off3_at c)))) $$ [HS10 HO]
  · isplitr; · iexact HC
    isplitl [HS10] <;> iassumption
  iintro ⟨HS10, HO⟩
  iapply (xb_read m c (n := 4) 1 (by decide) rfl) $$ HXU
  iintro HXU
  iapply (wb_read m c 1 (tgt 1 c) rfl) $$ HU1
  iintro HU1
  iapply (sd_peek c 1 1 rfl) $$ HS11
  iintro %v430 HS11
  iapply (sd_fill m c 1 1 rfl ((pay19_eq _ _).trans (blk_eq m c (by decide)).symm)) $$ HS11
  iintro HS11
  iapply Hk
  isplitl [HXU]; · iexact HXU
  isplitl [HU1]; · iexact HU1
  isplitl [HS10]; · iexact HS10
  isplitl [HS11]; · iexact HS11
  iexact HO

/-- Part 15 sends the second block for the second peer and stages the third. -/
theorem part15 (c : Dev nD) (v351 : BitVec 32) {α : Type} {Q : α → sProp 𝕄} {k : (PUnit) → KProg α} :
    iprop(Ctx m K ∗ XUp m c 4 ∗ WUp m c 1 (tgt 1 c) 512 ∗ SendHas m c 1 1 ∗ SendKit c 1 2 ∗ Owe c [(1, 1), (1, 2), (1, 3), (2, 0), (2, 1), (2, 2), (2, 3)])
      ⊢ iprop((iprop(XUp m c 4 ∗ WUp m c 1 (tgt 1 c) 512 ∗ SendGone c 1 1 ∗ SendHas m c 1 2 ∗ Owe c [(1, 2), (1, 3), (2, 0), (2, 1), (2, 2), (2, 3)]) -∗ runs c (k ⟨⟩) Q)
        -∗ runs c (k0_part15 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v351 >>= k) Q) := by
  simp only [k0_part15_eq_skeleton]; unfold k0_part15_skel
  simp only [Prog.lift, Prog.bind_op, Prog.bind_ret, Prog.pure_eq_ret, Prog.bind_assoc]
  iintro ⟨#HC, HXU, HU1, HS11, HS12, HO⟩ Hk
  iapply (sd_send m K c _ 1 1 (dev9_to c) (by decide) rfl (off6_at c) rfl (Fin.ext (sem_at44 _ c 1 _ _ (off5_at c)))) $$ [HS11 HO]
  · isplitr; · iexact HC
    isplitl [HS11] <;> iassumption
  iintro ⟨HS11, HO⟩
  iapply (xb_read m c (n := 4) 2 (by decide) rfl) $$ HXU
  iintro HXU
  iapply (wb_read m c 1 (tgt 1 c) rfl) $$ HU1
  iintro HU1
  iapply (sd_peek c 1 2 rfl) $$ HS12
  iintro %v461 HS12
  iapply (sd_fill m c 1 2 rfl ((pay20_eq _ _).trans (blk_eq m c (by decide)).symm)) $$ HS12
  iintro HS12
  iapply Hk
  isplitl [HXU]; · iexact HXU
  isplitl [HU1]; · iexact HU1
  isplitl [HS11]; · iexact HS11
  isplitl [HS12]; · iexact HS12
  iexact HO

/-- Part 16 sends the third block for the second peer and stages the last. -/
theorem part16 (c : Dev nD) (v351 : BitVec 32) {α : Type} {Q : α → sProp 𝕄} {k : (PUnit) → KProg α} :
    iprop(Ctx m K ∗ XUp m c 4 ∗ WUp m c 1 (tgt 1 c) 512 ∗ SendHas m c 1 2 ∗ SendKit c 1 3 ∗ Owe c [(1, 2), (1, 3), (2, 0), (2, 1), (2, 2), (2, 3)])
      ⊢ iprop((iprop(XUp m c 4 ∗ WUp m c 1 (tgt 1 c) 512 ∗ SendGone c 1 2 ∗ SendHas m c 1 3 ∗ Owe c [(1, 3), (2, 0), (2, 1), (2, 2), (2, 3)]) -∗ runs c (k ⟨⟩) Q)
        -∗ runs c (k0_part16 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v351 >>= k) Q) := by
  simp only [k0_part16_eq_skeleton]; unfold k0_part16_skel
  simp only [Prog.lift, Prog.bind_op, Prog.bind_ret, Prog.pure_eq_ret, Prog.bind_assoc]
  iintro ⟨#HC, HXU, HU1, HS12, HS13, HO⟩ Hk
  iapply (sd_send m K c _ 1 2 (dev10_to c) (by decide) rfl (off8_at c) rfl (Fin.ext (sem_at44 _ c 2 _ _ (off7_at c)))) $$ [HS12 HO]
  · isplitr; · iexact HC
    isplitl [HS12] <;> iassumption
  iintro ⟨HS12, HO⟩
  iapply (xb_read m c (n := 4) 3 (by decide) rfl) $$ HXU
  iintro HXU
  iapply (wb_read m c 1 (tgt 1 c) rfl) $$ HU1
  iintro HU1
  iapply (sd_peek c 1 3 rfl) $$ HS13
  iintro %v492 HS13
  iapply (sd_fill m c 1 3 rfl ((pay21_eq _ _).trans (blk_eq m c (by decide)).symm)) $$ HS13
  iintro HS13
  iapply Hk
  isplitl [HXU]; · iexact HXU
  isplitl [HU1]; · iexact HU1
  isplitl [HS12]; · iexact HS12
  isplitl [HS13]; · iexact HS13
  iexact HO

/-- Part 17 sends the last block for the second peer. -/
theorem part17 (c : Dev nD) (v2 : BitVec 32) (v351 : BitVec 32) {α : Type} {Q : α → sProp 𝕄} {k : (Σ' (v515 : BitVec 32) (v526 : BitVec 32) (v527 : BitVec 32), BitVec 32) → KProg α} :
    iprop(Ctx m K ∗ SendHas m c 1 3 ∗ Owe c [(1, 3), (2, 0), (2, 1), (2, 2), (2, 3)])
      ⊢ iprop((∀ v515 v526 v527, iprop(SendGone c 1 3 ∗ Owe c [(2, 0), (2, 1), (2, 2), (2, 3)]) -∗ runs c (k ⟨v515, v526, v527, 0#32⟩) Q)
        -∗ runs c (k0_part17 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v351 >>= k) Q) := by
  simp only [k0_part17_eq_skeleton]; unfold k0_part17_skel
  simp only [Prog.lift, Prog.bind_op, Prog.bind_ret, Prog.pure_eq_ret, Prog.bind_assoc]
  iintro ⟨#HC, HS13, HO⟩ Hk
  iapply (sd_send m K c _ 1 3 (dev11_to c) (by decide) rfl (off10_at c) rfl (Fin.ext (sem_at44 _ c 3 _ _ (off9_at c)))) $$ [HS13 HO]
  · isplitr; · iexact HC
    isplitl [HS13] <;> iassumption
  iintro ⟨HS13, HO⟩
  iapply Hk $$ %_ %_ %_ [HS13 HO]
  isplitl [HS13]; · iexact HS13
  iexact HO

/-- Part 18 starts the two halves of the device's own strip and takes the third strip. -/
theorem part18 (c : Dev nD) (v515 : BitVec 32) (v526 : BitVec 32) (v527 : BitVec 32) (c0_i32_431 : BitVec 32) {α : Type} {Q : α → sProp 𝕄} {k : (Vec F S256x4096 .bf16) → KProg α} :
    iprop(Ctx m K ∗ Arg1 m c ∗ XUp m c 4 ∗ WFly m c 0 (tgt 2 c) ∗ WHas m c 1 (tgt 1 c) ∗ WUp m c 0 (tgt 0 c) 512 ∗ Owe c [(2, 0), (2, 1), (2, 2), (2, 3)])
      ⊢ iprop((iprop(Arg1 m c ∗ XUp m c 4 ∗ WHas m c 0 (tgt 2 c) ∗ WH2 m c 1 c ∗ WUp m c 0 (tgt 2 c) 512 ∗ Owe c [(2, 0), (2, 1), (2, 2), (2, 3)]) -∗ runs c (k (xv m c 0)) Q)
        -∗ runs c (k0_part18 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v515 v526 v527 c0_i32_431 >>= k) Q) := by
  simp only [k0_part18_eq_skeleton]; unfold k0_part18_skel
  simp only [Prog.lift, Prog.bind_op, Prog.bind_ret, Prog.pure_eq_ret, Prog.bind_assoc]
  iintro ⟨#HC, HA1, HXU, HW0, HW1, HU0, HO⟩ Hk
  ihave HW1 := (WHas_free m c 1 (tgt 1 c)) $$ HW1
  iapply (wh_start0 m c 1 c rfl (off1_own0 c) rfl) $$ [HA1 HW1]
  · isplitl [HA1] <;> iassumption
  iintro ⟨HA1, HW1⟩
  iapply (wh_start1 m c 1 c rfl (off1_own1 c) rfl) $$ [HA1 HW1]
  · isplitl [HA1] <;> iassumption
  iintro ⟨HA1, HW1⟩
  iapply (w_arrive m K c 0 (tgt 2 c) rfl) $$ [HW0 HO]
  · isplitr; · iexact HC
    isplitl [HW0] <;> iassumption
  iintro ⟨HW0, HO⟩
  iapply (w_load m c 0 (tgt 2 c) rfl) $$ HW0
  iintro HW0
  iapply (wb_peek m c 0 (tgt 0 c) 512 rfl) $$ HU0
  iintro %v550 HU0
  iapply (wb_fill m c 0 (tgt 2 c) (tgt 0 c) 512 rfl ((pay22_eq _).trans (pay17_eq m c (tgt 2 c)))) $$ HU0
  iintro HU0
  iapply (xb_read m c (n := 4) 0 (by decide) rfl) $$ HXU
  iintro HXU
  iapply Hk
  isplitl [HA1]; · iexact HA1
  isplitl [HXU]; · iexact HXU
  isplitl [HW0]; · iexact HW0
  isplitl [HW1]; · iexact HW1
  isplitl [HU0]; · iexact HU0
  iexact HO

/-- Part 19 stages and sends the first block for the third peer. -/
theorem part19 (c : Dev nD) (v515 : BitVec 32) {α : Type} {Q : α → sProp 𝕄} {k : (Vec F S256x4096 .bf16) → KProg α} :
    iprop(Ctx m K ∗ XUp m c 4 ∗ WUp m c 0 (tgt 2 c) 512 ∗ SendKit c 2 0 ∗ Owe c [(2, 0), (2, 1), (2, 2), (2, 3)])
      ⊢ iprop((iprop(XUp m c 4 ∗ WUp m c 0 (tgt 2 c) 512 ∗ SendGone c 2 0 ∗ Owe c [(2, 1), (2, 2), (2, 3)]) -∗ runs c (k (xv m c 1)) Q)
        -∗ runs c (k0_part19 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v515 (xv m c 0) >>= k) Q) := by
  simp only [k0_part19_eq_skeleton]; unfold k0_part19_skel
  simp only [Prog.lift, Prog.bind_op, Prog.bind_ret, Prog.pure_eq_ret, Prog.bind_assoc]
  iintro ⟨#HC, HXU, HU0, HS20, HO⟩ Hk
  iapply (wb_read m c 0 (tgt 2 c) rfl) $$ HU0
  iintro HU0
  iapply (sd_peek c 2 0 rfl) $$ HS20
  iintro %v571 HS20
  iapply (sd_fill m c 2 0 rfl ((pay23_eq _ _).trans (blk_eq m c (by decide)).symm)) $$ HS20
  iintro HS20
  iapply (sd_send m K c _ 2 0 (dev12_to c) (by decide) rfl (off4_at c) rfl (Fin.ext (sem_at44 _ c 0 _ _ (off3_at c)))) $$ [HS20 HO]
  · isplitr; · iexact HC
    isplitl [HS20] <;> iassumption
  iintro ⟨HS20, HO⟩
  iapply (xb_read m c (n := 4) 1 (by decide) rfl) $$ HXU
  iintro HXU
  iapply Hk
  isplitl [HXU]; · iexact HXU
  isplitl [HU0]; · iexact HU0
  isplitl [HS20]; · iexact HS20
  iexact HO

/-- Part 20 stages and sends the second block for the third peer. -/
theorem part20 (c : Dev nD) (v515 : BitVec 32) {α : Type} {Q : α → sProp 𝕄} {k : (Vec F S256x4096 .bf16) → KProg α} :
    iprop(Ctx m K ∗ XUp m c 4 ∗ WUp m c 0 (tgt 2 c) 512 ∗ SendKit c 2 1 ∗ Owe c [(2, 1), (2, 2), (2, 3)])
      ⊢ iprop((iprop(XUp m c 4 ∗ WUp m c 0 (tgt 2 c) 512 ∗ SendGone c 2 1 ∗ Owe c [(2, 2), (2, 3)]) -∗ runs c (k (xv m c 2)) Q)
        -∗ runs c (k0_part20 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v515 (xv m c 1) >>= k) Q) := by
  simp only [k0_part20_eq_skeleton]; unfold k0_part20_skel
  simp only [Prog.lift, Prog.bind_op, Prog.bind_ret, Prog.pure_eq_ret, Prog.bind_assoc]
  iintro ⟨#HC, HXU, HU0, HS21, HO⟩ Hk
  iapply (wb_read m c 0 (tgt 2 c) rfl) $$ HU0
  iintro HU0
  iapply (sd_peek c 2 1 rfl) $$ HS21
  iintro %v602 HS21
  iapply (sd_fill m c 2 1 rfl ((pay24_eq _ _).trans (blk_eq m c (by decide)).symm)) $$ HS21
  iintro HS21
  iapply (sd_send m K c _ 2 1 (dev13_to c) (by decide) rfl (off6_at c) rfl (Fin.ext (sem_at44 _ c 1 _ _ (off5_at c)))) $$ [HS21 HO]
  · isplitr; · iexact HC
    isplitl [HS21] <;> iassumption
  iintro ⟨HS21, HO⟩
  iapply (xb_read m c (n := 4) 2 (by decide) rfl) $$ HXU
  iintro HXU
  iapply Hk
  isplitl [HXU]; · iexact HXU
  isplitl [HU0]; · iexact HU0
  isplitl [HS21]; · iexact HS21
  iexact HO

/-- Part 21 stages and sends the third block for the third peer. -/
theorem part21 (c : Dev nD) (v515 : BitVec 32) {α : Type} {Q : α → sProp 𝕄} {k : (Σ' (v646 : Vec F S256x4096 .bf16), Vec F S1x4096x512 .bf16) → KProg α} :
    iprop(Ctx m K ∗ XUp m c 4 ∗ WUp m c 0 (tgt 2 c) 512 ∗ SendKit c 2 2 ∗ Owe c [(2, 2), (2, 3)])
      ⊢ iprop((iprop(XUp m c 4 ∗ WUp m c 0 (tgt 2 c) 512 ∗ SendGone c 2 2 ∗ Owe c [(2, 3)]) -∗ runs c (k ⟨(xv m c 3), (wv m c (tgt 2 c))⟩) Q)
        -∗ runs c (k0_part21 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v515 (xv m c 2) >>= k) Q) := by
  simp only [k0_part21_eq_skeleton]; unfold k0_part21_skel
  simp only [Prog.lift, Prog.bind_op, Prog.bind_ret, Prog.pure_eq_ret, Prog.bind_assoc]
  iintro ⟨#HC, HXU, HU0, HS22, HO⟩ Hk
  iapply (wb_read m c 0 (tgt 2 c) rfl) $$ HU0
  iintro HU0
  iapply (sd_peek c 2 2 rfl) $$ HS22
  iintro %v633 HS22
  iapply (sd_fill m c 2 2 rfl ((pay25_eq _ _).trans (blk_eq m c (by decide)).symm)) $$ HS22
  iintro HS22
  iapply (sd_send m K c _ 2 2 (dev14_to c) (by decide) rfl (off8_at c) rfl (Fin.ext (sem_at44 _ c 2 _ _ (off7_at c)))) $$ [HS22 HO]
  · isplitr; · iexact HC
    isplitl [HS22] <;> iassumption
  iintro ⟨HS22, HO⟩
  iapply (xb_read m c (n := 4) 3 (by decide) rfl) $$ HXU
  iintro HXU
  iapply (wb_read m c 0 (tgt 2 c) rfl) $$ HU0
  iintro HU0
  iapply Hk
  isplitl [HXU]; · iexact HXU
  isplitl [HU0]; · iexact HU0
  isplitl [HS22]; · iexact HS22
  iexact HO

end Cert.GemmRing
-- ==== Proof.PartsC.lean ====
/- Triples of parts of the kernel: each says what the part takes and what it leaves. -/
module

public import proofs.«01_k».proof.Proof.Steps0

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

variable (K : Dev nD × CK → ℕ)

/-- Part 22 stages and sends the last block for the third peer. -/
theorem part22 (c : Dev nD) (v2 : BitVec 32) (v515 : BitVec 32) {α : Type} {Q : α → sProp 𝕄} {k : (Σ' (v679 : BitVec 32), BitVec 32) → KProg α} :
    iprop(Ctx m K ∗ SendKit c 2 3 ∗ Owe c [(2, 3)])
      ⊢ iprop((∀ v679 v680, iprop(SendGone c 2 3 ∗ Owe c []) -∗ runs c (k ⟨v679, v680⟩) Q)
        -∗ runs c (k0_part22 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v515 (xv m c 3) (wv m c (tgt 2 c)) >>= k) Q) := by
  simp only [k0_part22_eq_skeleton]; unfold k0_part22_skel
  simp only [Prog.lift, Prog.bind_op, Prog.bind_ret, Prog.pure_eq_ret, Prog.bind_assoc]
  iintro ⟨#HC, HS23, HO⟩ Hk
  iapply (sd_peek c 2 3 rfl) $$ HS23
  iintro %v664 HS23
  iapply (sd_fill m c 2 3 rfl ((pay26_eq _ _).trans (blk_eq m c (by decide)).symm)) $$ HS23
  iintro HS23
  iapply (sd_send m K c _ 2 3 (dev15_to c) (by decide) rfl (off10_at c) rfl (Fin.ext (sem_at44 _ c 3 _ _ (off9_at c)))) $$ [HS23 HO]
  · isplitr; · iexact HC
    isplitl [HS23] <;> iassumption
  iintro ⟨HS23, HO⟩
  iapply Hk $$ %_ %_ [HS23 HO]
  isplitl [HS23]; · iexact HS23
  iexact HO

/-- Part 23 takes the first half of the device's own strip; the product is over a strip whose second half still holds old weights. -/
theorem part23 (c : Dev nD) (v679 : BitVec 32) (v680 : BitVec 32) {α : Type} {Q : α → sProp 𝕄} {k : (Σ' (v687 : BitVec 32) (v708 : FVec F S1024x256 .f32), FVec F S1024x256 .f32) → KProg α} :
    iprop(Ctx m K ∗ XUp m c 4 ∗ WH2 m c 1 c ∗ WUp m c 1 (tgt 1 c) 512 ∗ Owe c [])
      ⊢ iprop((∀ v687 v703, ⌜∀ j : S1x4096x512.Idx, (j 2).val < 256 → v703 j = wv m c c j⌝ -∗ iprop(XUp m c 4 ∗ WH3 m c 1 c ∗ WUp m c 1 c 256 ∗ Owe c []) -∗ runs c (k ⟨v687, (k0_pay29 (XB m c) v703), (k0_pay30 (XB m c) v703)⟩) Q)
        -∗ runs c (k0_part23 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v679 v680 >>= k) Q) := by
  simp only [k0_part23_eq_skeleton]; unfold k0_part23_skel
  simp only [Prog.lift, Prog.bind_op, Prog.bind_ret, Prog.pure_eq_ret, Prog.bind_assoc]
  iintro ⟨#HC, HXU, HW1, HU1, HO⟩ Hk
  iapply (wh_arrive0 m K c 1 c rfl) $$ [HW1 HO]
  · isplitr; · iexact HC
    isplitl [HW1] <;> iassumption
  iintro ⟨HW1, HO⟩
  iapply (wh_load m c 1 c rfl) $$ HW1
  iintro %v695 %hv695 HW1
  ihave HU1 := (WUp_again m c 1 (tgt 1 c) c 512) $$ HU1
  iapply (wbh_peek m c 1 0 c 0 rfl) $$ HU1
  iintro %v699 HU1
  iapply (wbh_put m c 1 0 c 0 256 rfl rfl rfl ((pay27_eq _).trans (pay1_eq m c c v695 hv695))) $$ HU1
  iintro HU1
  iapply (xb_read_all m c) $$ HXU
  iintro HXU
  iapply (wb_read_part m c 1 c rfl) $$ HU1
  iintro %v703 %hv703 HU1
  iapply Hk $$ %_ %_ [] [HXU HW1 HU1 HO]
  · ipureintro; exact hv703
  isplitl [HXU]; · iexact HXU
  isplitl [HW1]; · iexact HW1
  isplitl [HU1]; · iexact HU1
  iexact HO

/-- Part 24 stages and copies out the first half of the own result and takes the second half of the own strip. -/
theorem part24 (c : Dev nD) (v2 : BitVec 32) (v687 : BitVec 32) (v708 : FVec F S1024x256 .f32) (v713 : FVec F S1024x256 .f32) (hown : k0_pay31 v708 v713 = own m c 0) {α : Type} {Q : α → sProp 𝕄} {k : (PUnit) → KProg α} :
    iprop(Ctx m K ∗ WH3 m c 1 c ∗ WUp m c 1 c 256 ∗ OutFree c 3 0 ∗ Owe c [])
      ⊢ iprop((iprop(WHas m c 1 c ∗ WUp m c 1 c 512 ∗ OutFly m c 3 0 ∗ Owe c []) -∗ runs c (k ⟨⟩) Q)
        -∗ runs c (k0_part24 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v687 v708 v713 >>= k) Q) := by
  simp only [k0_part24_eq_skeleton]; unfold k0_part24_skel
  simp only [Prog.lift, Prog.bind_op, Prog.bind_ret, Prog.pure_eq_ret, Prog.bind_assoc]
  iintro ⟨#HC, HW1, HU1, HO30, HO⟩ Hk
  iapply (ogH_peek c 0 (r := 0) rfl (off11_own c)) $$ HO30
  iintro %v722 HO30
  iapply (ogH_fill m c 0 (r := 0) rfl (off11_own c) hown) $$ HO30
  iintro HO30
  iapply (ogH_start m c 0 (r := 0) rfl (off12_own c) rfl) $$ HO30
  iintro HO30
  iapply (wh_arrive1 m K c 1 c rfl) $$ [HW1 HO]
  · isplitr; · iexact HC
    isplitl [HW1] <;> iassumption
  iintro ⟨HW1, HO⟩
  iapply (w_load m c 1 c rfl) $$ HW1
  iintro HW1
  iapply (wbh_peek m c 1 1 c 256 rfl) $$ HU1
  iintro %v742 HU1
  iapply (wbh_put m c 1 1 c 256 512 rfl rfl rfl ((pay32_eq _).trans (pay5_eq m c c))) $$ HU1
  iintro HU1
  iapply Hk
  isplitl [HW1]; · iexact HW1
  isplitl [HU1]; · iexact HU1
  isplitl [HO30]; · iexact HO30
  iexact HO

/-- Part 25 stages and copies out the second half of the own result. -/
theorem part25 (c : Dev nD) (v2 : BitVec 32) {α : Type} {Q : α → sProp 𝕄} {k : (Σ' (v776 : BitVec 32) (v777 : BitVec 32) (v778 : BitVec 1), BitVec 1) → KProg α} :
    iprop(XUp m c 4 ∗ WUp m c 1 c 512 ∗ OutFree c 3 1)
      ⊢ iprop((∀ v776 v777 v778 v779, iprop(XUp m c 4 ∗ WUp m c 1 c 512 ∗ OutFly m c 3 1) -∗ runs c (k ⟨v776, v777, v778, v779⟩) Q)
        -∗ runs c (k0_part25 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 >>= k) Q) := by
  simp only [k0_part25_eq_skeleton]; unfold k0_part25_skel
  simp only [Prog.lift, Prog.bind_op, Prog.bind_ret, Prog.pure_eq_ret, Prog.bind_assoc]
  iintro ⟨HXU, HU1, HO31⟩ Hk
  iapply (xb_read_all m c) $$ HXU
  iintro HXU
  iapply (wb_read m c 1 c rfl) $$ HU1
  iintro HU1
  iapply (ogH_peek c 1 (r := 1) rfl (off13_own c)) $$ HO31
  iintro %v765 HO31
  iapply (ogH_fill m c 1 (r := 1) rfl (off13_own c) (if_neg (by decide)).symm) $$ HO31
  iintro HO31
  iapply (ogH_start m c 1 (r := 1) rfl (off14_own c) rfl) $$ HO31
  iintro HO31
  iapply Hk $$ %_ %_ %_ %_ [HXU HU1 HO31]
  isplitl [HXU]; · iexact HXU
  isplitl [HU1]; · iexact HU1
  iexact HO31

/-- Part 26 receives blocks of the result, stages them and starts copying them out. -/
theorem part26 (c : Dev nD) (v776 : BitVec 32) (v777 : BitVec 32) (v778 : BitVec 1) (v779 : BitVec 1) {α : Type} {Q : α → sProp 𝕄} {k : (BitVec 32) → KProg α} :
    iprop(Ctx m K ∗ RecvKit c 0 0 ∗ OutFree c 0 0 ∗ Owe c [])
      ⊢ iprop((∀ v784, iprop(RecvHas m c 0 0 ∗ OutFly m c 0 0 ∗ Owe c []) -∗ runs c (k v784) Q)
        -∗ runs c (k0_part26 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v776 v777 v778 v779 >>= k) Q) := by
  simp only [k0_part26_eq_skeleton]; unfold k0_part26_skel
  simp only [Prog.lift, Prog.bind_op, Prog.bind_ret, Prog.pure_eq_ret, Prog.bind_assoc]
  iintro ⟨#HC, HR00, HO00, HO⟩ Hk
  iapply (rc_wait m K c 0 0 (by decide) ?hN (Fin.ext (sem_at44 _ (frm 0 c) 0 _ _ (off15_0 c)))) $$ [HR00 HO]
  case hN => rfl
  · isplitr; · iexact HC
    isplitl [HR00] <;> iassumption
  iintro ⟨HR00, HO⟩
  iapply (rc_load m c 0 0 (off17_0 c)) $$ HR00
  iintro HR00
  iapply (og_peek c 0 0 (by decide) (off18_00 c)) $$ HO00
  iintro %v800 HO00
  iapply (og_fill m c 0 0 (by decide) (off18_00 c) rfl) $$ HO00
  iintro HO00
  iapply (og_start m c 0 0 (by decide) (off19_00 c) rfl) $$ HO00
  iintro HO00
  iapply Hk $$ %_ [HR00 HO00 HO]
  isplitl [HR00]; · iexact HR00
  isplitl [HO00]; · iexact HO00
  iexact HO

/-- Part 27 receives blocks of the result, stages them and starts copying them out. -/
theorem part27 (c : Dev nD) (v784 : BitVec 32) {α : Type} {Q : α → sProp 𝕄} {k : (PUnit) → KProg α} :
    iprop(Ctx m K ∗ RecvKit c 0 1 ∗ OutFree c 0 1 ∗ Owe c [])
      ⊢ iprop((iprop(RecvHas m c 0 1 ∗ OutFly m c 0 1 ∗ Owe c []) -∗ runs c (k ⟨⟩) Q)
        -∗ runs c (k0_part27 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v784 >>= k) Q) := by
  simp only [k0_part27_eq_skeleton]; unfold k0_part27_skel
  simp only [Prog.lift, Prog.bind_op, Prog.bind_ret, Prog.pure_eq_ret, Prog.bind_assoc]
  iintro ⟨#HC, HR01, HO01, HO⟩ Hk
  iapply (rc_wait m K c 0 1 (by decide) ?hN (Fin.ext (sem_at44 _ (frm 0 c) 1 _ _ (off20_0 c)))) $$ [HR01 HO]
  case hN => rfl
  · isplitr; · iexact HC
    isplitl [HR01] <;> iassumption
  iintro ⟨HR01, HO⟩
  iapply (rc_load m c 0 1 (off22_0 c)) $$ HR01
  iintro HR01
  iapply (og_peek c 0 1 (by decide) (off18_01 c)) $$ HO01
  iintro %v824 HO01
  iapply (og_fill m c 0 1 (by decide) (off18_01 c) (pay35_eq _)) $$ HO01
  iintro HO01
  iapply (og_start m c 0 1 (by decide) (off19_01 c) rfl) $$ HO01
  iintro HO01
  iapply Hk
  isplitl [HR01]; · iexact HR01
  isplitl [HO01]; · iexact HO01
  iexact HO

/-- Part 28 receives blocks of the result, stages them and starts copying them out. -/
theorem part28 (c : Dev nD) (v784 : BitVec 32) {α : Type} {Q : α → sProp 𝕄} {k : (PUnit) → KProg α} :
    iprop(Ctx m K ∗ RecvKit c 0 2 ∗ RecvKit c 0 3 ∗ OutFree c 0 2 ∗ Owe c [])
      ⊢ iprop((iprop(RecvHas m c 0 2 ∗ RecvHas m c 0 3 ∗ OutFly m c 0 2 ∗ Owe c []) -∗ runs c (k ⟨⟩) Q)
        -∗ runs c (k0_part28 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v784 >>= k) Q) := by
  simp only [k0_part28_eq_skeleton]; unfold k0_part28_skel
  simp only [Prog.lift, Prog.bind_op, Prog.bind_ret, Prog.pure_eq_ret, Prog.bind_assoc]
  iintro ⟨#HC, HR02, HR03, HO02, HO⟩ Hk
  iapply (rc_wait m K c 0 2 (by decide) ?hN (Fin.ext (sem_at44 _ (frm 0 c) 2 _ _ (off23_0 c)))) $$ [HR02 HO]
  case hN => rfl
  · isplitr; · iexact HC
    isplitl [HR02] <;> iassumption
  iintro ⟨HR02, HO⟩
  iapply (rc_load m c 0 2 (off25_0 c)) $$ HR02
  iintro HR02
  iapply (og_peek c 0 2 (by decide) (off18_02 c)) $$ HO02
  iintro %v848 HO02
  iapply (og_fill m c 0 2 (by decide) (off18_02 c) (pay36_eq _)) $$ HO02
  iintro HO02
  iapply (og_start m c 0 2 (by decide) (off19_02 c) rfl) $$ HO02
  iintro HO02
  iapply (rc_wait m K c 0 3 (by decide) ?hN (Fin.ext (sem_at44 _ (frm 0 c) 3 _ _ (off26_0 c)))) $$ [HR03 HO]
  case hN => rfl
  · isplitr; · iexact HC
    isplitl [HR03] <;> iassumption
  iintro ⟨HR03, HO⟩
  iapply Hk
  isplitl [HR02]; · iexact HR02
  isplitl [HR03]; · iexact HR03
  isplitl [HO02]; · iexact HO02
  iexact HO

/-- Part 29 receives blocks of the result, stages them and starts copying them out. -/
theorem part29 (c : Dev nD) (v2 : BitVec 32) (v784 : BitVec 32) {α : Type} {Q : α → sProp 𝕄} {k : (BitVec 32) → KProg α} :
    iprop(RecvHas m c 0 3 ∗ OutFree c 0 3)
      ⊢ iprop((∀ v891, iprop(RecvHas m c 0 3 ∗ OutFly m c 0 3) -∗ runs c (k v891) Q)
        -∗ runs c (k0_part29 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v784 >>= k) Q) := by
  simp only [k0_part29_eq_skeleton]; unfold k0_part29_skel
  simp only [Prog.lift, Prog.bind_op, Prog.bind_ret, Prog.pure_eq_ret, Prog.bind_assoc]
  iintro ⟨HR03, HO03⟩ Hk
  iapply (rc_load m c 0 3 (off28_0 c)) $$ HR03
  iintro HR03
  iapply (og_peek c 0 3 (by decide) (off18_03 c)) $$ HO03
  iintro %v872 HO03
  iapply (og_fill m c 0 3 (by decide) (off18_03 c) (pay37_eq _)) $$ HO03
  iintro HO03
  iapply (og_start m c 0 3 (by decide) (off19_03 c) rfl) $$ HO03
  iintro HO03
  iapply Hk $$ %_ [HR03 HO03]
  isplitl [HR03]; · iexact HR03
  iexact HO03

/-- Part 30 receives blocks of the result, stages them and starts copying them out. -/
theorem part30 (c : Dev nD) (v891 : BitVec 32) {α : Type} {Q : α → sProp 𝕄} {k : (PUnit) → KProg α} :
    iprop(Ctx m K ∗ RecvKit c 1 0 ∗ RecvKit c 1 1 ∗ OutFree c 1 0 ∗ Owe c [])
      ⊢ iprop((iprop(RecvHas m c 1 0 ∗ RecvHas m c 1 1 ∗ OutFly m c 1 0 ∗ Owe c []) -∗ runs c (k ⟨⟩) Q)
        -∗ runs c (k0_part30 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v891 >>= k) Q) := by
  simp only [k0_part30_eq_skeleton]; unfold k0_part30_skel
  simp only [Prog.lift, Prog.bind_op, Prog.bind_ret, Prog.pure_eq_ret, Prog.bind_assoc]
  iintro ⟨#HC, HR10, HR11, HO10, HO⟩ Hk
  iapply (rc_wait m K c 1 0 (by decide) ?hN (Fin.ext (sem_at44 _ (frm 1 c) 0 _ _ (off15_1 c)))) $$ [HR10 HO]
  case hN => rfl
  · isplitr; · iexact HC
    isplitl [HR10] <;> iassumption
  iintro ⟨HR10, HO⟩
  iapply (rc_load m c 1 0 (off17_1 c)) $$ HR10
  iintro HR10
  iapply (og_peek c 1 0 (by decide) (off18_10 c)) $$ HO10
  iintro %v907 HO10
  iapply (og_fill m c 1 0 (by decide) (off18_10 c) (pay38_eq _)) $$ HO10
  iintro HO10
  iapply (og_start m c 1 0 (by decide) (off19_10 c) rfl) $$ HO10
  iintro HO10
  iapply (rc_wait m K c 1 1 (by decide) ?hN (Fin.ext (sem_at44 _ (frm 1 c) 1 _ _ (off20_1 c)))) $$ [HR11 HO]
  case hN => rfl
  · isplitr; · iexact HC
    isplitl [HR11] <;> iassumption
  iintro ⟨HR11, HO⟩
  iapply Hk
  isplitl [HR10]; · iexact HR10
  isplitl [HR11]; · iexact HR11
  isplitl [HO10]; · iexact HO10
  iexact HO

/-- Part 31 receives blocks of the result, stages them and starts copying them out. -/
theorem part31 (c : Dev nD) (v891 : BitVec 32) {α : Type} {Q : α → sProp 𝕄} {k : (Σ' (v951 : FVec F S256x512 .f32), BitVec 32) → KProg α} :
    iprop(Ctx m K ∗ RecvHas m c 1 1 ∗ RecvKit c 1 2 ∗ OutFree c 1 1 ∗ Owe c [])
      ⊢ iprop((∀ v952, iprop(RecvHas m c 1 1 ∗ RecvHas m c 1 2 ∗ OutFly m c 1 1 ∗ Owe c []) -∗ runs c (k ⟨(k0_pay40 (blk m (frm 1 c) 1 2)), v952⟩) Q)
        -∗ runs c (k0_part31 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v891 >>= k) Q) := by
  simp only [k0_part31_eq_skeleton]; unfold k0_part31_skel
  simp only [Prog.lift, Prog.bind_op, Prog.bind_ret, Prog.pure_eq_ret, Prog.bind_assoc]
  iintro ⟨#HC, HR11, HR12, HO11, HO⟩ Hk
  iapply (rc_load m c 1 1 (off22_1 c)) $$ HR11
  iintro HR11
  iapply (og_peek c 1 1 (by decide) (off18_11 c)) $$ HO11
  iintro %v931 HO11
  iapply (og_fill m c 1 1 (by decide) (off18_11 c) (pay39_eq _)) $$ HO11
  iintro HO11
  iapply (og_start m c 1 1 (by decide) (off19_11 c) rfl) $$ HO11
  iintro HO11
  iapply (rc_wait m K c 1 2 (by decide) ?hN (Fin.ext (sem_at44 _ (frm 1 c) 2 _ _ (off23_1 c)))) $$ [HR12 HO]
  case hN => rfl
  · isplitr; · iexact HC
    isplitl [HR12] <;> iassumption
  iintro ⟨HR12, HO⟩
  iapply (rc_load m c 1 2 (off25_1 c)) $$ HR12
  iintro HR12
  iapply Hk $$ %_ [HR11 HR12 HO11 HO]
  isplitl [HR11]; · iexact HR11
  isplitl [HR12]; · iexact HR12
  isplitl [HO11]; · iexact HO11
  iexact HO

/-- Part 32 receives blocks of the result, stages them and starts copying them out. -/
theorem part32 (c : Dev nD) (v891 : BitVec 32) (v952 : BitVec 32) {α : Type} {Q : α → sProp 𝕄} {k : (BitVec 32) → KProg α} :
    iprop(Ctx m K ∗ RecvKit c 1 3 ∗ OutFree c 1 2 ∗ OutFree c 1 3 ∗ Owe c [])
      ⊢ iprop((iprop(RecvHas m c 1 3 ∗ OutFly m c 1 2 ∗ OutHas m c 1 3 ∗ Owe c []) -∗ runs c (k 1024#32) Q)
        -∗ runs c (k0_part32 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v891 (k0_pay40 (blk m (frm 1 c) 1 2)) v952 >>= k) Q) := by
  simp only [k0_part32_eq_skeleton]; unfold k0_part32_skel
  simp only [Prog.lift, Prog.bind_op, Prog.bind_ret, Prog.pure_eq_ret, Prog.bind_assoc]
  iintro ⟨#HC, HR13, HO12, HO13, HO⟩ Hk
  iapply (og_peek c 1 2 (by decide) (off18_12 c)) $$ HO12
  iintro %v955 HO12
  iapply (og_fill m c 1 2 (by decide) (off18_12 c) (pay41_eq _)) $$ HO12
  iintro HO12
  iapply (og_start m c 1 2 (by decide) (off19_12 c) rfl) $$ HO12
  iintro HO12
  iapply (rc_wait m K c 1 3 (by decide) ?hN (Fin.ext (sem_at44 _ (frm 1 c) 3 _ _ (off26_1 c)))) $$ [HR13 HO]
  case hN => rfl
  · isplitr; · iexact HC
    isplitl [HR13] <;> iassumption
  iintro ⟨HR13, HO⟩
  iapply (rc_load m c 1 3 (off28_1 c)) $$ HR13
  iintro HR13
  iapply (og_peek c 1 3 (by decide) (off18_13 c)) $$ HO13
  iintro %v979 HO13
  iapply (og_fill m c 1 3 (by decide) (off18_13 c) (pay42_eq _)) $$ HO13
  iintro HO13
  iapply Hk
  isplitl [HR13]; · iexact HR13
  isplitl [HO12]; · iexact HO12
  isplitl [HO13]; · iexact HO13
  iexact HO

end Cert.GemmRing
-- ==== Proof.PartsD.lean ====
/- Triples of parts of the kernel: each says what the part takes and what it leaves. -/
module

public import proofs.«01_k».proof.Proof.Steps0

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

variable (K : Dev nD × CK → ℕ)

/-- Part 33 receives blocks of the result, stages them and starts copying them out. -/
theorem part33 (c : Dev nD) (v2 : BitVec 32) (v891 : BitVec 32) (c1024_i32_833 : BitVec 32) {α : Type} {Q : α → sProp 𝕄} {k : (Σ' (v998 : BitVec 32) (v1010 : FVec F S256x512 .f32), BitVec 32) → KProg α} :
    iprop(Ctx m K ∗ RecvKit c 2 0 ∗ OutHas m c 1 3 ∗ Owe c [])
      ⊢ iprop((∀ v998 v1011, iprop(RecvHas m c 2 0 ∗ OutFly m c 1 3 ∗ Owe c []) -∗ runs c (k ⟨v998, (k0_pay43 (blk m (frm 2 c) 2 0)), v1011⟩) Q)
        -∗ runs c (k0_part33 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v891 c1024_i32_833 >>= k) Q) := by
  simp only [k0_part33_eq_skeleton]; unfold k0_part33_skel
  simp only [Prog.lift, Prog.bind_op, Prog.bind_ret, Prog.pure_eq_ret, Prog.bind_assoc]
  iintro ⟨#HC, HR20, HO13, HO⟩ Hk
  iapply (og_start m c 1 3 (by decide) (off19_13 c) rfl) $$ HO13
  iintro HO13
  iapply (rc_wait m K c 2 0 (by decide) ?hN (Fin.ext (sem_at44 _ (frm 2 c) 0 _ _ (off15_2 c)))) $$ [HR20 HO]
  case hN => rfl
  · isplitr; · iexact HC
    isplitl [HR20] <;> iassumption
  iintro ⟨HR20, HO⟩
  iapply (rc_load m c 2 0 (off17_2 c)) $$ HR20
  iintro HR20
  iapply Hk $$ %_ %_ [HR20 HO13 HO]
  isplitl [HR20]; · iexact HR20
  isplitl [HO13]; · iexact HO13
  iexact HO

/-- Part 34 receives blocks of the result, stages them and starts copying them out. -/
theorem part34 (c : Dev nD) (v998 : BitVec 32) (v1011 : BitVec 32) {α : Type} {Q : α → sProp 𝕄} {k : (BitVec 32) → KProg α} :
    iprop(Ctx m K ∗ RecvKit c 2 1 ∗ OutFree c 2 0 ∗ OutFree c 2 1 ∗ Owe c [])
      ⊢ iprop((iprop(RecvHas m c 2 1 ∗ OutFly m c 2 0 ∗ OutHas m c 2 1 ∗ Owe c []) -∗ runs c (k 1024#32) Q)
        -∗ runs c (k0_part34 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v998 (k0_pay43 (blk m (frm 2 c) 2 0)) v1011 >>= k) Q) := by
  simp only [k0_part34_eq_skeleton]; unfold k0_part34_skel
  simp only [Prog.lift, Prog.bind_op, Prog.bind_ret, Prog.pure_eq_ret, Prog.bind_assoc]
  iintro ⟨#HC, HR21, HO20, HO21, HO⟩ Hk
  iapply (og_peek c 2 0 (by decide) (off18_20 c)) $$ HO20
  iintro %v1014 HO20
  iapply (og_fill m c 2 0 (by decide) (off18_20 c) (pay44_eq _)) $$ HO20
  iintro HO20
  iapply (og_start m c 2 0 (by decide) (off19_20 c) rfl) $$ HO20
  iintro HO20
  iapply (rc_wait m K c 2 1 (by decide) ?hN (Fin.ext (sem_at44 _ (frm 2 c) 1 _ _ (off20_2 c)))) $$ [HR21 HO]
  case hN => rfl
  · isplitr; · iexact HC
    isplitl [HR21] <;> iassumption
  iintro ⟨HR21, HO⟩
  iapply (rc_load m c 2 1 (off22_2 c)) $$ HR21
  iintro HR21
  iapply (og_peek c 2 1 (by decide) (off18_21 c)) $$ HO21
  iintro %v1038 HO21
  iapply (og_fill m c 2 1 (by decide) (off18_21 c) (pay45_eq _)) $$ HO21
  iintro HO21
  iapply Hk
  isplitl [HR21]; · iexact HR21
  isplitl [HO20]; · iexact HO20
  isplitl [HO21]; · iexact HO21
  iexact HO

/-- Part 35 receives blocks of the result, stages them and starts copying them out. -/
theorem part35 (c : Dev nD) (v998 : BitVec 32) (c1024_i32_888 : BitVec 32) {α : Type} {Q : α → sProp 𝕄} {k : (PUnit) → KProg α} :
    iprop(Ctx m K ∗ RecvKit c 2 2 ∗ OutHas m c 2 1 ∗ OutFree c 2 2 ∗ Owe c [])
      ⊢ iprop((iprop(RecvHas m c 2 2 ∗ OutFly m c 2 1 ∗ OutHas m c 2 2 ∗ Owe c []) -∗ runs c (k ⟨⟩) Q)
        -∗ runs c (k0_part35 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v998 c1024_i32_888 >>= k) Q) := by
  simp only [k0_part35_eq_skeleton]; unfold k0_part35_skel
  simp only [Prog.lift, Prog.bind_op, Prog.bind_ret, Prog.pure_eq_ret, Prog.bind_assoc]
  iintro ⟨#HC, HR22, HO21, HO22, HO⟩ Hk
  iapply (og_start m c 2 1 (by decide) (off19_21 c) rfl) $$ HO21
  iintro HO21
  iapply (rc_wait m K c 2 2 (by decide) ?hN (Fin.ext (sem_at44 _ (frm 2 c) 2 _ _ (off23_2 c)))) $$ [HR22 HO]
  case hN => rfl
  · isplitr; · iexact HC
    isplitl [HR22] <;> iassumption
  iintro ⟨HR22, HO⟩
  iapply (rc_load m c 2 2 (off25_2 c)) $$ HR22
  iintro HR22
  iapply (og_peek c 2 2 (by decide) (off18_22 c)) $$ HO22
  iintro %v1062 HO22
  iapply (og_fill m c 2 2 (by decide) (off18_22 c) (pay46_eq _)) $$ HO22
  iintro HO22
  iapply Hk
  isplitl [HR22]; · iexact HR22
  isplitl [HO21]; · iexact HO21
  isplitl [HO22]; · iexact HO22
  iexact HO

/-- Part 36 receives blocks of the result, stages them and starts copying them out. -/
theorem part36 (c : Dev nD) (v2 : BitVec 32) (v998 : BitVec 32) {α : Type} {Q : α → sProp 𝕄} {k : (Σ' (v1095 : BitVec 32) (c4_i32_943 : BitVec 32) (v1096 : BitVec 1), BitVec 32) → KProg α} :
    iprop(Ctx m K ∗ RecvKit c 2 3 ∗ OutHas m c 2 2 ∗ OutFree c 2 3 ∗ Owe c [])
      ⊢ iprop((∀ v1095 v1096, iprop(RecvHas m c 2 3 ∗ OutFly m c 2 2 ∗ OutFly m c 2 3 ∗ Owe c []) -∗ runs c (k ⟨v1095, 4#32, v1096, 1#32⟩) Q)
        -∗ runs c (k0_part36 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v998 >>= k) Q) := by
  simp only [k0_part36_eq_skeleton]; unfold k0_part36_skel
  simp only [Prog.lift, Prog.bind_op, Prog.bind_ret, Prog.pure_eq_ret, Prog.bind_assoc]
  iintro ⟨#HC, HR23, HO22, HO23, HO⟩ Hk
  iapply (og_start m c 2 2 (by decide) (off19_22 c) rfl) $$ HO22
  iintro HO22
  iapply (rc_wait m K c 2 3 (by decide) ?hN (Fin.ext (sem_at44 _ (frm 2 c) 3 _ _ (off26_2 c)))) $$ [HR23 HO]
  case hN => rfl
  · isplitr; · iexact HC
    isplitl [HR23] <;> iassumption
  iintro ⟨HR23, HO⟩
  iapply (rc_load m c 2 3 (off28_2 c)) $$ HR23
  iintro HR23
  iapply (og_peek c 2 3 (by decide) (off18_23 c)) $$ HO23
  iintro %v1086 HO23
  iapply (og_fill m c 2 3 (by decide) (off18_23 c) (pay47_eq _)) $$ HO23
  iintro HO23
  iapply (og_start m c 2 3 (by decide) (off19_23 c) rfl) $$ HO23
  iintro HO23
  iapply Hk $$ %_ %_ [HR23 HO22 HO23 HO]
  isplitl [HR23]; · iexact HR23
  isplitl [HO22]; · iexact HO22
  isplitl [HO23]; · iexact HO23
  iexact HO

/-- Part 37 waits until blocks have left the send buffer. -/
theorem part37 (c : Dev nD) (v1095 : BitVec 32) (c4_i32_943 : BitVec 32) (v1096 : BitVec 1) (c1_i32_945 : BitVec 32) {α : Type} {Q : α → sProp 𝕄} {k : (PUnit) → KProg α} :
    iprop(Ctx m K ∗ SendGone c 0 0 ∗ SendGone c 0 1 ∗ Owe c [])
      ⊢ iprop((iprop(SendDone m c 0 0 ∗ SendDone m c 0 1 ∗ Owe c []) -∗ runs c (k ⟨⟩) Q)
        -∗ runs c (k0_part37 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v1095 c4_i32_943 v1096 c1_i32_945 >>= k) Q) := by
  simp only [k0_part37_eq_skeleton]; unfold k0_part37_skel
  simp only [Prog.lift, Prog.bind_op, Prog.bind_ret, Prog.pure_eq_ret, Prog.bind_assoc]
  iintro ⟨#HC, HS00, HS01, HO⟩ Hk
  iapply (sd_wait m K c 0 0 (by decide) ?hN rfl) $$ [HS00 HO]
  case hN => rfl
  · isplitr; · iexact HC
    isplitl [HS00] <;> iassumption
  iintro ⟨HS00, HO⟩
  iapply (sd_wait m K c 0 1 (by decide) ?hN rfl) $$ [HS01 HO]
  case hN => rfl
  · isplitr; · iexact HC
    isplitl [HS01] <;> iassumption
  iintro ⟨HS01, HO⟩
  iapply Hk
  isplitl [HS00]; · iexact HS00
  isplitl [HS01]; · iexact HS01
  iexact HO

/-- Part 38 waits until blocks have left the send buffer. -/
theorem part38 (c : Dev nD) (v2 : BitVec 32) {α : Type} {Q : α → sProp 𝕄} {k : (PUnit) → KProg α} :
    iprop(Ctx m K ∗ SendGone c 0 2 ∗ SendGone c 0 3 ∗ SendGone c 1 0 ∗ Owe c [])
      ⊢ iprop((iprop(SendDone m c 0 2 ∗ SendDone m c 0 3 ∗ SendDone m c 1 0 ∗ Owe c []) -∗ runs c (k ⟨⟩) Q)
        -∗ runs c (k0_part38 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 >>= k) Q) := by
  simp only [k0_part38_eq_skeleton]; unfold k0_part38_skel
  simp only [Prog.lift, Prog.bind_op, Prog.bind_ret, Prog.pure_eq_ret, Prog.bind_assoc]
  iintro ⟨#HC, HS02, HS03, HS10, HO⟩ Hk
  iapply (sd_wait m K c 0 2 (by decide) ?hN rfl) $$ [HS02 HO]
  case hN => rfl
  · isplitr; · iexact HC
    isplitl [HS02] <;> iassumption
  iintro ⟨HS02, HO⟩
  iapply (sd_wait m K c 0 3 (by decide) ?hN rfl) $$ [HS03 HO]
  case hN => rfl
  · isplitr; · iexact HC
    isplitl [HS03] <;> iassumption
  iintro ⟨HS03, HO⟩
  iapply (sd_wait m K c 1 0 (by decide) ?hN rfl) $$ [HS10 HO]
  case hN => rfl
  · isplitr; · iexact HC
    isplitl [HS10] <;> iassumption
  iintro ⟨HS10, HO⟩
  iapply Hk
  isplitl [HS02]; · iexact HS02
  isplitl [HS03]; · iexact HS03
  isplitl [HS10]; · iexact HS10
  iexact HO

/-- Part 39 waits until blocks have left the send buffer. -/
theorem part39 (c : Dev nD) (v2 : BitVec 32) {α : Type} {Q : α → sProp 𝕄} {k : (Σ' (v1165 : BitVec 32) (c4_i32_1045 : BitVec 32) (v1166 : BitVec 1), BitVec 32) → KProg α} :
    iprop(Ctx m K ∗ SendGone c 1 1 ∗ SendGone c 1 2 ∗ SendGone c 1 3 ∗ Owe c [])
      ⊢ iprop((∀ v1165 v1166, iprop(SendDone m c 1 1 ∗ SendDone m c 1 2 ∗ SendDone m c 1 3 ∗ Owe c []) -∗ runs c (k ⟨v1165, 4#32, v1166, 1#32⟩) Q)
        -∗ runs c (k0_part39 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 >>= k) Q) := by
  simp only [k0_part39_eq_skeleton]; unfold k0_part39_skel
  simp only [Prog.lift, Prog.bind_op, Prog.bind_ret, Prog.pure_eq_ret, Prog.bind_assoc]
  iintro ⟨#HC, HS11, HS12, HS13, HO⟩ Hk
  iapply (sd_wait m K c 1 1 (by decide) ?hN rfl) $$ [HS11 HO]
  case hN => rfl
  · isplitr; · iexact HC
    isplitl [HS11] <;> iassumption
  iintro ⟨HS11, HO⟩
  iapply (sd_wait m K c 1 2 (by decide) ?hN rfl) $$ [HS12 HO]
  case hN => rfl
  · isplitr; · iexact HC
    isplitl [HS12] <;> iassumption
  iintro ⟨HS12, HO⟩
  iapply (sd_wait m K c 1 3 (by decide) ?hN rfl) $$ [HS13 HO]
  case hN => rfl
  · isplitr; · iexact HC
    isplitl [HS13] <;> iassumption
  iintro ⟨HS13, HO⟩
  iapply Hk $$ %_ %_ [HS11 HS12 HS13 HO]
  isplitl [HS11]; · iexact HS11
  isplitl [HS12]; · iexact HS12
  isplitl [HS13]; · iexact HS13
  iexact HO

/-- Part 40 waits until blocks have left the send buffer. -/
theorem part40 (c : Dev nD) (v1165 : BitVec 32) (c4_i32_1045 : BitVec 32) (v1166 : BitVec 1) (c1_i32_1047 : BitVec 32) {α : Type} {Q : α → sProp 𝕄} {k : (PUnit) → KProg α} :
    iprop(Ctx m K ∗ SendGone c 2 0 ∗ SendGone c 2 1 ∗ Owe c [])
      ⊢ iprop((iprop(SendDone m c 2 0 ∗ SendDone m c 2 1 ∗ Owe c []) -∗ runs c (k ⟨⟩) Q)
        -∗ runs c (k0_part40 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v1165 c4_i32_1045 v1166 c1_i32_1047 >>= k) Q) := by
  simp only [k0_part40_eq_skeleton]; unfold k0_part40_skel
  simp only [Prog.lift, Prog.bind_op, Prog.bind_ret, Prog.pure_eq_ret, Prog.bind_assoc]
  iintro ⟨#HC, HS20, HS21, HO⟩ Hk
  iapply (sd_wait m K c 2 0 (by decide) ?hN rfl) $$ [HS20 HO]
  case hN => rfl
  · isplitr; · iexact HC
    isplitl [HS20] <;> iassumption
  iintro ⟨HS20, HO⟩
  iapply (sd_wait m K c 2 1 (by decide) ?hN rfl) $$ [HS21 HO]
  case hN => rfl
  · isplitr; · iexact HC
    isplitl [HS21] <;> iassumption
  iintro ⟨HS21, HO⟩
  iapply Hk
  isplitl [HS20]; · iexact HS20
  isplitl [HS21]; · iexact HS21
  iexact HO

/-- Part 41 waits until parts of the result are in place. -/
theorem part41 (c : Dev nD) (v2 : BitVec 32) {α : Type} {Q : α → sProp 𝕄} {k : (BitVec 32) → KProg α} :
    iprop(Ctx m K ∗ SendGone c 2 2 ∗ SendGone c 2 3 ∗ OutFly m c 0 0 ∗ Owe c [])
      ⊢ iprop((∀ v1210, iprop(SendDone m c 2 2 ∗ SendDone m c 2 3 ∗ OutDone m c 0 0 ∗ Owe c []) -∗ runs c (k v1210) Q)
        -∗ runs c (k0_part41 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 >>= k) Q) := by
  simp only [k0_part41_eq_skeleton]; unfold k0_part41_skel
  simp only [Prog.lift, Prog.bind_op, Prog.bind_ret, Prog.pure_eq_ret, Prog.bind_assoc]
  iintro ⟨#HC, HS22, HS23, HO00, HO⟩ Hk
  iapply (sd_wait m K c 2 2 (by decide) ?hN rfl) $$ [HS22 HO]
  case hN => rfl
  · isplitr; · iexact HC
    isplitl [HS22] <;> iassumption
  iintro ⟨HS22, HO⟩
  iapply (sd_wait m K c 2 3 (by decide) ?hN rfl) $$ [HS23 HO]
  case hN => rfl
  · isplitr; · iexact HC
    isplitl [HS23] <;> iassumption
  iintro ⟨HS23, HO⟩
  iapply (out_wait m K c 0 0 ?hN rfl) $$ [HO00 HO]
  case hN => exact (if_neg (by decide)).symm
  · isplitr; · iexact HC
    isplitl [HO00] <;> iassumption
  iintro ⟨HO00, HO⟩
  iapply Hk $$ %_ [HS22 HS23 HO00 HO]
  isplitl [HS22]; · iexact HS22
  isplitl [HS23]; · iexact HS23
  isplitl [HO00]; · iexact HO00
  iexact HO

/-- Part 42 waits until parts of the result are in place. -/
theorem part42 (c : Dev nD) (v2 : BitVec 32) (v1210 : BitVec 32) {α : Type} {Q : α → sProp 𝕄} {k : (BitVec 32) → KProg α} :
    iprop(Ctx m K ∗ OutFly m c 0 1 ∗ OutFly m c 0 2 ∗ OutFly m c 0 3 ∗ Owe c [])
      ⊢ iprop((∀ v1245, iprop(OutDone m c 0 1 ∗ OutDone m c 0 2 ∗ OutDone m c 0 3 ∗ Owe c []) -∗ runs c (k v1245) Q)
        -∗ runs c (k0_part42 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v1210 >>= k) Q) := by
  simp only [k0_part42_eq_skeleton]; unfold k0_part42_skel
  simp only [Prog.lift, Prog.bind_op, Prog.bind_ret, Prog.pure_eq_ret, Prog.bind_assoc]
  iintro ⟨#HC, HO01, HO02, HO03, HO⟩ Hk
  iapply (out_wait m K c 0 1 ?hN rfl) $$ [HO01 HO]
  case hN => exact (if_neg (by decide)).symm
  · isplitr; · iexact HC
    isplitl [HO01] <;> iassumption
  iintro ⟨HO01, HO⟩
  iapply (out_wait m K c 0 2 ?hN rfl) $$ [HO02 HO]
  case hN => exact (if_neg (by decide)).symm
  · isplitr; · iexact HC
    isplitl [HO02] <;> iassumption
  iintro ⟨HO02, HO⟩
  iapply (out_wait m K c 0 3 ?hN rfl) $$ [HO03 HO]
  case hN => exact (if_neg (by decide)).symm
  · isplitr; · iexact HC
    isplitl [HO03] <;> iassumption
  iintro ⟨HO03, HO⟩
  iapply Hk $$ %_ [HO01 HO02 HO03 HO]
  isplitl [HO01]; · iexact HO01
  isplitl [HO02]; · iexact HO02
  isplitl [HO03]; · iexact HO03
  iexact HO

/-- Part 43 waits until parts of the result are in place. -/
theorem part43 (c : Dev nD) (v2 : BitVec 32) (v1245 : BitVec 32) {α : Type} {Q : α → sProp 𝕄} {k : (Σ' (v1272 : BitVec 32) (v1273 : BitVec 32), BitVec 1) → KProg α} :
    iprop(Ctx m K ∗ OutFly m c 1 0 ∗ OutFly m c 1 1 ∗ OutFly m c 1 2 ∗ OutFly m c 1 3 ∗ Owe c [])
      ⊢ iprop((∀ v1272 v1273 v1278, iprop(OutDone m c 1 0 ∗ OutDone m c 1 1 ∗ OutDone m c 1 2 ∗ OutDone m c 1 3 ∗ Owe c []) -∗ runs c (k ⟨v1272, v1273, v1278⟩) Q)
        -∗ runs c (k0_part43 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v1245 >>= k) Q) := by
  simp only [k0_part43_eq_skeleton]; unfold k0_part43_skel
  simp only [Prog.lift, Prog.bind_op, Prog.bind_ret, Prog.pure_eq_ret, Prog.bind_assoc]
  iintro ⟨#HC, HO10, HO11, HO12, HO13, HO⟩ Hk
  iapply (out_wait m K c 1 0 ?hN rfl) $$ [HO10 HO]
  case hN => exact (if_neg (by decide)).symm
  · isplitr; · iexact HC
    isplitl [HO10] <;> iassumption
  iintro ⟨HO10, HO⟩
  iapply (out_wait m K c 1 1 ?hN rfl) $$ [HO11 HO]
  case hN => exact (if_neg (by decide)).symm
  · isplitr; · iexact HC
    isplitl [HO11] <;> iassumption
  iintro ⟨HO11, HO⟩
  iapply (out_wait m K c 1 2 ?hN rfl) $$ [HO12 HO]
  case hN => exact (if_neg (by decide)).symm
  · isplitr; · iexact HC
    isplitl [HO12] <;> iassumption
  iintro ⟨HO12, HO⟩
  iapply (out_wait m K c 1 3 ?hN rfl) $$ [HO13 HO]
  case hN => exact (if_neg (by decide)).symm
  · isplitr; · iexact HC
    isplitl [HO13] <;> iassumption
  iintro ⟨HO13, HO⟩
  iapply Hk $$ %_ %_ %_ [HO10 HO11 HO12 HO13 HO]
  isplitl [HO10]; · iexact HO10
  isplitl [HO11]; · iexact HO11
  isplitl [HO12]; · iexact HO12
  isplitl [HO13]; · iexact HO13
  iexact HO

/-- Part 44 waits until parts of the result are in place. -/
theorem part44 (c : Dev nD) (v2 : BitVec 32) (v1272 : BitVec 32) (v1273 : BitVec 32) (v1278 : BitVec 1) {α : Type} {Q : α → sProp 𝕄} {k : (PUnit) → KProg α} :
    iprop(Ctx m K ∗ OutFly m c 2 0 ∗ OutFly m c 2 1 ∗ OutFly m c 2 2 ∗ OutFly m c 2 3 ∗ Owe c [])
      ⊢ iprop((iprop(OutDone m c 2 0 ∗ OutDone m c 2 1 ∗ OutDone m c 2 2 ∗ OutDone m c 2 3 ∗ Owe c []) -∗ runs c (k ⟨⟩) Q)
        -∗ runs c (k0_part44 (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11 c v2 v1272 v1273 v1278 >>= k) Q) := by
  simp only [k0_part44_eq_skeleton]; unfold k0_part44_skel
  simp only [Prog.lift, Prog.bind_op, Prog.bind_ret, Prog.pure_eq_ret, Prog.bind_assoc]
  iintro ⟨#HC, HO20, HO21, HO22, HO23, HO⟩ Hk
  iapply (out_wait m K c 2 0 ?hN rfl) $$ [HO20 HO]
  case hN => exact (if_neg (by decide)).symm
  · isplitr; · iexact HC
    isplitl [HO20] <;> iassumption
  iintro ⟨HO20, HO⟩
  iapply (out_wait m K c 2 1 ?hN rfl) $$ [HO21 HO]
  case hN => exact (if_neg (by decide)).symm
  · isplitr; · iexact HC
    isplitl [HO21] <;> iassumption
  iintro ⟨HO21, HO⟩
  iapply (out_wait m K c 2 2 ?hN rfl) $$ [HO22 HO]
  case hN => exact (if_neg (by decide)).symm
  · isplitr; · iexact HC
    isplitl [HO22] <;> iassumption
  iintro ⟨HO22, HO⟩
  iapply (out_wait m K c 2 3 ?hN rfl) $$ [HO23 HO]
  case hN => exact (if_neg (by decide)).symm
  · isplitr; · iexact HC
    isplitl [HO23] <;> iassumption
  iintro ⟨HO23, HO⟩
  iapply Hk
  isplitl [HO20]; · iexact HO20
  isplitl [HO21]; · iexact HO21
  isplitl [HO22]; · iexact HO22
  isplitl [HO23]; · iexact HO23
  iexact HO

end Cert.GemmRing
-- ==== Proof.Body.lean ====
/- The kernel's body on one device: what it takes and what it leaves. -/
module

public import proofs.«01_k».proof.Proof.PartsA
public import proofs.«01_k».proof.Proof.PartsB
public import proofs.«01_k».proof.Proof.PartsC
public import proofs.«01_k».proof.Proof.PartsD

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

variable (K : Dev nD × CK → ℕ)

/-- A program that has returned owes only its postcondition. -/
theorem runs_ret (c : Dev nD) {α : Type} {Q : α → sProp 𝕄} {a : α} : Q a ⊢ runs c (.ret a) Q := by
  unfold runs
  rw [wp_ret]
  iintro H
  imodintro; iexact H

/-- What the four slots handed over by a peer are, one by one. -/
theorem bar_slots (p c : Dev nD) : barPay (F := F) p c = iprop(RecvSlot p c 0 ∗ RecvSlot p c 1 ∗ RecvSlot p c 2 ∗ RecvSlot p c 3) := by
  unfold barPay
  rw [bigSep_univ_eq_bigSepL [0, 1, 2, 3] (by decide) (by decide)]
  simp only [bigSepL_cons_cons, bigSepL_singleton]; rfl

/-- A slot of the send buffer with its tokens, and the slot of the peer it goes to. -/
theorem send_kit (c : Dev nD) (j r : Fin 4) : iprop((SendTok (F := F) c j r ∗ SendFree c j r) ∗ RecvSlot (tgt j c) c r) ⊢ SendKit c j r := by
  unfold SendKit
  iintro ⟨⟨Ht, Hf⟩, Hr⟩
  isplitl [Ht]; · iexact Ht
  isplitl [Hr] <;> iassumption

/-- The first half of the own result does not see the old weights of the second half of the strip. -/
theorem own_first (c : Dev nD) {v : Vec F S1x4096x512 .bf16} (hv : ∀ j : S1x4096x512.Idx, (j 2).val < 256 → v j = wv m c c j) :
    k0_pay31 (k0_pay29 (XB m c) v) (k0_pay30 (XB m c) v) = own m c 0 := by
  rw [pay29_eq m c c v hv, pay30_eq m c c v hv]
  exact (if_pos rfl).symm

/-- The device's operands and working buffers at the start. -/
def Work₀ (c : Dev nD) : sProp 𝕄 := iprop(Arg0 m c ∗ Arg1 m c ∗ XFree c 0 ∗ XFree c 1 ∗ XUp m c 0 ∗ WSFree c 0 ∗ WSFree c 1 ∗ WUp m c 0 (tgt 0 c) 0 ∗ WUp m c 1 (tgt 1 c) 0)
/-- Its part of the barrier: a token for each peer's cell, its own slots row by row, and the credit it waits for. -/
def Bar₀ (c : Dev nD) : sProp 𝕄 :=
  iprop((BarTok (tgt 1 c) 2 ∗ BarTok (tgt 0 c) 0 ∗ BarTok (tgt 2 c) 1) ∗ (barPay c (tgt 1 c) ∗ barPay c (tgt 0 c) ∗ barPay c (tgt 2 c)) ∗ BarKit c)
/-- The slots to send from, the credits of what it receives, and the parts of its result. -/
def Send₀ (c : Dev nD) : sProp 𝕄 := iprop((SendTok c 0 0 ∗ SendFree c 0 0) ∗ (SendTok c 0 1 ∗ SendFree c 0 1) ∗ (SendTok c 0 2 ∗ SendFree c 0 2) ∗ (SendTok c 0 3 ∗ SendFree c 0 3) ∗ (SendTok c 1 0 ∗ SendFree c 1 0) ∗ (SendTok c 1 1 ∗ SendFree c 1 1) ∗ (SendTok c 1 2 ∗ SendFree c 1 2) ∗ (SendTok c 1 3 ∗ SendFree c 1 3) ∗ (SendTok c 2 0 ∗ SendFree c 2 0) ∗ (SendTok c 2 1 ∗ SendFree c 2 1) ∗ (SendTok c 2 2 ∗ SendFree c 2 2) ∗ (SendTok c 2 3 ∗ SendFree c 2 3))
def Recv₀ (c : Dev nD) : sProp 𝕄 := iprop(RecvKit c 0 0 ∗ RecvKit c 0 1 ∗ RecvKit c 0 2 ∗ RecvKit c 0 3 ∗ RecvKit c 1 0 ∗ RecvKit c 1 1 ∗ RecvKit c 1 2 ∗ RecvKit c 1 3 ∗ RecvKit c 2 0 ∗ RecvKit c 2 1 ∗ RecvKit c 2 2 ∗ RecvKit c 2 3)
def Out₀ (c : Dev nD) : sProp 𝕄 := iprop(OutFree c 0 0 ∗ OutFree c 0 1 ∗ OutFree c 0 2 ∗ OutFree c 0 3 ∗ OutFree c 1 0 ∗ OutFree c 1 1 ∗ OutFree c 1 2 ∗ OutFree c 1 3 ∗ OutFree c 2 0 ∗ OutFree c 2 1 ∗ OutFree c 2 2 ∗ OutFree c 2 3 ∗ OutFree c 3 0 ∗ OutFree c 3 1)
/-- The same at the end. -/
def Work₁ (c : Dev nD) : sProp 𝕄 := iprop(Arg0 m c ∗ Arg1 m c ∗ XHas m c 0 2 ∗ XHas m c 1 3 ∗ XUp m c 4 ∗ WHas m c 0 (tgt 2 c) ∗ WHas m c 1 c ∗ WUp m c 0 (tgt 2 c) 512 ∗ WUp m c 1 c 512)
def Send₁ (c : Dev nD) : sProp 𝕄 := iprop(SendDone m c 0 0 ∗ SendDone m c 0 1 ∗ SendDone m c 0 2 ∗ SendDone m c 0 3 ∗ SendDone m c 1 0 ∗ SendDone m c 1 1 ∗ SendDone m c 1 2 ∗ SendDone m c 1 3 ∗ SendDone m c 2 0 ∗ SendDone m c 2 1 ∗ SendDone m c 2 2 ∗ SendDone m c 2 3)
def Recv₁ (c : Dev nD) : sProp 𝕄 := iprop(RecvHas m c 0 0 ∗ RecvHas m c 0 1 ∗ RecvHas m c 0 2 ∗ RecvHas m c 0 3 ∗ RecvHas m c 1 0 ∗ RecvHas m c 1 1 ∗ RecvHas m c 1 2 ∗ RecvHas m c 1 3 ∗ RecvHas m c 2 0 ∗ RecvHas m c 2 1 ∗ RecvHas m c 2 2 ∗ RecvHas m c 2 3)
def Out₁ (c : Dev nD) : sProp 𝕄 := iprop(OutDone m c 0 0 ∗ OutDone m c 0 1 ∗ OutDone m c 0 2 ∗ OutDone m c 0 3 ∗ OutDone m c 1 0 ∗ OutDone m c 1 1 ∗ OutDone m c 1 2 ∗ OutDone m c 1 3 ∗ OutDone m c 2 0 ∗ OutDone m c 2 1 ∗ OutDone m c 2 2 ∗ OutDone m c 2 3 ∗ OutDone m c 3 0 ∗ OutDone m c 3 1)

set_option maxHeartbeats 4000000 in
/-- The body takes its start to its end: every copy has been waited for, and the result is in place. -/
theorem body (c : Dev nD) {W : Waits sig Unit} {Q : PUnit → sProp 𝕄} :
    iprop(Ctx m K ∗ Work₀ m c ∗ Bar₀ c ∗ Send₀ c ∗ Recv₀ c ∗ Out₀ c ∗ owes (c : Thread nD τ) (O₀ c) W)
      ⊢ iprop((iprop(Work₁ m c ∗ semVal (barC c) 0 ∗ Send₁ m c ∗ Recv₁ m c ∗ Out₁ m c ∗ Owe c []) -∗ Q ⟨⟩)
        -∗ runs c (cc0_body (F := F) (Memref.whole main_arg0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 (Memref.whole cc0_scratch6) (Memref.isWhole_whole _)
          (Memref.whole cc0_scratch7) (Memref.isWhole_whole _) cc0_scratch8 cc0_scratch9 (Memref.whole cc0_scratch10) (Memref.isWhole_whole _) cc0_scratch11) Q) := by
  simp only [cc0_body_eq_skeleton]; unfold cc0_body_skel
  simp only [k0_part45_eq_skeleton]; unfold k0_part45_skel
  simp only [Prog.lift, Prog.bind_op, Prog.bind_ret, Prog.pure_eq_ret, Prog.bind_assoc]
  unfold Work₀ Bar₀ Send₀ Recv₀ Out₀ Work₁ Send₁ Recv₁ Out₁
  iintro ⟨#HC, ⟨HA0, HA1, HX0, HX1, HXU, HW0, HW1, HU0, HU1⟩, ⟨HT, HP, HK⟩, ⟨HS00, HS01, HS02, HS03, HS10, HS11, HS12, HS13, HS20, HS21, HS22, HS23⟩, ⟨HR00, HR01, HR02, HR03, HR10, HR11, HR12, HR13, HR20, HR21, HR22, HR23⟩, ⟨HO00, HO01, HO02, HO03, HO10, HO11, HO12, HO13, HO20, HO21, HO22, HO23, HO30, HO31⟩, HO⟩ Hk
  iapply (part1 m c ) $$ [HA0 HA1 HX0 HW0]
  · isplitl [HA0]; · iexact HA0
    isplitl [HA1]; · iexact HA1
    isplitl [HX0] <;> iassumption
  iintro %w0 %w1 %w2 ⟨HA0, HA1, HX0, HW0⟩
  iapply (part2 m c _ _ _) $$ [HA0 HA1 HX1 HW0]
  · isplitl [HA0]; · iexact HA0
    isplitl [HA1]; · iexact HA1
    isplitl [HX1] <;> iassumption
  iintro %w0 ⟨HA0, HA1, HX1, HW0⟩
  iapply (part3 m K c _ _) $$ [HT HP HK HO]
  · isplitr; · iexact HC
    isplitl [HT]; · iexact HT
    isplitl [HP]; · iexact HP
    isplitl [HK] <;> iassumption
  iintro %w1 %w2 ⟨⟨Hq0, Hq1, Hq2⟩, HV, HO⟩
  ihave Hq0 := (Entails.of_eq (bar_slots (tgt 0 c) c)) $$ Hq0
  icases Hq0 with ⟨Hq00, Hq01, Hq02, Hq03⟩
  ihave HS00 := (send_kit c 0 0) $$ [HS00 Hq00]
  · isplitl [HS00] <;> iassumption
  ihave HS01 := (send_kit c 0 1) $$ [HS01 Hq01]
  · isplitl [HS01] <;> iassumption
  ihave HS02 := (send_kit c 0 2) $$ [HS02 Hq02]
  · isplitl [HS02] <;> iassumption
  ihave HS03 := (send_kit c 0 3) $$ [HS03 Hq03]
  · isplitl [HS03] <;> iassumption
  ihave Hq1 := (Entails.of_eq (bar_slots (tgt 1 c) c)) $$ Hq1
  icases Hq1 with ⟨Hq10, Hq11, Hq12, Hq13⟩
  ihave HS10 := (send_kit c 1 0) $$ [HS10 Hq10]
  · isplitl [HS10] <;> iassumption
  ihave HS11 := (send_kit c 1 1) $$ [HS11 Hq11]
  · isplitl [HS11] <;> iassumption
  ihave HS12 := (send_kit c 1 2) $$ [HS12 Hq12]
  · isplitl [HS12] <;> iassumption
  ihave HS13 := (send_kit c 1 3) $$ [HS13 Hq13]
  · isplitl [HS13] <;> iassumption
  ihave Hq2 := (Entails.of_eq (bar_slots (tgt 2 c) c)) $$ Hq2
  icases Hq2 with ⟨Hq20, Hq21, Hq22, Hq23⟩
  ihave HS20 := (send_kit c 2 0) $$ [HS20 Hq20]
  · isplitl [HS20] <;> iassumption
  ihave HS21 := (send_kit c 2 1) $$ [HS21 Hq21]
  · isplitl [HS21] <;> iassumption
  ihave HS22 := (send_kit c 2 2) $$ [HS22 Hq22]
  · isplitl [HS22] <;> iassumption
  ihave HS23 := (send_kit c 2 3) $$ [HS23 Hq23]
  · isplitl [HS23] <;> iassumption
  iapply (part4 m K c _ _ _ _ _) $$ [HA1 HW0 HW1 HO]
  · isplitr; · iexact HC
    isplitl [HA1]; · iexact HA1
    isplitl [HW0]; · iexact HW0
    isplitl [HW1] <;> iassumption
  iintro %w0 ⟨HA1, HW0, HW1, HO⟩
  iapply (part5 m K c ) $$ [HA0 HX0 HXU HW0 HU0 HO]
  · isplitr; · iexact HC
    isplitl [HA0]; · iexact HA0
    isplitl [HX0]; · iexact HX0
    isplitl [HXU]; · iexact HXU
    isplitl [HW0]; · iexact HW0
    isplitl [HU0] <;> iassumption
  iintro  ⟨HA0, HX0, HXU, HW0, HU0, HO⟩
  iapply (part6 m K c _) $$ [HXU HW0 HU0 HO]
  · isplitr; · iexact HC
    isplitl [HXU]; · iexact HXU
    isplitl [HW0]; · iexact HW0
    isplitl [HU0] <;> iassumption
  iintro  ⟨HXU, HW0, HU0, HO⟩
  iapply (part7 m K c _) $$ [HX1 HS00 HO]
  · isplitr; · iexact HC
    isplitl [HX1]; · iexact HX1
    isplitl [HS00] <;> iassumption
  iintro  ⟨HX1, HS00, HO⟩
  iapply (part8 m c ) $$ [HA0 HX1 HXU HU0 HS01]
  · isplitl [HA0]; · iexact HA0
    isplitl [HX1]; · iexact HX1
    isplitl [HXU]; · iexact HXU
    isplitl [HU0] <;> iassumption
  iintro  ⟨HA0, HX1, HXU, HU0, HS01⟩
  iapply (part9 m K c _) $$ [HX0 HXU HU0 HS01 HO]
  · isplitr; · iexact HC
    isplitl [HX0]; · iexact HX0
    isplitl [HXU]; · iexact HXU
    isplitl [HU0]; · iexact HU0
    isplitl [HS01] <;> iassumption
  iintro  ⟨HX0, HXU, HU0, HS01, HO⟩
  iapply (part10 m K c _) $$ [HX1 HS02 HO]
  · isplitr; · iexact HC
    isplitl [HX1]; · iexact HX1
    isplitl [HS02] <;> iassumption
  iintro  ⟨HX1, HS02, HO⟩
  iapply (part11 m c _) $$ [HX1 HXU HU0 HS03]
  · isplitl [HX1]; · iexact HX1
    isplitl [HXU]; · iexact HXU
    isplitl [HU0] <;> iassumption
  iintro  ⟨HX1, HXU, HU0, HS03⟩
  iapply (part12 m K c _) $$ [HA1 HW0 HS03 HO]
  · isplitr; · iexact HC
    isplitl [HA1]; · iexact HA1
    isplitl [HW0]; · iexact HW0
    isplitl [HS03] <;> iassumption
  iintro %w0 ⟨HA1, HW0, HS03, HO⟩
  iapply (part13 m K c ) $$ [HXU HW1 HU1 HS10 HO]
  · isplitr; · iexact HC
    isplitl [HXU]; · iexact HXU
    isplitl [HW1]; · iexact HW1
    isplitl [HU1]; · iexact HU1
    isplitl [HS10] <;> iassumption
  iintro  ⟨HXU, HW1, HU1, HS10, HO⟩
  iapply (part14 m K c _) $$ [HXU HU1 HS10 HS11 HO]
  · isplitr; · iexact HC
    isplitl [HXU]; · iexact HXU
    isplitl [HU1]; · iexact HU1
    isplitl [HS10]; · iexact HS10
    isplitl [HS11] <;> iassumption
  iintro  ⟨HXU, HU1, HS10, HS11, HO⟩
  iapply (part15 m K c _) $$ [HXU HU1 HS11 HS12 HO]
  · isplitr; · iexact HC
    isplitl [HXU]; · iexact HXU
    isplitl [HU1]; · iexact HU1
    isplitl [HS11]; · iexact HS11
    isplitl [HS12] <;> iassumption
  iintro  ⟨HXU, HU1, HS11, HS12, HO⟩
  iapply (part16 m K c _) $$ [HXU HU1 HS12 HS13 HO]
  · isplitr; · iexact HC
    isplitl [HXU]; · iexact HXU
    isplitl [HU1]; · iexact HU1
    isplitl [HS12]; · iexact HS12
    isplitl [HS13] <;> iassumption
  iintro  ⟨HXU, HU1, HS12, HS13, HO⟩
  iapply (part17 m K c _ _) $$ [HS13 HO]
  · isplitr; · iexact HC
    isplitl [HS13] <;> iassumption
  iintro %w0 %w1 %w2 ⟨HS13, HO⟩
  iapply (part18 m K c _ _ _ _) $$ [HA1 HXU HW0 HW1 HU0 HO]
  · isplitr; · iexact HC
    isplitl [HA1]; · iexact HA1
    isplitl [HXU]; · iexact HXU
    isplitl [HW0]; · iexact HW0
    isplitl [HW1]; · iexact HW1
    isplitl [HU0] <;> iassumption
  iintro  ⟨HA1, HXU, HW0, HW1, HU0, HO⟩
  iapply (part19 m K c _) $$ [HXU HU0 HS20 HO]
  · isplitr; · iexact HC
    isplitl [HXU]; · iexact HXU
    isplitl [HU0]; · iexact HU0
    isplitl [HS20] <;> iassumption
  iintro  ⟨HXU, HU0, HS20, HO⟩
  iapply (part20 m K c _) $$ [HXU HU0 HS21 HO]
  · isplitr; · iexact HC
    isplitl [HXU]; · iexact HXU
    isplitl [HU0]; · iexact HU0
    isplitl [HS21] <;> iassumption
  iintro  ⟨HXU, HU0, HS21, HO⟩
  iapply (part21 m K c _) $$ [HXU HU0 HS22 HO]
  · isplitr; · iexact HC
    isplitl [HXU]; · iexact HXU
    isplitl [HU0]; · iexact HU0
    isplitl [HS22] <;> iassumption
  iintro  ⟨HXU, HU0, HS22, HO⟩
  iapply (part22 m K c _ _) $$ [HS23 HO]
  · isplitr; · iexact HC
    isplitl [HS23] <;> iassumption
  iintro %w0 %w1 ⟨HS23, HO⟩
  iapply (part23 m K c _ _) $$ [HXU HW1 HU1 HO]
  · isplitr; · iexact HC
    isplitl [HXU]; · iexact HXU
    isplitl [HW1]; · iexact HW1
    isplitl [HU1] <;> iassumption
  iintro %w0 %v1 %hv1 ⟨HXU, HW1, HU1, HO⟩
  iapply (part24 m K c _ _ _ _ (own_first m c hv1)) $$ [HW1 HU1 HO30 HO]
  · isplitr; · iexact HC
    isplitl [HW1]; · iexact HW1
    isplitl [HU1]; · iexact HU1
    isplitl [HO30] <;> iassumption
  iintro  ⟨HW1, HU1, HO30, HO⟩
  iapply (part25 m c _) $$ [HXU HU1 HO31]
  · isplitl [HXU]; · iexact HXU
    isplitl [HU1] <;> iassumption
  iintro %w0 %w1 %w2 %w3 ⟨HXU, HU1, HO31⟩
  iapply (part26 m K c _ _ _ _) $$ [HR00 HO00 HO]
  · isplitr; · iexact HC
    isplitl [HR00]; · iexact HR00
    isplitl [HO00] <;> iassumption
  iintro %w0 ⟨HR00, HO00, HO⟩
  iapply (part27 m K c _) $$ [HR01 HO01 HO]
  · isplitr; · iexact HC
    isplitl [HR01]; · iexact HR01
    isplitl [HO01] <;> iassumption
  iintro  ⟨HR01, HO01, HO⟩
  iapply (part28 m K c _) $$ [HR02 HR03 HO02 HO]
  · isplitr; · iexact HC
    isplitl [HR02]; · iexact HR02
    isplitl [HR03]; · iexact HR03
    isplitl [HO02] <;> iassumption
  iintro  ⟨HR02, HR03, HO02, HO⟩
  iapply (part29 m c _ _) $$ [HR03 HO03]
  · isplitl [HR03] <;> iassumption
  iintro %w0 ⟨HR03, HO03⟩
  iapply (part30 m K c _) $$ [HR10 HR11 HO10 HO]
  · isplitr; · iexact HC
    isplitl [HR10]; · iexact HR10
    isplitl [HR11]; · iexact HR11
    isplitl [HO10] <;> iassumption
  iintro  ⟨HR10, HR11, HO10, HO⟩
  iapply (part31 m K c _) $$ [HR11 HR12 HO11 HO]
  · isplitr; · iexact HC
    isplitl [HR11]; · iexact HR11
    isplitl [HR12]; · iexact HR12
    isplitl [HO11] <;> iassumption
  iintro %w0 ⟨HR11, HR12, HO11, HO⟩
  iapply (part32 m K c _ _) $$ [HR13 HO12 HO13 HO]
  · isplitr; · iexact HC
    isplitl [HR13]; · iexact HR13
    isplitl [HO12]; · iexact HO12
    isplitl [HO13] <;> iassumption
  iintro  ⟨HR13, HO12, HO13, HO⟩
  iapply (part33 m K c _ _ _) $$ [HR20 HO13 HO]
  · isplitr; · iexact HC
    isplitl [HR20]; · iexact HR20
    isplitl [HO13] <;> iassumption
  iintro %w0 %w1 ⟨HR20, HO13, HO⟩
  iapply (part34 m K c _ _) $$ [HR21 HO20 HO21 HO]
  · isplitr; · iexact HC
    isplitl [HR21]; · iexact HR21
    isplitl [HO20]; · iexact HO20
    isplitl [HO21] <;> iassumption
  iintro  ⟨HR21, HO20, HO21, HO⟩
  iapply (part35 m K c _ _) $$ [HR22 HO21 HO22 HO]
  · isplitr; · iexact HC
    isplitl [HR22]; · iexact HR22
    isplitl [HO21]; · iexact HO21
    isplitl [HO22] <;> iassumption
  iintro  ⟨HR22, HO21, HO22, HO⟩
  iapply (part36 m K c _ _) $$ [HR23 HO22 HO23 HO]
  · isplitr; · iexact HC
    isplitl [HR23]; · iexact HR23
    isplitl [HO22]; · iexact HO22
    isplitl [HO23] <;> iassumption
  iintro %w0 %w1 ⟨HR23, HO22, HO23, HO⟩
  iapply (part37 m K c _ _ _ _) $$ [HS00 HS01 HO]
  · isplitr; · iexact HC
    isplitl [HS00]; · iexact HS00
    isplitl [HS01] <;> iassumption
  iintro  ⟨HS00, HS01, HO⟩
  iapply (part38 m K c _) $$ [HS02 HS03 HS10 HO]
  · isplitr; · iexact HC
    isplitl [HS02]; · iexact HS02
    isplitl [HS03]; · iexact HS03
    isplitl [HS10] <;> iassumption
  iintro  ⟨HS02, HS03, HS10, HO⟩
  iapply (part39 m K c _) $$ [HS11 HS12 HS13 HO]
  · isplitr; · iexact HC
    isplitl [HS11]; · iexact HS11
    isplitl [HS12]; · iexact HS12
    isplitl [HS13] <;> iassumption
  iintro %w0 %w1 ⟨HS11, HS12, HS13, HO⟩
  iapply (part40 m K c _ _ _ _) $$ [HS20 HS21 HO]
  · isplitr; · iexact HC
    isplitl [HS20]; · iexact HS20
    isplitl [HS21] <;> iassumption
  iintro  ⟨HS20, HS21, HO⟩
  iapply (part41 m K c _) $$ [HS22 HS23 HO00 HO]
  · isplitr; · iexact HC
    isplitl [HS22]; · iexact HS22
    isplitl [HS23]; · iexact HS23
    isplitl [HO00] <;> iassumption
  iintro %w0 ⟨HS22, HS23, HO00, HO⟩
  iapply (part42 m K c _ _) $$ [HO01 HO02 HO03 HO]
  · isplitr; · iexact HC
    isplitl [HO01]; · iexact HO01
    isplitl [HO02]; · iexact HO02
    isplitl [HO03] <;> iassumption
  iintro %w0 ⟨HO01, HO02, HO03, HO⟩
  iapply (part43 m K c _ _) $$ [HO10 HO11 HO12 HO13 HO]
  · isplitr; · iexact HC
    isplitl [HO10]; · iexact HO10
    isplitl [HO11]; · iexact HO11
    isplitl [HO12]; · iexact HO12
    isplitl [HO13] <;> iassumption
  iintro %w0 %w1 %w2 ⟨HO10, HO11, HO12, HO13, HO⟩
  iapply (part44 m K c _ _ _ _) $$ [HO20 HO21 HO22 HO23 HO]
  · isplitr; · iexact HC
    isplitl [HO20]; · iexact HO20
    isplitl [HO21]; · iexact HO21
    isplitl [HO22]; · iexact HO22
    isplitl [HO23] <;> iassumption
  iintro  ⟨HO20, HO21, HO22, HO23, HO⟩
  iapply (out_wait m K c 3 0 ?hN rfl) $$ [HO30 HO]
  case hN => exact (if_pos rfl).symm
  · isplitr; · iexact HC
    isplitl [HO30] <;> iassumption
  iintro ⟨HO30, HO⟩
  iapply (out_wait m K c 3 1 ?hN rfl) $$ [HO31 HO]
  case hN => exact (if_pos rfl).symm
  · isplitr; · iexact HC
    isplitl [HO31] <;> iassumption
  iintro ⟨HO31, HO⟩
  iapply (runs_ret c)
  iapply Hk
  isplitl [HA0 HA1 HX0 HX1 HXU HW0 HW1 HU0 HU1]
  · isplitl [HA0]; · iexact HA0
    isplitl [HA1]; · iexact HA1
    isplitl [HX0]; · iexact HX0
    isplitl [HX1]; · iexact HX1
    isplitl [HXU]; · iexact HXU
    isplitl [HW0]; · iexact HW0
    isplitl [HW1]; · iexact HW1
    isplitl [HU0]; · iexact HU0
    iexact HU1
  isplitl [HV]
  · iexact HV
  isplitl [HS00 HS01 HS02 HS03 HS10 HS11 HS12 HS13 HS20 HS21 HS22 HS23]
  · isplitl [HS00]; · iexact HS00
    isplitl [HS01]; · iexact HS01
    isplitl [HS02]; · iexact HS02
    isplitl [HS03]; · iexact HS03
    isplitl [HS10]; · iexact HS10
    isplitl [HS11]; · iexact HS11
    isplitl [HS12]; · iexact HS12
    isplitl [HS13]; · iexact HS13
    isplitl [HS20]; · iexact HS20
    isplitl [HS21]; · iexact HS21
    isplitl [HS22]; · iexact HS22
    iexact HS23
  isplitl [HR00 HR01 HR02 HR03 HR10 HR11 HR12 HR13 HR20 HR21 HR22 HR23]
  · isplitl [HR00]; · iexact HR00
    isplitl [HR01]; · iexact HR01
    isplitl [HR02]; · iexact HR02
    isplitl [HR03]; · iexact HR03
    isplitl [HR10]; · iexact HR10
    isplitl [HR11]; · iexact HR11
    isplitl [HR12]; · iexact HR12
    isplitl [HR13]; · iexact HR13
    isplitl [HR20]; · iexact HR20
    isplitl [HR21]; · iexact HR21
    isplitl [HR22]; · iexact HR22
    iexact HR23
  isplitl [HO00 HO01 HO02 HO03 HO10 HO11 HO12 HO13 HO20 HO21 HO22 HO23 HO30 HO31]
  · isplitl [HO00]; · iexact HO00
    isplitl [HO01]; · iexact HO01
    isplitl [HO02]; · iexact HO02
    isplitl [HO03]; · iexact HO03
    isplitl [HO10]; · iexact HO10
    isplitl [HO11]; · iexact HO11
    isplitl [HO12]; · iexact HO12
    isplitl [HO13]; · iexact HO13
    isplitl [HO20]; · iexact HO20
    isplitl [HO21]; · iexact HO21
    isplitl [HO22]; · iexact HO22
    isplitl [HO23]; · iexact HO23
    isplitl [HO30]; · iexact HO30
    iexact HO31
  iexact HO

end Cert.GemmRing
-- ==== Proof.Deal.lean ====
/- How the launch deals out the protocol: the semaphores of a device sorted by use, the positions and tokens the launch
   mints for each shared semaphore, and the exchange that gives every device the tokens it pays with. -/
module

public import proofs.«01_k».proof.Proof.Body

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

/-! ## Separating conjunctions over the strips and over the blocks -/

/-- Separating conjunction is associative, as an equation. -/
theorem sep_regroup (A B C : sProp 𝕄) : iprop((A ∗ B) ∗ C) = iprop(A ∗ B ∗ C) := by
  refine Entails.antisymm (show _ ⊢ (_ : sProp 𝕄) from ?_) (show _ ⊢ (_ : sProp 𝕄) from ?_)
  · iintro ⟨⟨HA, HB⟩, HC⟩
    isplitl [HA]; · iexact HA
    isplitl [HB] <;> iassumption
  · iintro ⟨HA, HB, HC⟩
    isplitl [HA HB]
    · isplitl [HA] <;> iassumption
    iexact HC
/-- Separating conjunction is commutative, as an equation. -/
theorem sep_swap (A B : sProp 𝕄) : iprop(A ∗ B) = iprop(B ∗ A) := by
  refine Entails.antisymm (show _ ⊢ (_ : sProp 𝕄) from ?_) (show _ ⊢ (_ : sProp 𝕄) from ?_) <;>
  · iintro ⟨HA, HB⟩
    isplitl [HB] <;> iassumption

/-- The three strips that travel, and the one that stays. -/
theorem strips (Φ : Fin 4 → sProp 𝕄) : bigSep Finset.univ Φ = iprop((bigSep Finset.univ fun j : Fin 3 => Φ j.castSucc) ∗ Φ 3) := by
  rw [bigSep_univ_eq_bigSepL [0, 1, 2, 3] (by decide) (by decide) Φ, bigSep_univ_eq_bigSepL [0, 1, 2] (by decide) (by decide) fun j : Fin 3 => Φ j.castSucc]
  simp only [bigSepL_cons_cons, bigSepL_singleton]
  show iprop(Φ 0 ∗ Φ 1 ∗ Φ 2 ∗ Φ 3) = iprop((Φ 0 ∗ Φ 1 ∗ Φ 2) ∗ Φ 3)
  rw [sep_regroup, sep_regroup]

/-- The twelve blocks of the three travelling strips, one by one. -/
theorem twelve (Φ : Fin 4 → Fin 4 → sProp 𝕄) :
    (bigSep Finset.univ fun j : Fin 3 => bigSep Finset.univ fun r : Fin 4 => Φ j.castSucc r)
      = iprop(Φ 0 0 ∗ Φ 0 1 ∗ Φ 0 2 ∗ Φ 0 3 ∗ Φ 1 0 ∗ Φ 1 1 ∗ Φ 1 2 ∗ Φ 1 3 ∗ Φ 2 0 ∗ Φ 2 1 ∗ Φ 2 2 ∗ Φ 2 3) := by
  rw [← bigSep_univ_prod fun p : Fin 3 × Fin 4 => Φ p.1.castSucc p.2,
    bigSep_univ_eq_bigSepL [(0, 0), (0, 1), (0, 2), (0, 3), (1, 0), (1, 1), (1, 2), (1, 3), (2, 0), (2, 1), (2, 2), (2, 3)] (by decide) (by decide)]
  simp only [bigSepL_cons_cons, bigSepL_singleton]
  rfl

/-- The sixteen blocks of a buffer: the twelve that travel and the four that do not. -/
theorem grid (Φ : Fin 4 → Fin 4 → sProp 𝕄) :
    (bigSep Finset.univ fun j : Fin 4 => bigSep Finset.univ fun r : Fin 4 => Φ j r)
      = iprop((bigSep Finset.univ fun j : Fin 3 => bigSep Finset.univ fun r : Fin 4 => Φ j.castSucc r) ∗ bigSep Finset.univ fun r : Fin 4 => Φ 3 r) :=
  strips fun j => bigSep Finset.univ fun r : Fin 4 => Φ j r

/-- Two families over the travelling blocks are the family of the pairs. -/
theorem zip12 (Φ Ψ : Fin 3 → Fin 4 → sProp 𝕄) :
    (bigSep Finset.univ fun j => bigSep Finset.univ fun r => iprop(Φ j r ∗ Ψ j r))
      = iprop((bigSep Finset.univ fun j => bigSep Finset.univ fun r => Φ j r) ∗ bigSep Finset.univ fun j => bigSep Finset.univ fun r => Ψ j r) := by
  rw [← bigSep_sep']
  exact bigSep_congr fun j _ => bigSep_sep' _ _ _

/-- A family over two finite types, in either order. -/
theorem exchange {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun p : A × B => Φ p.1 p.2, bigSep_univ_equiv (Equiv.prodComm B A), bigSep_univ_prod]; rfl

/-- Rows counted by device are rows counted by the strip that comes from it; the device's own row is the last. -/
theorem by_sender (c : Dev nD) (Φ : Dev nD → sProp 𝕄) :
    bigSep Finset.univ Φ = iprop((bigSep Finset.univ fun j : Fin 3 => Φ (frm j.castSucc c)) ∗ Φ c) := by
  rw [bigSep_univ_equiv (senders c) Φ, strips]
  show iprop(_ ∗ Φ (frm 3 c)) = _
  rw [frm_own]; rfl

/-- An iterated conjunction is monotone. -/
theorem bigSep_entail {I : Type} [DecidableEq I] {S : Finset I} {Φ Ψ : I → sProp 𝕄} (h : ∀ i, Φ i ⊢ Ψ i) : bigSep S Φ ⊢ bigSep S Ψ :=
  bigSep_mono fun i _ => h i

/-! ## A device's semaphores, by use -/

abbrev osem : Fin 54 → SemLoc sig := fun i => .dma i

/-- The uses: the staging of the activations and of the weights, the results' copies, the blocks leaving, the blocks arriving. -/
abbrev Use : Type := Fin 2 ⊕ (Fin 2 × Fin 2) ⊕ (Fin 4 × Fin 4) ⊕ (Fin 4 × Fin 4) ⊕ (Fin 4 × Fin 4)

set_option backward.proofsInPublic true in
def useSem : Use → Fin 54 :=
  Sum.elim (fun s => xQ s) (Sum.elim (fun p => wQ p.1 p.2) (Sum.elim (fun p => oQ p.1 p.2) (Sum.elim (fun p => sQ p.1 p.2) fun p => rQ p.1 p.2)))

/-- Different uses have different copy semaphores. -/
theorem useSem_inj : Function.Injective useSem := by
  rintro (a | ⟨a, a'⟩ | ⟨a, a'⟩ | ⟨a, a'⟩ | ⟨a, a'⟩) (b | ⟨b, b'⟩ | ⟨b, b'⟩ | ⟨b, b'⟩ | ⟨b, b'⟩) h <;>
  · have h' := congrArg Fin.val h
    simp only [useSem, Sum.elim_inl, Sum.elim_inr, xQ, wQ, oQ, sQ, rQ] at h'
    have := a.isLt; have := b.isLt
    first
    | (exfalso; omega)
    | (have e1 : a.val = b.val := by omega
       have e1 := Fin.ext e1
       first
       | (have e2 : a'.val = b'.val := by omega
          have e2 := Fin.ext e2
          rw [e1, e2])
       | rw [e1])

/-- The uses are exactly the fifty-four copy semaphores. -/
theorem useSem_bij : Function.Bijective useSem :=
  (Fintype.bijective_iff_injective_and_card _).mpr ⟨useSem_inj, by decide⟩

/-- The semaphores of the copies a device makes for itself, at zero. -/
def Local (c : Dev nD) : sProp 𝕄 :=
  iprop((bigSep Finset.univ fun s : Fin 2 => semVal ((c : Thread nD τ), .dma (xQ s)) 0)
    ∗ (bigSep Finset.univ fun s : Fin 2 => bigSep Finset.univ fun h : Fin 2 => semVal ((c : Thread nD τ), .dma (wQ s h)) 0)
    ∗ bigSep Finset.univ fun a : Fin 4 => bigSep Finset.univ fun r : Fin 4 => semVal ((c : Thread nD τ), .dma (oQ a r)) 0)

/-- The kernel's own semaphores are those and the two arrays of shared ones. -/
theorem ownSems_eq (c : Dev nD) :
    (Pipeline.ownSems0 (Ix := Unit) (Name := ℕ) (U := UU) (Lvl := ℕ) (Val := Elt F) (τ := τ) osem c : sProp 𝕄)
      = iprop(Local c ∗ (bigSep Finset.univ fun j : Fin 4 => bigSep Finset.univ fun r : Fin 4 => semVal (sndC c j r) 0)
        ∗ bigSep Finset.univ fun s : Fin 4 => bigSep Finset.univ fun r : Fin 4 => semVal (rcvC c s r) 0) := by
  unfold Pipeline.ownSems0
  rw [bigSep_univ_equiv (Equiv.ofBijective useSem useSem_bij), bigSep_univ_sum, bigSep_univ_sum, bigSep_univ_sum, bigSep_univ_sum,
    bigSep_univ_prod, bigSep_univ_prod, bigSep_univ_prod, bigSep_univ_prod]
  unfold Local
  rw [sep_regroup, sep_regroup]
  rfl

/-- The barrier is the one semaphore that outlives the kernel. -/
theorem unscopedSems_eq (c : Dev nD) : (unscopedSems0 c : sProp 𝕄) = semVal (barC c) 0 := by
  unfold unscopedSems0; rw [bigSep_eq_bigSepL_of_eq [SemLoc.reg barS] (by decide) (by decide)]; rfl

/-- A family over the shared semaphores of a device, by use. -/
theorem shared_eq (Φ : CK → sProp 𝕄) :
    bigSep Finset.univ Φ = iprop(Φ none ∗ (bigSep Finset.univ fun j : Fin 4 => bigSep Finset.univ fun r : Fin 4 => Φ (some (false, j, r)))
      ∗ bigSep Finset.univ fun s : Fin 4 => bigSep Finset.univ fun r : Fin 4 => Φ (some (true, s, r))) := by
  rw [bigSep_univ_equiv (Equiv.optionEquivSumPUnit.{0,0} (Bool × Fin 4 × Fin 4)).symm Φ, bigSep_univ_sum, bigSep_univ_prod,
    bigSep_univ_eq_bigSepL [false, true] (by decide) (by decide), bigSep_univ_eq_bigSepL [PUnit.unit] (by decide) (by decide)]
  simp only [bigSepL_cons_cons, bigSepL_singleton]
  rw [bigSep_univ_prod, bigSep_univ_prod]
  exact sep_swap _ _

/-! ## What is minted -/

/-- Different protocol semaphores of a device are different. -/
theorem csem_inj : Function.Injective csem := by
  rintro (_ | ⟨_ | _, j, r⟩) (_ | ⟨_ | _, j', r'⟩) h <;> first
    | rfl
    | (exfalso; cases h; done)
    | (have h' : _ = _ := congrArg (fun q : SemLoc sig => match q with | .dma q => q.val | _ => 0) h
       have := j.isLt; have := j'.isLt; have := r.isLt; have := r'.isLt
       simp only [csem, sQ, rQ] at h'
       first
       | (exfalso; omega)
       | (have e1 : j = j' := Fin.ext (by omega)
          have e2 : r = r' := Fin.ext (by omega)
          rw [e1, e2]))

/-- And so they are over all devices. -/
theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- Every shared semaphore of every device; -/
def mintCells : Finset (GSem nD τ sig) := Finset.univ.map ⟨kcell, kcell_inj⟩
abbrev mintTok (x : Dev nD × CK × Fin 4) : GSem nD τ sig × ℕ × Fin 4 := (kcell (x.1, x.2.1), 0, x.2.2)
/-- Different tokens are different. -/
theorem mintTok_inj : Function.Injective mintTok := by
  rintro ⟨c, k, d⟩ ⟨c', k', d'⟩ h
  have h1 := kcell_inj (congrArg (fun y : GSem nD τ sig × ℕ × Fin 4 => y.1) h)
  have h2 : d = d' := congrArg (fun y : GSem nD τ sig × ℕ × Fin 4 => y.2.2) h
  have h3 : c = c' := (Prod.mk.inj h1).1
  have h4 : k = k' := (Prod.mk.inj h1).2
  rw [h2, h3, h4]
/-- and four tokens for each. -/
def mintToks : Finset (GSem nD τ sig × ℕ × Fin 4) := Finset.univ.map ⟨mintTok, mintTok_inj⟩

/-- The tokens of a device's own semaphores. -/
def Minted (c : Dev nD) : sProp 𝕄 := bigSep Finset.univ fun k : CK => bigSep Finset.univ fun d : Fin 4 => dutyTok ER (kcell (c, k)) 0 d

/-- What the launch gives device `c`: for each of its shared semaphores the state, the position, the mark and the tokens. -/
def Given (c : Dev nD) : sProp 𝕄 :=
  iprop((bigSep Finset.univ fun k : CK => roundState ER (Rd m) (kcell (c, k)) 0)
    ∗ (bigSep Finset.univ fun k : CK => atPos ER (kcell (c, k)) 0 ∅ 0) ∗ (bigSep Finset.univ fun k : CK => reached ER (kcell (c, k)) 0) ∗ Minted c)

/-- The protocol's state at the start, split into what each semaphore is given. -/
theorem mint : BI.own (ER (initOf mintCells mintToks)) ⊢ (|==> bigSep Finset.univ (Given m) : sProp 𝕄) := by
  have hC (Φ : GSem nD τ sig → sProp 𝕄) : bigSep mintCells Φ = bigSep Finset.univ fun c : Dev nD => bigSep Finset.univ fun k : CK => Φ (kcell (c, k)) := by
    unfold mintCells; rw [bigSep_map, bigSep_univ_prod]; rfl
  have hT : bigSep mintToks (fun x => (dutyTok ER x.1 x.2.1 x.2.2 : sProp 𝕄)) = bigSep Finset.univ fun c : Dev nD => Minted c := by
    unfold mintToks; rw [bigSep_map, bigSep_univ_prod]
    exact bigSep_congr fun c _ => by unfold Minted; rw [bigSep_univ_prod]; rfl
  iintro HX
  imod (Rounds.fund ER (Rd m) mintCells mintToks) $$ HX with ⟨Hst, Hr, Hat, Htok⟩
  imodintro
  ihave Hst := (Entails.of_eq (hC fun g => roundState ER (Rd m) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold Given; simp only [bigSep_sep']
  isplitl [Hst]; · iexact Hst
  isplitl [Hat]; · iexact Hat
  isplitl [Hr]; · iexact Hr
  iexact Htok

/-! ## The tokens exchanged -/

/-- Of its own semaphores' tokens: the barrier's three, those of the blocks it sends, those of the blocks it receives. -/
def OwnToks (c : Dev nD) : sProp 𝕄 :=
  iprop(BarTok c 0 ∗ BarTok c 1 ∗ BarTok c 2
    ∗ (bigSep Finset.univ fun j : Fin 3 => bigSep Finset.univ fun r : Fin 4 => dutyTok ER (sndC c j.castSucc r) 0 0)
    ∗ bigSep Finset.univ fun j : Fin 3 => bigSep Finset.univ fun r : Fin 4 => dutyTok ER (rcvC c (frm j.castSucc c) r) 0 0)

/-- The tokens a device pays with: its peers' barriers, its own blocks leaving, and their arrival at the peers. -/
def PayToks (c : Dev nD) : sProp 𝕄 :=
  iprop(BarTok (tgt 0 c) 0 ∗ BarTok (tgt 2 c) 1 ∗ BarTok (tgt 1 c) 2
    ∗ (bigSep Finset.univ fun j : Fin 3 => bigSep Finset.univ fun r : Fin 4 => dutyTok ER (sndC c j.castSucc r) 0 0)
    ∗ bigSep Finset.univ fun j : Fin 3 => bigSep Finset.univ fun r : Fin 4 => dutyTok ER (rcvC (tgt j.castSucc c) c r) 0 0)

/-- Of the tokens that a device's semaphores were given, those that are ever paid. -/
theorem minted_own (c : Dev nD) : (Minted c : sProp 𝕄) ⊢ OwnToks c := by
  have h4 (g : GSem nD τ sig) : (bigSep Finset.univ fun d : Fin 4 => (dutyTok ER g 0 d : sProp 𝕄)) ⊢ dutyTok ER g 0 0 := bigSep_elim (Finset.mem_univ 0)
  have hB : (bigSep Finset.univ fun d : Fin 4 => (dutyTok ER (barC c) 0 d : sProp 𝕄))
      ⊢ iprop(dutyTok ER (barC c) 0 0 ∗ dutyTok ER (barC c) 0 1 ∗ dutyTok ER (barC c) 0 2 ∗ dutyTok ER (barC c) 0 3) :=
    Entails.of_eq (bigSep_univ_eq_bigSepL [0, 1, 2, 3] (by decide) (by decide) _)
  unfold Minted OwnToks BarTok
  rw [shared_eq]
  iintro ⟨HB, HS, HR⟩
  ihave HB := hB $$ HB
  icases HB with ⟨HB0, HB1, HB2, -⟩
  ihave HS := (bigSep_entail fun j => bigSep_entail fun r => h4 (sndC c j r)) $$ HS
  ihave HR := (bigSep_entail fun s => bigSep_entail fun r => h4 (rcvC c s r)) $$ HR
  ihave HS := (Entails.of_eq (grid fun j r => dutyTok ER (sndC c j r) 0 0)) $$ HS
  ihave HR := (Entails.of_eq (by_sender c fun s => bigSep Finset.univ fun r : Fin 4 => dutyTok ER (rcvC c s r) 0 0)) $$ HR
  icases HS with ⟨HS, -⟩
  icases HR with ⟨HR, -⟩
  isplitl [HB0]; · iexact HB0
  isplitl [HB1]; · iexact HB1
  isplitl [HB2]; · iexact HB2
  isplitl [HS] <;> iassumption

/-- Counted by who receives strip `j` or by who sends it. -/
theorem receivers (j : Fin 4) (Φ : Dev nD → Dev nD → sProp 𝕄) :
    (bigSep Finset.univ fun c => Φ c (frm j c)) = bigSep Finset.univ fun c => Φ (tgt j c) c := by
  rw [bigSep_univ_equiv (around j) fun c => Φ c (frm j c)]
  exact bigSep_congr fun c _ => by
    show Φ (tgt j c) (frm j (tgt j c)) = _
    rw [frm_tgt]

/-- The tokens go from the devices whose semaphores they are of to the devices that pay there. -/
theorem toks_exchange : (bigSep Finset.univ fun c : Dev nD => (OwnToks c : sProp 𝕄)) ⊢ bigSep Finset.univ fun c : Dev nD => PayToks c := by
  unfold OwnToks PayToks
  have hR : (bigSep Finset.univ fun c : Dev nD => bigSep Finset.univ fun j : Fin 3 => bigSep Finset.univ fun r : Fin 4 => (dutyTok ER (rcvC c (frm j.castSucc c) r) 0 0 : sProp 𝕄))
      = bigSep Finset.univ fun c : Dev nD => bigSep Finset.univ fun j : Fin 3 => bigSep Finset.univ fun r : Fin 4 => dutyTok ER (rcvC (tgt j.castSucc c) c r) 0 0 := by
    rw [exchange, bigSep_congr fun j _ => receivers j.castSucc fun c s => bigSep Finset.univ fun r : Fin 4 => (dutyTok ER (rcvC c s r) 0 0 : sProp 𝕄), exchange]
  simp only [bigSep_sep']
  rw [hR, bigSep_univ_equiv (around 0) fun c : Dev nD => (BarTok c 0 : sProp 𝕄), bigSep_univ_equiv (around 2) fun c : Dev nD => (BarTok c 1 : sProp 𝕄),
    bigSep_univ_equiv (around 1) fun c : Dev nD => (BarTok c 2 : sProp 𝕄)]
  exact .rfl

/-! ## The global step -/

/-- What a device starts from, beside what all of them know: its positions, the tokens it pays with and its local semaphores. -/
def Dealt (c : Dev nD) : sProp 𝕄 :=
  iprop((bigSep Finset.univ fun k : CK => atPos ER (kcell (c, k)) 0 ∅ 0) ∗ PayToks c ∗ Local c)

/-- What all of them know, but for the levels. -/
def Known (K : Dev nD × CK → ℕ) : sProp 𝕄 :=
  iprop((bigSep Finset.univ fun ck : Dev nD × CK => (cellInv ER (Rd m) (K ck) (kcell ck) : sProp 𝕄))
    ∗ bigSep Finset.univ fun ck : Dev nD × CK => (reached ER (kcell ck) 0 : sProp 𝕄))

instance known_persistent (K : Dev nD × CK → ℕ) : BI.Persistent (Known m K) := by unfold Known; infer_instance

def Start (c : Dev nD) : sProp 𝕄 := iprop(∃ K, Known m K ∗ Dealt c)

/-- A device's counters become its protocol semaphores' invariants. -/
theorem open_device (c : Dev nD) :
    iprop(Pipeline.ownSems0 (Ix := Unit) (Name := ℕ) (U := UU) (Lvl := ℕ) (Val := Elt F) (τ := τ) osem c ∗ unscopedSems0 c ∗ Given m c)
      ⊢ |={Set.univ}=> iprop((bigSep Finset.univ fun k : CK => iprop(∃ κ : ℕ, cellInv ER (Rd m) κ (kcell (c, k))))
          ∗ (bigSep Finset.univ fun k : CK => reached ER (kcell (c, k)) 0) ∗ (bigSep Finset.univ fun k : CK => atPos ER (kcell (c, k)) 0 ∅ 0) ∗ OwnToks c ∗ Local c) := by
  unfold Given
  rw [ownSems_eq, unscopedSems_eq]
  have hopen : iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_entail fun k => (Rounds.body_intro ER (Rd m) (kcell (c, k))).trans inv_alloc).trans (bigSep_fupd _ _)
  iintro ⟨⟨HL, HS, HR⟩, HB, Hst, Hat, Hre, HM⟩
  imod hopen $$ [HS HR HB Hst] with HI
  · isplitl [HS HR HB]
    · iapply (Entails.of_eq (shared_eq fun k => semVal (kcell (c, k)) 0).symm)
      isplitl [HB]; · iexact HB
      isplitl [HS] <;> iassumption
    iexact Hst
  imodintro
  isplitl [HI]; · iexact HI
  isplitl [Hre]; · iexact Hre
  isplitl [Hat]; · iexact Hat
  isplitl [HM]; · iapply (minted_own c); iexact HM
  iexact HL

/-- And over all devices every one ends up with its start. -/
theorem share_out :
    (bigSep Finset.univ fun c : Dev nD => iprop((bigSep Finset.univ fun k : CK => iprop(∃ κ : ℕ, cellInv ER (Rd m) κ (kcell (c, k))))
          ∗ (bigSep Finset.univ fun k : CK => reached ER (kcell (c, k)) 0) ∗ (bigSep Finset.univ fun k : CK => atPos ER (kcell (c, k)) 0 ∅ 0) ∗ OwnToks c ∗ Local c) : sProp 𝕄)
      ⊢ bigSep Finset.univ (Start m) := by
  simp only [bigSep_sep']
  rw [← bigSep_univ_prod fun ck : Dev nD × CK => iprop(∃ κ : ℕ, cellInv ER (Rd m) κ (kcell ck)),
    ← bigSep_univ_prod fun ck : Dev nD × CK => (reached ER (kcell ck) 0 : sProp 𝕄)]
  iintro ⟨HI, #HR, Hat, HT, HL⟩
  ihave HK := (BI.bigSep_exists_pi Finset.univ fun (ck : Dev nD × CK) (κ : ℕ) => (cellInv ER (Rd m) κ (kcell ck) : sProp 𝕄)) $$ HI
  icases HK with ⟨%K, #HI⟩
  ihave HT := toks_exchange $$ HT
  have hall : iprop(Known m K ∗ bigSep Finset.univ fun c : Dev nD => (Dealt c : sProp 𝕄)) ⊢ bigSep Finset.univ (Start m) :=
    (sep_mono_left (BI.bigSep_of_persistent Finset.univ (Known m K))).trans (by
      rw [← bigSep_sep']
      exact bigSep_entail fun c => by unfold Start; iintro H; iexists K; iexact H)
  iapply hall
  isplitr
  · unfold Known; isplitl; · iexact HI
    iexact HR
  unfold Dealt; simp only [bigSep_sep']
  isplitl [Hat]; · iexact Hat
  isplitl [HT] <;> iassumption

/-- All the devices' semaphores at zero and what was minted for them become what each device starts from. -/
theorem global_step : (bigSep Finset.univ fun c => iprop(Pipeline.ownSems0 (Ix := Unit) (Name := ℕ) (U := UU) (Lvl := ℕ) (Val := Elt F) (τ := τ) osem c ∗ unscopedSems0 c ∗ Given m c) : sProp 𝕄)
    ⊢ |={Set.univ}=> bigSep Finset.univ (Start m) :=
  ((bigSep_entail fun c => open_device m c).trans (bigSep_fupd _ _)).trans (BI.fupd_mono (share_out m))

end Cert.GemmRing
-- ==== Proof.Credits.lean ====
/- What the devices owe at launch, counted semaphore by semaphore: every barrier is owed its three signals, every receive
   semaphore of a block that travels its one block. -/
module

public import proofs.«01_k».proof.Proof.Deal

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

/-- Barriers are equal just when their devices are. -/
theorem bar_eq_bar {c d : Dev nD} : Iff (barC c = barC d) (c = d) :=
  ⟨fun h => congrArg (fun g : GSem nD τ sig => g.1.1) h, fun h => h ▸ rfl⟩
/-- Receive semaphores are equal just when device, source and block are. -/
theorem rcv_eq_rcv {c d : Dev nD} {s r s' r' : Fin 4} : Iff (rcvC c s r = rcvC d s' r') (c = d ∧ s = s' ∧ r = r') := by
  constructor
  · intro h
    have h' := kcell_inj (a₁ := (c, some (true, s, r))) (a₂ := (d, some (true, s', r'))) h
    simp only [Prod.mk.injEq, Option.some.injEq, true_and] at h'
    exact h'
  · rintro ⟨rfl, rfl, rfl⟩; rfl
/-- A barrier is no receive semaphore. -/
theorem bar_ne_rcv (c d : Dev nD) (s r : Fin 4) : barC c ≠ rcvC d s r := fun h => by cases congrArg Prod.snd h

/-- A list of blocks owes a receive semaphore one block for each entry that goes there, -/
theorem Ow_rcv (d : Dev nD) (l : List (Fin 4 × Fin 4)) (c : Dev nD) (s r : Fin 4) :
    Ow d l (rcvC c s r) () = NB * l.countP fun p => decide (c = tgt p.1 d ∧ s = d ∧ r = p.2) := by
  induction l with
  | nil => rfl
  | cons p ps ih =>
    show (Ow d ps + tallyAt (rcvC (tgt p.1 d) d p.2) () NB) (rcvC c s r) () = _
    rw [Pi.add_apply, Finsupp.add_apply, ih, tallyAt_apply, List.countP_cons, Nat.mul_add]
    congr 1
    by_cases h : c = tgt p.1 d ∧ s = d ∧ r = p.2
    · rw [if_pos ⟨rcv_eq_rcv.2 h, rfl⟩, if_pos (decide_eq_true h), Nat.mul_one]
    · rw [if_neg fun h' => h (rcv_eq_rcv.1 h'.1), if_neg fun h' => h (of_decide_eq_true h'), Nat.mul_zero]
/-- and nothing to a barrier. -/
theorem Ow_bar (d : Dev nD) (l : List (Fin 4 × Fin 4)) (c : Dev nD) : Ow d l (barC c) () = 0 := by
  by_contra h
  obtain ⟨p, -, e⟩ := Ow_pos (Nat.pos_of_ne_zero h)
  exact bar_ne_rcv _ _ _ _ e

/-- What device `d` owes at `c`'s barrier. -/
theorem owed_bar (d c : Dev nD) :
    O₀ d (barC c) () = (if c = tgt 2 d then 1 else 0) + (if c = tgt 0 d then 1 else 0) + (if c = tgt 1 d then 1 else 0) := by
  have h (e : Dev nD) : tallyAt (nD := nD) (τ := τ) (sig := sig) (barC e) () 1 (barC c) () = if c = e then 1 else 0 := by
    rw [tallyAt_apply]
    by_cases hc : c = e
    · rw [if_pos ⟨bar_eq_bar.2 hc, rfl⟩, if_pos hc]
    · rw [if_neg fun h => hc (bar_eq_bar.1 h.1), if_neg hc]
  unfold O₀
  rw [Pi.add_apply, Finsupp.add_apply, Pi.add_apply, Finsupp.add_apply, Pi.add_apply, Finsupp.add_apply, h, h, h, Ow_bar, Nat.zero_add]

/-- What device `d` owes at one of `c`'s receive semaphores. -/
theorem owed_rcv (d c : Dev nD) (s r : Fin 4) :
    O₀ d (rcvC c s r) () = NB * sendOrder.countP fun p => decide (c = tgt p.1 d ∧ s = d ∧ r = p.2) := by
  have h (e : Dev nD) : tallyAt (nD := nD) (τ := τ) (sig := sig) (barC e) () 1 (rcvC c s r) () = 0 := by
    rw [tallyAt_apply, if_neg fun h => bar_ne_rcv _ _ _ _ h.1.symm]
  unfold O₀
  rw [Pi.add_apply, Finsupp.add_apply, Pi.add_apply, Finsupp.add_apply, Pi.add_apply, Finsupp.add_apply, h, h, h, Ow_rcv]; rfl

/-- The three others together owe a barrier three signals. -/
theorem three_signals (c : Dev nD) :
    (∑ d : Dev nD, ((if c = tgt 2 d then 1 else 0) + (if c = tgt 0 d then 1 else 0) + (if c = tgt 1 d then 1 else 0))) = 3 := by
  revert c; decide
/-- One sender owes a receive semaphore one block. -/
theorem one_block (c : Dev nD) (j : Fin 3) (r : Fin 4) :
    (∑ d : Dev nD, sendOrder.countP fun p => decide (c = tgt p.1 d ∧ frm j.castSucc c = d ∧ r = p.2)) = 1 := by
  revert c j r; decide

/-- The credit at a device's barrier. -/
theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, three_signals]
/-- The credit at one of its receive semaphores. -/
theorem launch_rcv (c : Dev nD) (j : Fin 3) (r : Fin 4) :
    tallyOn (rcvC c (frm j.castSucc c) r) (launchCredit (Pipeline.owing O₀) 0 (rcvC c (frm j.castSucc c) r))
      = (tallyAt (rcvC c (frm j.castSucc c) r) () NB : CellTallies nD τ sig Unit) := by
  unfold tallyAt; refine congrArg _ (Finsupp.ext fun u => ?_); cases u
  rw [Pipeline.launchCredit_owing, Finsupp.single_eq_same, Finset.sum_congr rfl fun d _ => owed_rcv d c _ r, ← Finset.mul_sum, one_block, Nat.mul_one]

/-- Of a family over all semaphores, the shared ones. -/
theorem subfamily (e : CK ↪ SemLoc sig) (Φ : SemLoc sig → sProp 𝕄) : bigSep Finset.univ Φ ⊢ bigSep Finset.univ fun k => Φ (e k) := by
  rw [← bigSep_map e]
  exact BI.bigSep_subset (Finset.subset_univ _)

/-- The credit a device waits with: three signals, and a block for each block that travels to it. -/
def Credits (c : Dev nD) : sProp 𝕄 :=
  iprop(cred (tallyAt (barC c) () 3)
    ∗ bigSep Finset.univ fun j : Fin 3 => bigSep Finset.univ fun r : Fin 4 => cred (tallyAt (rcvC c (frm j.castSucc c) r) () NB))

/-- What the launch credits a device with, semaphore by semaphore. -/
theorem credits (c : Dev nD) : (Pipeline.launchCred O₀ c : sProp 𝕄) ⊢ Credits c := by
  have hsub : (Pipeline.launchCred O₀ c : sProp 𝕄)
      ⊢ bigSep Finset.univ fun k : CK => cred (tallyOn (kcell (c, k)) (launchCredit (Pipeline.owing O₀) 0 (kcell (c, k)))) := by
    unfold Pipeline.launchCred
    exact subfamily ⟨csem, csem_inj⟩ _
  refine hsub.trans ?_
  rw [shared_eq]
  unfold Credits
  iintro ⟨HB, -, HR⟩
  isplitl [HB]; · iapply (Entails.of_eq (congrArg cred (launch_bar c))); iexact HB
  ihave HR := (Entails.of_eq (by_sender c fun s => bigSep Finset.univ fun r : Fin 4 => cred (tallyOn (rcvC c s r) (launchCredit (Pipeline.owing O₀) 0 (rcvC c s r))))) $$ HR
  icases HR with ⟨HR, -⟩
  iapply (bigSep_entail fun j : Fin 3 => bigSep_entail fun r : Fin 4 => Entails.of_eq (congrArg cred (launch_rcv c j r)))
  iexact HR

end Cert.GemmRing
-- ==== Proof.Pieces.lean ====
/- The buffers a kernel is given whole, cut into the parts its body works with, and put together again at its end. -/
module

public import Idealize.ShloMosaic.Lib.Ring
public import proofs.«01_k».proof.Proof.Credits

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

/-! ## Cutting and joining -/

section Cut
variable {ℓ : Loc nD τ sig} {B : Type} [Fintype B] [DecidableEq B] (I : B → Finset (Idx ℓ))
  (hd : ∀ b b', b ≠ b' → Disjoint (I b) (I b')) (hc : ∀ i, ∃ b, i ∈ I b)

/-- Pieces that reach every element make up the whole. -/
theorem cover_eq {I : B → Finset (Idx ℓ)} (hc : ∀ i, ∃ b, i ∈ I b) : Finset.univ.biUnion I = Finset.univ :=
  Finset.eq_univ_of_forall fun i => by obtain ⟨b, hb⟩ := hc i; exact Finset.mem_biUnion.2 ⟨b, Finset.mem_univ _, hb⟩

include hd hc in
/-- A buffer held whole, at whatever it holds, is its parts at whatever they hold; -/
theorem cut : (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  ihave H := (Entails.of_eq (Ring.pointsTo_blocks I hd (cover_eq hc) f)) $$ H
  iapply (bigSep_entail fun b => show (ℓ ↦[I b]{fullShare} f : sProp 𝕄) ⊢ iprop(∃ f : Buf (Elt F) ℓ, ℓ ↦[I b]{fullShare} f) from by iintro H; iexists f; iexact H)
  iexact H

include hd hc in
/-- and the other way round. -/
theorem uncut (f₀ : Buf (Elt F) ℓ) : (bigSep Finset.univ fun b => iprop(∃ f : Buf (Elt F) ℓ, ℓ ↦[I b]{fullShare} f)) ⊢ (iprop(∃ f : Buf (Elt F) ℓ, ℓ ↦{fullShare} f) : sProp 𝕄) :=
  Ring.pointsTo_blocks_join_exists I hd (cover_eq hc) f₀

end Cut

/-- An iterated conjunction over two. -/
theorem two (Φ : Fin 2 → sProp 𝕄) : bigSep Finset.univ Φ = iprop(Φ 0 ∗ Φ 1) := by
  rw [bigSep_univ_eq_bigSepL [0, 1] (by decide) (by decide)]
  simp only [bigSepL_cons_cons, bigSepL_singleton]; rfl
/-- An iterated conjunction over four. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]; rfl

/-! ## The parts are disjoint and cover -/

/-- Different slots are disjoint. -/
theorem slot_apart (p q : Fin 4 × Fin 4) (h : p ≠ q) : Disjoint (slot p.1 p.2) (slot q.1 q.2) := by
  rw [Finset.disjoint_left]
  intro i hi hj
  obtain ⟨-, h1, h2⟩ := Finset.mem_filter.1 hi
  obtain ⟨-, h3, h4⟩ := Finset.mem_filter.1 hj
  exact h (Prod.ext (Fin.ext (h1.symm.trans h3)) (Fin.ext (h2.symm.trans h4)))
/-- The slots cover the buffer. -/
theorem slot_cover (i : S4x4x256x512.Idx) : ∃ p : Fin 4 × Fin 4, i ∈ slot p.1 p.2 :=
  ⟨(i 0, i 1), Finset.mem_filter.2 ⟨Finset.mem_univ _, rfl, rfl⟩⟩
/-- The two slots of rows are disjoint. -/
theorem xs_apart (s t : Fin 2) (h : s ≠ t) : Disjoint (xsSet s) (xsSet t) := by
  rw [Finset.disjoint_left]
  intro i hi hj
  exact h (Fin.ext ((Finset.mem_filter.1 hi).2.symm.trans (Finset.mem_filter.1 hj).2))
/-- The two slots of rows cover their buffer. -/
theorem xs_cover (i : S2x256x4096.Idx) : ∃ s : Fin 2, i ∈ xsSet s := ⟨i 0, Finset.mem_filter.2 ⟨Finset.mem_univ _, rfl⟩⟩
/-- The two slots of weights are disjoint. -/
theorem w_apart (s t : Fin 2) (h : s ≠ t) : Disjoint (wSet s) (wSet t) := by
  rw [Finset.disjoint_left]
  intro i hi hj
  exact h (Fin.ext ((Finset.mem_filter.1 hi).2.symm.trans (Finset.mem_filter.1 hj).2))
/-- The two slots of weights cover their buffer. -/
theorem w_cover (i : S2x4096x512.Idx) : ∃ s : Fin 2, i ∈ wSet s := ⟨i 0, Finset.mem_filter.2 ⟨Finset.mem_univ _, rfl⟩⟩

/-- Where an element of a piece of the result lies. -/
theorem out_mem (c : Dev nD) (j r : Fin 4) (i : S4096x512.Idx) (h : i ∈ outSet c j r) :
    (i 0).val / 1024 = (frm j c).val ∧ (if j = 3 then (i 1).val / 256 = r.val else (i 0).val % 1024 / 256 = r.val) := by
  have h' : if j = 3 then (i 0).val / 1024 = c.val ∧ (i 1).val / 256 = r.val else (i 0).val / 1024 = (frm j c).val ∧ (i 0).val % 1024 / 256 = r.val :=
    (Finset.mem_filter.1 h).2
  by_cases hj : j = 3
  · rw [if_pos hj] at h' ⊢; rw [hj, frm_own]; exact h'
  · rw [if_neg hj] at h' ⊢; exact h'
/-- Different pieces of the result are disjoint. -/
theorem out_apart (c : Dev nD) (p q : Fin 4 × Fin 4) (h : p ≠ q) : Disjoint (outSet c p.1 p.2) (outSet c q.1 q.2) := by
  rw [Finset.disjoint_left]
  intro i hi hj
  obtain ⟨h1, h2⟩ := out_mem c _ _ i hi
  obtain ⟨h3, h4⟩ := out_mem c _ _ i hj
  have e : p.1 = q.1 := frm_inj (Fin.ext (h1.symm.trans h3))
  rw [← e] at h4
  refine h (Prod.ext e (Fin.ext ?_))
  by_cases hj : p.1 = 3
  · rw [if_pos hj] at h2 h4; exact h2.symm.trans h4
  · rw [if_neg hj] at h2 h4; exact h2.symm.trans h4
/-- The pieces of the result cover it. -/
theorem out_cover (c : Dev nD) (i : S4096x512.Idx) : ∃ p : Fin 4 × Fin 4, i ∈ outSet c p.1 p.2 := by
  have h0 : (i 0).val < 4096 := (i 0).isLt
  have h1 : (i 1).val < 512 := (i 1).isLt
  obtain ⟨s, hs⟩ : ∃ s : Dev nD, s.val = (i 0).val / 1024 := ⟨⟨(i 0).val / 1024, by show _ < 4; omega⟩, rfl⟩
  by_cases hj : strip s c = 3
  · refine ⟨(3, ⟨(i 1).val / 256, by omega⟩), Finset.mem_filter.2 ⟨Finset.mem_univ _, ?_⟩⟩
    rw [if_pos rfl]
    have := frm_strip s c
    rw [hj, frm_own] at this
    exact ⟨by rw [← hs, this], rfl⟩
  · refine ⟨(strip s c, ⟨(i 0).val % 1024 / 256, by omega⟩), Finset.mem_filter.2 ⟨Finset.mem_univ _, ?_⟩⟩
    rw [if_neg hj, frm_strip]
    exact ⟨hs.symm, rfl⟩
/-- The device's own rows are only two parts. -/
theorem out_none (c : Dev nD) (r : Fin 4) (h : 2 ≤ r.val) : outSet c 3 r = ∅ := by
  refine Finset.eq_empty_of_forall_notMem fun i hi => ?_
  have h2 := (out_mem c _ _ i hi).2
  rw [if_pos rfl] at h2
  have h1 : (i 1).val < 512 := (i 1).isLt
  omega

/-! ## The bundles, as families -/

/-- The send slots before, as an iterated conjunction. -/
theorem Send₀_eq (c : Dev nD) : (Send₀ c : sProp 𝕄) = bigSep Finset.univ fun j : Fin 3 => bigSep Finset.univ fun r : Fin 4 => iprop(SendTok c j.castSucc r ∗ SendFree c j.castSucc r) :=
  (twelve fun j r => iprop(SendTok c j r ∗ SendFree c j r)).symm
/-- The receive slots before, as an iterated conjunction. -/
theorem Recv₀_eq (c : Dev nD) : (Recv₀ c : sProp 𝕄) = bigSep Finset.univ fun j : Fin 3 => bigSep Finset.univ fun r : Fin 4 => RecvKit c j.castSucc r :=
  (twelve fun j r => RecvKit c j r).symm
/-- The send slots afterwards, as an iterated conjunction. -/
theorem Send₁_eq (c : Dev nD) : Send₁ m c = bigSep Finset.univ fun j : Fin 3 => bigSep Finset.univ fun r : Fin 4 => SendDone m c j.castSucc r :=
  (twelve fun j r => SendDone m c j r).symm
/-- The receive slots afterwards, as an iterated conjunction. -/
theorem Recv₁_eq (c : Dev nD) : Recv₁ m c = bigSep Finset.univ fun j : Fin 3 => bigSep Finset.univ fun r : Fin 4 => RecvHas m c j.castSucc r :=
  (twelve fun j r => RecvHas m c j r).symm
/-- An iterated conjunction over the sixteen pieces of the result, the fourteen used ones first. -/
theorem fourteen (Φ : Fin 4 → Fin 4 → sProp 𝕄) :
    (bigSep Finset.univ fun j : Fin 4 => bigSep Finset.univ fun r : Fin 4 => Φ j r)
      = iprop((Φ 0 0 ∗ Φ 0 1 ∗ Φ 0 2 ∗ Φ 0 3 ∗ Φ 1 0 ∗ Φ 1 1 ∗ Φ 1 2 ∗ Φ 1 3 ∗ Φ 2 0 ∗ Φ 2 1 ∗ Φ 2 2 ∗ Φ 2 3 ∗ Φ 3 0 ∗ Φ 3 1) ∗ Φ 3 2 ∗ Φ 3 3) := by
  rw [grid, twelve, four]
  simp only [sep_regroup]
/-- The result's pieces before, as an iterated conjunction and two empty pieces. -/
theorem Out₀_eq (c : Dev nD) : (bigSep Finset.univ fun j : Fin 4 => bigSep Finset.univ fun r : Fin 4 => (OutFree c j r : sProp 𝕄)) = iprop(Out₀ c ∗ OutFree c 3 2 ∗ OutFree c 3 3) :=
  fourteen fun j r => OutFree c j r
/-- The result's pieces afterwards, as an iterated conjunction and two empty pieces. -/
theorem Out₁_eq (c : Dev nD) : (bigSep Finset.univ fun j : Fin 4 => bigSep Finset.univ fun r : Fin 4 => OutDone m c j r) = iprop(Out₁ m c ∗ OutDone m c 3 2 ∗ OutDone m c 3 3) :=
  fourteen fun j r => OutDone m c j r

/-- A part of the result that is no element at all is in place from the start. -/
theorem out_void (c : Dev nD) (r : Fin 4) (h : 2 ≤ r.val) : (OutFree c 3 r : sProp 𝕄) ⊢ OutDone m c 3 r := by
  unfold OutFree OutDone
  iintro ⟨⟨%f, Hf⟩, ⟨%g, Hg⟩, Hv⟩
  have hn : ∀ (f g : FVec F S4096x512 .f32) (i), i ∈ outSet c 3 r → f i = g i := fun f g i hi => by rw [out_none c r h] at hi; exact absurd hi (Finset.notMem_empty _)
  ihave Hf := (Entails.of_eq (pointsTo_congr (g := OUT m c) (hn f (OUT m c)))) $$ Hf
  ihave Hg := (Entails.of_eq (pointsTo_congr (g := OUT m c) (hn g (OUT m c)))) $$ Hg
  isplitl [Hf Hg]
  · isplitl [Hg] <;> iassumption
  iexact Hv

set_option backward.proofsInPublic true in
/-- The rows of the results' semaphores, one for each strip. -/
def rows : Fin 4 ≃ Fin 4 := ⟨orow, ![1, 2, 0, 3], fun j => by revert j; decide, fun j => by revert j; decide⟩

/-! ## In -/

/-- What of the send buffer the body never touches: the four slots of the strip that stays. -/
def IdleS (c : Dev nD) : sProp 𝕄 := bigSep Finset.univ fun r : Fin 4 => iprop(SendFree c 3 r ∗ atPos ER (sndC c 3 r) 0 ∅ 0)
/-- Of the receive buffer: the device's own row. -/
def IdleR (c : Dev nD) : sProp 𝕄 := bigSep Finset.univ fun r : Fin 4 => iprop(RecvSlot c c r ∗ atPos ER (rcvC c c r) 0 ∅ 0)
/-- Of the results' semaphores: the last two. -/
def IdleO (c : Dev nD) : sProp 𝕄 := iprop(OutFree c 3 2 ∗ OutFree c 3 3)

/-- Cutting the send buffer into its slots. -/
theorem in_send (c : Dev nD) :
    iprop((∃ f, ((c : Thread nD τ).loc cc0_scratch6) ↦{fullShare} f)
        ∗ (bigSep Finset.univ fun j : Fin 3 => bigSep Finset.univ fun r : Fin 4 => dutyTok ER (sndC c j.castSucc r) 0 0)
        ∗ (bigSep Finset.univ fun j : Fin 3 => bigSep Finset.univ fun r : Fin 4 => dutyTok ER (rcvC (tgt j.castSucc c) c r) 0 0)
        ∗ bigSep Finset.univ fun j : Fin 4 => bigSep Finset.univ fun r : Fin 4 => atPos ER (sndC c j r) 0 ∅ 0)
      ⊢ (iprop(Send₀ c ∗ IdleS c) : sProp 𝕄) := by
  rw [Send₀_eq]
  unfold IdleS SendTok
  rw [zip12, zip12, zip12, bigSep_sep', grid fun j r => (atPos ER (sndC c j r) 0 ∅ 0 : sProp 𝕄)]
  iintro ⟨Hb, Hs, Hr, Ha, Ha3⟩
  ihave Hb := (cut (ℓ := (c : Thread nD τ).loc cc0_scratch6) (fun p : Fin 4 × Fin 4 => slot p.1 p.2) slot_apart slot_cover) $$ Hb
  ihave Hb := (show _ ⊢ iprop((bigSep Finset.univ fun j : Fin 3 => bigSep Finset.univ fun r : Fin 4 => SendFree c j.castSucc r) ∗ bigSep Finset.univ fun r : Fin 4 => (SendFree c 3 r : sProp 𝕄)) from
    Entails.of_eq ((bigSep_univ_prod fun p : Fin 4 × Fin 4 => (iprop(∃ f, sdPts c p.1 p.2 f) : sProp 𝕄)).trans (grid fun j r => SendFree c j r))) $$ Hb
  icases Hb with ⟨Hb, Hb3⟩
  isplitl [Hs Hr Ha Hb]
  · isplitl [Hs Hr Ha]
    · isplitl [Hs]; · iexact Hs
      isplitl [Hr] <;> iassumption
    iexact Hb
  isplitl [Hb3] <;> iassumption

/-- The devices strips come from, named as the devices strips go to. -/
theorem frm0 (c : Dev nD) : frm 0 c = tgt 0 c := by revert c; decide
/-- The second source is the third target. -/
theorem frm1 (c : Dev nD) : frm 1 c = tgt 2 c := by revert c; decide
/-- The third source is the second target. -/
theorem frm2 (c : Dev nD) : frm 2 c = tgt 1 c := by revert c; decide

/-- Cutting the receive buffer into its slots. -/
theorem in_recv (c : Dev nD) :
    iprop((∃ f, ((c : Thread nD τ).loc cc0_scratch7) ↦{fullShare} f)
        ∗ (bigSep Finset.univ fun j : Fin 3 => bigSep Finset.univ fun r : Fin 4 => cred (tallyAt (rcvC c (frm j.castSucc c) r) () NB))
        ∗ bigSep Finset.univ fun s : Fin 4 => bigSep Finset.univ fun r : Fin 4 => atPos ER (rcvC c s r) 0 ∅ 0)
      ⊢ (iprop(Recv₀ c ∗ (barPay c (tgt 1 c) ∗ barPay c (tgt 0 c) ∗ barPay c (tgt 2 c)) ∗ IdleR c) : sProp 𝕄) := by
  have hthree : (bigSep Finset.univ fun j : Fin 3 => (barPay c (frm j.castSucc c) : sProp 𝕄)) = iprop(barPay c (tgt 0 c) ∗ barPay c (tgt 2 c) ∗ barPay c (tgt 1 c)) := by
    rw [bigSep_univ_eq_bigSepL [0, 1, 2] (by decide) (by decide)]
    simp only [bigSepL_cons_cons, bigSepL_singleton]
    rw [← frm0, ← frm1, ← frm2]; rfl
  rw [Recv₀_eq]
  unfold IdleR RecvKit
  rw [zip12, bigSep_sep', by_sender c fun s => bigSep Finset.univ fun r : Fin 4 => (atPos ER (rcvC c s r) 0 ∅ 0 : sProp 𝕄)]
  iintro ⟨Hb, Hc, Ha, Ha3⟩
  ihave Hb := (cut (ℓ := (c : Thread nD τ).loc cc0_scratch7) (fun p : Fin 4 × Fin 4 => slot p.1 p.2) slot_apart slot_cover) $$ Hb
  ihave Hb := (show _ ⊢ (bigSep Finset.univ fun s => (barPay c s : sProp 𝕄)) from
    Entails.of_eq (bigSep_univ_prod fun p : Fin 4 × Fin 4 => (iprop(∃ f, rcPts c p.1 p.2 f) : sProp 𝕄))) $$ Hb
  ihave Hb := (Entails.of_eq (by_sender c fun s => (barPay c s : sProp 𝕄))) $$ Hb
  icases Hb with ⟨Hb, Hb3⟩
  ihave Hb := (Entails.of_eq hthree) $$ Hb
  icases Hb with ⟨H0, H2, H1⟩
  isplitl [Ha Hc]
  · isplitl [Ha] <;> iassumption
  isplitl [H0 H1 H2]
  · isplitl [H1]; · iexact H1
    isplitl [H0] <;> iassumption
  unfold barPay
  isplitl [Hb3] <;> iassumption

/-- Cutting the stage and the result into pieces. -/
theorem in_out (c : Dev nD) :
    iprop((∃ f, ((c : Thread nD τ).loc cc0_scratch10) ↦{fullShare} f) ∗ (∃ f, ((c : Thread nD τ).loc main_v1) ↦{fullShare} f)
        ∗ bigSep Finset.univ fun a : Fin 4 => bigSep Finset.univ fun r : Fin 4 => semVal ((c : Thread nD τ), .dma (oQ a r)) 0)
      ⊢ (iprop(Out₀ c ∗ IdleO c) : sProp 𝕄) := by
  unfold IdleO
  rw [← Out₀_eq]
  unfold OutFree
  rw [← bigSep_univ_prod fun p : Fin 4 × Fin 4 => (iprop((∃ f, ogPts c p.1 p.2 f) ∗ (∃ f, orPts c p.1 p.2 f) ∗ semVal ((c : Thread nD τ), .dma (oQ (orow p.1) p.2)) 0) : sProp 𝕄),
    bigSep_sep', bigSep_sep',
    bigSep_univ_equiv rows fun a : Fin 4 => bigSep Finset.univ fun r : Fin 4 => (semVal ((c : Thread nD τ), .dma (oQ a r)) 0 : sProp 𝕄)]
  iintro ⟨Hg, Hr, Hv⟩
  isplitl [Hg]
  · iapply (cut (ℓ := (c : Thread nD τ).loc cc0_scratch10) (fun p : Fin 4 × Fin 4 => outSet c p.1 p.2) (out_apart c) (out_cover c)); iexact Hg
  isplitl [Hr]
  · iapply (cut (ℓ := (c : Thread nD τ).loc main_v1) (fun p : Fin 4 × Fin 4 => outSet c p.1 p.2) (out_apart c) (out_cover c)); iexact Hr
  iapply (Entails.of_eq (bigSep_univ_prod fun p : Fin 4 × Fin 4 => (semVal ((c : Thread nD τ), .dma (oQ (orow p.1) p.2)) 0 : sProp 𝕄)).symm)
  iexact Hv

/-- Cutting the working buffers into slots. -/
theorem in_work (c : Dev nD) :
    iprop((((c : Thread nD τ).loc main_arg0) ↦{fullShare} (xA m c)) ∗ (((c : Thread nD τ).loc main_arg1) ↦{fullShare} (wA m c))
        ∗ (∃ f, ((c : Thread nD τ).loc cc0_scratch0) ↦{fullShare} f) ∗ (∃ f, ((c : Thread nD τ).loc cc0_scratch1) ↦{fullShare} f)
        ∗ (∃ f, ((c : Thread nD τ).loc cc0_scratch2) ↦{fullShare} f) ∗ (∃ f, ((c : Thread nD τ).loc cc0_scratch3) ↦{fullShare} f)
        ∗ (bigSep Finset.univ fun s : Fin 2 => semVal ((c : Thread nD τ), .dma (xQ s)) 0)
        ∗ bigSep Finset.univ fun s : Fin 2 => bigSep Finset.univ fun h : Fin 2 => semVal ((c : Thread nD τ), .dma (wQ s h)) 0)
      ⊢ (Work₀ m c : sProp 𝕄) := by
  rw [two fun s => (semVal ((c : Thread nD τ), .dma (xQ s)) 0 : sProp 𝕄), two fun s => bigSep Finset.univ fun h : Fin 2 => (semVal ((c : Thread nD τ), .dma (wQ s h)) 0 : sProp 𝕄),
    two fun h => (semVal ((c : Thread nD τ), .dma (wQ 0 h)) 0 : sProp 𝕄), two fun h => (semVal ((c : Thread nD τ), .dma (wQ 1 h)) 0 : sProp 𝕄)]
  unfold Work₀ Arg0 Arg1 XFree XUp WSFree WUp
  iintro ⟨HA, HB, ⟨%f, Hxb⟩, Hwb, Hxs, Hws, ⟨Hx0, Hx1⟩, Hw0, Hw1⟩
  ihave Hwb := (cut (ℓ := (c : Thread nD τ).loc cc0_scratch1) wSet w_apart w_cover) $$ Hwb
  ihave Hwb := (Entails.of_eq (two _)) $$ Hwb
  ihave Hxs := (cut (ℓ := (c : Thread nD τ).loc cc0_scratch2) xsSet xs_apart xs_cover) $$ Hxs
  ihave Hxs := (Entails.of_eq (two _)) $$ Hxs
  ihave Hws := (cut (ℓ := (c : Thread nD τ).loc cc0_scratch3) wSet w_apart w_cover) $$ Hws
  ihave Hws := (Entails.of_eq (two _)) $$ Hws
  icases Hwb with ⟨⟨%g0, Hb0⟩, %g1, Hb1⟩
  icases Hxs with ⟨Hxs0, Hxs1⟩
  icases Hws with ⟨Hws0, Hws1⟩
  isplitl [HA]; · iexists fullShare; iexact HA
  isplitl [HB]; · iexists fullShare; iexact HB
  isplitl [Hxs0 Hx0]; · isplitl [Hxs0] <;> iassumption
  isplitl [Hxs1 Hx1]; · isplitl [Hxs1] <;> iassumption
  isplitl [Hxb]
  · iexists f; isplitr; · ipureintro; exact fun i hi => absurd hi (Nat.not_lt_zero _)
    iexact Hxb
  isplitl [Hws0 Hw0]; · isplitl [Hws0] <;> iassumption
  isplitl [Hws1 Hw1]; · isplitl [Hws1] <;> iassumption
  isplitl [Hb0]
  · iexists g0; isplitr; · ipureintro; exact fun i _ hi => absurd hi (Nat.not_lt_zero _)
    iexact Hb0
  iexists g1; isplitr; · ipureintro; exact fun i _ hi => absurd hi (Nat.not_lt_zero _)
  iexact Hb1

/-! ## Out -/

/-- Joining the send slots into the buffer. -/
theorem out_send (c : Dev nD) :
    iprop(Send₁ m c ∗ bigSep Finset.univ fun r : Fin 4 => iprop(SendFree c 3 r ∗ semVal (sndC c 3 r) 0))
      ⊢ (iprop((∃ f, ((c : Thread nD τ).loc cc0_scratch6) ↦{fullShare} f) ∗ bigSep Finset.univ fun j : Fin 4 => bigSep Finset.univ fun r : Fin 4 => semVal (sndC c j r) 0) : sProp 𝕄) := by
  rw [Send₁_eq]
  unfold SendDone
  rw [zip12, bigSep_sep', grid fun j r => (semVal (sndC c j r) 0 : sProp 𝕄)]
  iintro ⟨⟨Hs, Hv⟩, Hs3, Hv3⟩
  isplitl [Hs Hs3]
  · iapply (uncut (ℓ := (c : Thread nD τ).loc cc0_scratch6) (fun p : Fin 4 × Fin 4 => slot p.1 p.2) slot_apart slot_cover (SEND m c))
    iapply (Entails.of_eq (bigSep_univ_prod fun p : Fin 4 × Fin 4 => (SendFree c p.1 p.2 : sProp 𝕄)).symm)
    iapply (Entails.of_eq (grid fun j r => (SendFree c j r : sProp 𝕄)).symm)
    isplitl [Hs]
    · iapply (bigSep_entail fun j : Fin 3 => bigSep_entail fun r : Fin 4 => show sdPts c j.castSucc r (SEND m c) ⊢ (SendFree c j.castSucc r : sProp 𝕄) from by
        unfold SendFree; iintro H; iexists _; iexact H)
      iexact Hs
    iexact Hs3
  isplitl [Hv] <;> iassumption

/-- Joining the receive slots into the buffer. -/
theorem out_recv (c : Dev nD) :
    iprop(Recv₁ m c ∗ bigSep Finset.univ fun r : Fin 4 => iprop(RecvSlot c c r ∗ semVal (rcvC c c r) 0))
      ⊢ (iprop((∃ f, ((c : Thread nD τ).loc cc0_scratch7) ↦{fullShare} f) ∗ bigSep Finset.univ fun s : Fin 4 => bigSep Finset.univ fun r : Fin 4 => semVal (rcvC c s r) 0) : sProp 𝕄) := by
  rw [Recv₁_eq]
  unfold RecvHas
  rw [zip12, bigSep_sep', by_sender c fun s => bigSep Finset.univ fun r : Fin 4 => (semVal (rcvC c s r) 0 : sProp 𝕄)]
  iintro ⟨⟨Hs, Hv⟩, Hs3, Hv3⟩
  isplitl [Hs Hs3]
  · iapply (uncut (ℓ := (c : Thread nD τ).loc cc0_scratch7) (fun p : Fin 4 × Fin 4 => slot p.1 p.2) slot_apart slot_cover (RECV m c))
    iapply (Entails.of_eq (bigSep_univ_prod fun p : Fin 4 × Fin 4 => (RecvSlot c p.1 p.2 : sProp 𝕄)).symm)
    iapply (Entails.of_eq (by_sender c fun s => bigSep Finset.univ fun r : Fin 4 => (RecvSlot c s r : sProp 𝕄)).symm)
    isplitl [Hs]
    · iapply (bigSep_entail fun j : Fin 3 => bigSep_entail fun r : Fin 4 => show rcPts c (frm j.castSucc c) r (RECV m c) ⊢ (RecvSlot c (frm j.castSucc c) r : sProp 𝕄) from by
        unfold RecvSlot; iintro H; iexists _; iexact H)
      iexact Hs
    iexact Hs3
  isplitl [Hv] <;> iassumption

/-- Joining the pieces of the stage and the result. -/
theorem out_out (c : Dev nD) :
    iprop(Out₁ m c ∗ IdleO c)
      ⊢ (iprop((∃ f, ((c : Thread nD τ).loc cc0_scratch10) ↦{fullShare} f) ∗ (((c : Thread nD τ).loc main_v1) ↦{fullShare} (OUT m c))
        ∗ bigSep Finset.univ fun a : Fin 4 => bigSep Finset.univ fun r : Fin 4 => semVal ((c : Thread nD τ), .dma (oQ a r)) 0) : sProp 𝕄) := by
  have hall : iprop(Out₁ m c ∗ IdleO c) ⊢ (bigSep Finset.univ fun j : Fin 4 => bigSep Finset.univ fun r : Fin 4 => OutDone m c j r) := by
    rw [Out₁_eq]
    unfold IdleO
    iintro ⟨H, H2, H3⟩
    isplitl [H]; · iexact H
    isplitl [H2]
    · iapply (out_void m c 2 (by decide)); iexact H2
    · iapply (out_void m c 3 (by decide)); iexact H3
  refine hall.trans ?_
  unfold OutDone
  rw [← bigSep_univ_prod fun p : Fin 4 × Fin 4 => (iprop((orPts c p.1 p.2 (OUT m c) ∗ ogPts c p.1 p.2 (OUT m c)) ∗ semVal ((c : Thread nD τ), .dma (oQ (orow p.1) p.2)) 0) : sProp 𝕄),
    bigSep_sep', bigSep_sep',
    bigSep_univ_equiv rows fun a : Fin 4 => bigSep Finset.univ fun r : Fin 4 => (semVal ((c : Thread nD τ), .dma (oQ a r)) 0 : sProp 𝕄)]
  iintro ⟨⟨Hr, Hg⟩, Hv⟩
  isplitl [Hg]
  · iexists (OUT m c)
    iapply (Entails.of_eq (Ring.pointsTo_blocks (ℓ := (c : Thread nD τ).loc cc0_scratch10) (fun p : Fin 4 × Fin 4 => outSet c p.1 p.2) (out_apart c) (cover_eq (out_cover c)) (OUT m c)).symm); iexact Hg
  isplitl [Hr]
  · iapply (Entails.of_eq (Ring.pointsTo_blocks (ℓ := (c : Thread nD τ).loc main_v1) (fun p : Fin 4 × Fin 4 => outSet c p.1 p.2) (out_apart c) (cover_eq (out_cover c)) (OUT m c)).symm); iexact Hr
  iapply (Entails.of_eq (bigSep_univ_prod fun p : Fin 4 × Fin 4 => (semVal ((c : Thread nD τ), .dma (oQ (orow p.1) p.2)) 0 : sProp 𝕄)))
  iexact Hv

/-- Joining the slots of the working buffers. -/
theorem out_work (c : Dev nD) :
    (Work₁ m c : sProp 𝕄)
      ⊢ iprop(Arg0 m c ∗ Arg1 m c
        ∗ (∃ f, ((c : Thread nD τ).loc cc0_scratch0) ↦{fullShare} f) ∗ (∃ f, ((c : Thread nD τ).loc cc0_scratch1) ↦{fullShare} f)
        ∗ (∃ f, ((c : Thread nD τ).loc cc0_scratch2) ↦{fullShare} f) ∗ (∃ f, ((c : Thread nD τ).loc cc0_scratch3) ↦{fullShare} f)
        ∗ (bigSep Finset.univ fun s : Fin 2 => semVal ((c : Thread nD τ), .dma (xQ s)) 0)
        ∗ bigSep Finset.univ fun s : Fin 2 => bigSep Finset.univ fun h : Fin 2 => semVal ((c : Thread nD τ), .dma (wQ s h)) 0) := by
  rw [two fun s => (semVal ((c : Thread nD τ), .dma (xQ s)) 0 : sProp 𝕄), two fun s => bigSep Finset.univ fun h : Fin 2 => (semVal ((c : Thread nD τ), .dma (wQ s h)) 0 : sProp 𝕄),
    two fun h => (semVal ((c : Thread nD τ), .dma (wQ 0 h)) 0 : sProp 𝕄), two fun h => (semVal ((c : Thread nD τ), .dma (wQ 1 h)) 0 : sProp 𝕄)]
  unfold Work₁ XHas XUp WHas WUp
  iintro ⟨HA, HB, ⟨Hxs0, Hx0⟩, ⟨Hxs1, Hx1⟩, ⟨%f, -, Hxb⟩, ⟨Hws0, Hw0⟩, ⟨Hws1, Hw1⟩, ⟨%g0, -, Hb0⟩, %g1, -, Hb1⟩
  isplitl [HA]; · iexact HA
  isplitl [HB]; · iexact HB
  isplitl [Hxb]; · iexists f; iexact Hxb
  isplitl [Hb0 Hb1]
  · iapply (uncut (ℓ := (c : Thread nD τ).loc cc0_scratch1) wSet w_apart w_cover (WB m c c))
    iapply (Entails.of_eq (two _).symm)
    isplitl [Hb0]
    · iexists g0; iexact Hb0
    · iexists g1; iexact Hb1
  isplitl [Hxs0 Hxs1]
  · iapply (uncut (ℓ := (c : Thread nD τ).loc cc0_scratch2) xsSet xs_apart xs_cover (XS m c 0))
    iapply (Entails.of_eq (two _).symm)
    isplitl [Hxs0]
    · iexists _; iexact Hxs0
    · iexists _; iexact Hxs1
  isplitl [Hws0 Hws1]
  · iapply (uncut (ℓ := (c : Thread nD τ).loc cc0_scratch3) wSet w_apart w_cover (WS m c c))
    iapply (Entails.of_eq (two _).symm)
    isplitl [Hws0]
    · iexists _; iexact Hws0
    · iexists _; iexact Hws1
  isplitl [Hx0 Hx1]; · isplitl [Hx0] <;> iassumption
  isplitl [Hw0] <;> iassumption

end Cert.GemmRing
-- ==== Proof.Launch.lean ====
/- The launch: every device's body from what the launch hands it, and the run of the whole program. -/
module

public import proofs.«01_k».proof.Proof.Pieces
public import proofs.«01_k».proof.Proof.Credits
public import Idealize.ShloMosaic.Lib.Pipeline.CollectiveSegs

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ
local notation "KProg" => Prog (TpuEff nD τ sig (Elt F) Λ₀ (Proc.tc : Proc τ))

variable (m : (ℓ : Loc nD τ sig) → Buf (Elt F) ℓ)

variable (K : Dev nD × CK → ℕ) (ρ : Dev nD → PrngReg)

/-- Device `c`'s arguments at the run's start. -/
def Args (c : Dev nD) : sProp 𝕄 :=
  iprop((((c : Thread nD τ).loc main_arg0) ↦{fullShare} xA m c) ∗ (((c : Thread nD τ).loc main_arg1) ↦{fullShare} wA m c)
    ∗ ∃ f, ((c : Thread nD τ).loc main_v1) ↦{fullShare} f)

/-- What the launch hands device `c`: its cells' tokens, the credits, the levels and the arguments. -/
def Begin (c : Dev nD) : sProp 𝕄 := iprop(Start m c ∗ Credits c ∗ levAts L lv ∗ Args m c)

/-- Device `c`'s scratch buffers, whole and at any contents. -/
abbrev Scratch (c : Dev nD) : sProp 𝕄 := Pipeline.scopedRest (Ix := Unit) (Name := ℕ) (U := UU) (Lvl := ℕ) (Val := Elt F) cfg0.spec c

/-- What is read off at the end: the barrier's counter at zero, both arguments as they were, the result. -/
def End (c : Dev nD) : sProp 𝕄 :=
  iprop(unscopedSems0 c ∗ Arg0 m c ∗ Arg1 m c ∗ (((c : Thread nD τ).loc main_v1) ↦{fullShare} OUT m c))

/-- All a device has when its body is done. -/
def Finish (c : Dev nD) : sProp 𝕄 :=
  iprop(End m c ∗ Pipeline.ownSems0 (Ix := Unit) (Name := ℕ) (U := UU) (Lvl := ℕ) (Val := Elt F) (τ := τ) osem c ∗ Scratch c)

/-- The send slots and the cells of the fourth row, never used, with the cells closed. -/
def ShutS (c : Dev nD) : sProp 𝕄 := iprop(bigSep Finset.univ fun r : Fin 4 => iprop(SendFree c 3 r ∗ semVal (sndC c 3 r) 0))
/-- The receive slots and the cells a device keeps for itself, with the cells closed. -/
def ShutR (c : Dev nD) : sProp 𝕄 := iprop(bigSep Finset.univ fun r : Fin 4 => iprop(RecvSlot c c r ∗ semVal (rcvC c c r) 0))

/-- Closing one unused send semaphore. -/
theorem shut_send (c : Dev nD) (r : Fin 4) :
    iprop(Ctx m K ∗ SendFree c 3 r ∗ atPos ER (sndC c 3 r) 0 ∅ 0) ⊢ |={Set.univ}=> iprop(SendFree c 3 r ∗ semVal (sndC c 3 r) 0) := by
  iintro ⟨#HC, Hf, Hat⟩
  ihave #Hi := (Ctx_inv m K (c, some (false, 3, r))) $$ HC
  imod (Rounds.cell_close ER (Rd m) (Set.mem_univ (K (c, some (false, 3, r)))) (fun h => h) (R := 0) (no_duties_snd m c r)) $$ [Hat] with Hv
  · isplitr; · iexact Hi
    iexact Hat
  imodintro
  isplitl [Hf]; · iexact Hf
  iexact Hv

/-- Closing one unused receive semaphore. -/
theorem shut_recv (c : Dev nD) (r : Fin 4) :
    iprop(Ctx m K ∗ RecvSlot c c r ∗ atPos ER (rcvC c c r) 0 ∅ 0) ⊢ |={Set.univ}=> iprop(RecvSlot c c r ∗ semVal (rcvC c c r) 0) := by
  iintro ⟨#HC, Hf, Hat⟩
  ihave #Hi := (Ctx_inv m K (c, some (true, c, r))) $$ HC
  imod (Rounds.cell_close ER (Rd m) (Set.mem_univ (K (c, some (true, c, r)))) (fun h => h) (R := 0) (no_duties_rcv m c r)) $$ [Hat] with Hv
  · isplitr; · iexact Hi
    iexact Hat
  imodintro
  isplitl [Hf]; · iexact Hf
  iexact Hv

/-- A family opened under a persistent assumption, each member by an update. -/
theorem update_each {I : Type} [DecidableEq I] (s : Finset I) (C : sProp 𝕄) [BI.Persistent C] (A B : I → sProp 𝕄)
    (h : ∀ i, iprop(C ∗ A i) ⊢ |={Set.univ}=> B i) : iprop(C ∗ bigSep s A) ⊢ |={Set.univ}=> bigSep s B := by
  have h₁ : iprop(C ∗ bigSep s A) ⊢ bigSep s fun i => iprop(C ∗ A i) :=
    (sep_mono_left (BI.bigSep_of_persistent s C)).trans (Entails.of_eq (bigSep_sep s (fun _ => C) A).symm)
  have h₂ : (bigSep s fun i => iprop(C ∗ A i)) ⊢ bigSep s fun i => iprop(|={Set.univ}=> B i) := bigSep_mono fun i _ => h i
  exact h₁.trans (h₂.trans (bigSep_fupd s B))

/-- Closing the unused send semaphores. -/
theorem shut_sends (c : Dev nD) : iprop(Ctx m K ∗ IdleS c) ⊢ |={Set.univ}=> ShutS c := by
  unfold IdleS ShutS
  exact update_each _ _ _ _ (shut_send m K c)

/-- Closing the unused receive semaphores. -/
theorem shut_recvs (c : Dev nD) : iprop(Ctx m K ∗ IdleR c) ⊢ |={Set.univ}=> ShutR c := by
  unfold IdleR ShutR
  exact update_each _ _ _ _ (shut_recv m K c)

/-- A device's positions, tokens, credits and buffers, arranged as the body takes them. -/
theorem arrange (c : Dev nD) :
    iprop(Dealt c ∗ Credits c ∗ Args m c ∗ Scratch c)
      ⊢ iprop(Work₀ m c ∗ Bar₀ c ∗ Send₀ c ∗ Recv₀ c ∗ Out₀ c ∗ IdleS c ∗ IdleR c ∗ IdleO c) := by
  unfold Dealt PayToks Local Credits Args Bar₀ BarKit
  rw [shared_eq fun k => (atPos ER (kcell (c, k)) 0 ∅ 0 : sProp 𝕄)]
  rw [show (Scratch (F := F) c) = _ from scopedRest0_eq c]
  iintro ⟨⟨⟨Hbar, Hsnd, Hrcv⟩, ⟨T0, T2, T1, TS, TR⟩, Vx, Vw, Vo⟩, ⟨Cb, Cr⟩, ⟨A0, A1, A2⟩, B0, B1, B2, B3, B6, B7, B10⟩
  ihave HW := (in_work m c) $$ [A0 A1 B0 B1 B2 B3 Vx Vw]
  · isplitl [A0]; · iexact A0
    isplitl [A1]; · iexact A1
    isplitl [B0]; · iexact B0
    isplitl [B1]; · iexact B1
    isplitl [B2]; · iexact B2
    isplitl [B3]; · iexact B3
    isplitl [Vx] <;> iassumption
  ihave HS := (in_send c) $$ [B6 TS TR Hsnd]
  · isplitl [B6]; · iexact B6
    isplitl [TS]; · iexact TS
    isplitl [TR]; · iexact TR
    iexact Hsnd
  icases HS with ⟨HS, IS⟩
  ihave HR := (in_recv c) $$ [B7 Cr Hrcv]
  · isplitl [B7]; · iexact B7
    isplitl [Cr]; · iexact Cr
    iexact Hrcv
  icases HR with ⟨HR, HP, IR⟩
  ihave HO := (in_out c) $$ [B10 A2 Vo]
  · isplitl [B10]; · iexact B10
    isplitl [A2]; · iexact A2
    iexact Vo
  icases HO with ⟨HO, IO⟩
  isplitl [HW]; · iexact HW
  isplitl [T0 T1 T2 HP Hbar Cb]
  · isplitl [T0 T1 T2]
    · isplitl [T1]; · iexact T1
      isplitl [T0] <;> iassumption
    isplitl [HP]; · iexact HP
    isplitl [Hbar]; · iexact Hbar
    iexact Cb
  isplitl [HS]; · iexact HS
  isplitl [HR]; · iexact HR
  isplitl [HO]; · iexact HO
  isplitl [IS]; · iexact IS
  isplitl [IR] <;> iassumption

/-- What the body leaves, with the unused cells closed, put together again into whole buffers and counters at zero. -/
theorem gather (c : Dev nD) :
    iprop(Work₁ m c ∗ semVal (barC c) 0 ∗ Send₁ m c ∗ Recv₁ m c ∗ Out₁ m c ∗ ShutS c ∗ ShutR c ∗ IdleO c) ⊢ Finish m c := by
  unfold Finish End ShutS ShutR
  rw [ownSems_eq, unscopedSems_eq]
  rw [show (Scratch (F := F) c) = _ from scopedRest0_eq c]
  unfold Local
  iintro ⟨HW, Hb, HS, HR, HO, IS, IR, IO⟩
  ihave HW := (out_work m c) $$ HW
  icases HW with ⟨A0, A1, B0, B1, B2, B3, Vx, Vw⟩
  ihave HS := (out_send m c) $$ [HS IS]
  · isplitl [HS]; · iexact HS
    iexact IS
  icases HS with ⟨B6, Vs⟩
  ihave HR := (out_recv m c) $$ [HR IR]
  · isplitl [HR]; · iexact HR
    iexact IR
  icases HR with ⟨B7, Vr⟩
  ihave HO := (out_out m c) $$ [HO IO]
  · isplitl [HO]; · iexact HO
    iexact IO
  icases HO with ⟨B10, Hout, Vo⟩
  isplitl [Hb A0 A1 Hout]
  · isplitl [Hb]; · iexact Hb
    isplitl [A0]; · iexact A0
    isplitl [A1] <;> iassumption
  isplitl [Vx Vw Vo Vs Vr]
  · isplitl [Vx Vw Vo]
    · isplitl [Vx]; · iexact Vx
      isplitl [Vw] <;> iassumption
    isplitl [Vs] <;> iassumption
  isplitl [B0]; · iexact B0
  isplitl [B1]; · iexact B1
  isplitl [B2]; · iexact B2
  isplitl [B3]; · iexact B3
  isplitl [B6]; · iexact B6
  isplitl [B7] <;> iassumption

/-- The one point's data: nothing is staged; the device starts with what the launch hands it and owes what it owes, and
    ends with everything gathered and nothing owed. -/
def dats (_ : Fin 1) (c : Dev nD) : Pipeline.Dat τ (Elt F) Unit ℕ UU ℕ cfg0 c where
  A w := w.elim0
  after w := w.elim0
  Φ t := match t with
    | ⟨0, _⟩ => iprop(Begin m c ∗ Scratch c)
    | ⟨_ + 1, _⟩ => Finish m c
  q _ := fullShare
  owed t := match t with
    | ⟨0, _⟩ => O₀ c
    | ⟨_ + 1, _⟩ => 0

/-- One device's body, from what the launch hands it to everything gathered. -/
theorem device (c : Dev nD) {W : Waits sig Unit} {Q : PUnit → sProp 𝕄} :
    iprop((Begin m c ∗ Scratch c) ∗ owes (c : Thread nD τ) (O₀ c) W)
      ⊢ iprop((iprop(Finish m c ∗ ∃ W', owes (c : Thread nD τ) 0 W') -∗ Q ⟨⟩) -∗ runs c (bodyAt0 (F := F) t0_0) Q) := by
  unfold Begin Start Known
  iintro ⟨⟨⟨⟨%K, #HK, HD⟩, HC, #HL, HA⟩, HB⟩, HO⟩ Hk
  icases HK with ⟨#Hinv, #Hreached⟩
  ihave #Hctx := (show iprop((bigSep Finset.univ fun ck : Dev nD × CK => (cellInv ER (Rd m) (K ck) (kcell ck) : sProp 𝕄))
      ∗ (bigSep Finset.univ fun ck : Dev nD × CK => (reached ER (kcell ck) 0 : sProp 𝕄)) ∗ levAts L lv) ⊢ Ctx m K from BI.Entails.refl _) $$ []
  · isplitr; · iexact Hinv
    isplitr <;> iassumption
  ihave H := (arrange m c) $$ [HD HC HA HB]
  · isplitl [HD]; · iexact HD
    isplitl [HC]; · iexact HC
    isplitl [HA] <;> iassumption
  icases H with ⟨HW, Hbar, HS, HR, HOut, IS, IR, IO⟩
  imod (shut_sends m K c) $$ [IS] with IS
  · isplitr; · iexact Hctx
    iexact IS
  imod (shut_recvs m K c) $$ [IR] with IR
  · isplitr; · iexact Hctx
    iexact IR
  iapply (body m K c) $$ [HW Hbar HS HR HOut HO]
  · isplitr; · iexact Hctx
    isplitl [HW]; · iexact HW
    isplitl [Hbar]; · iexact Hbar
    isplitl [HS]; · iexact HS
    isplitl [HR]; · iexact HR
    isplitl [HOut] <;> iassumption
  iintro ⟨HW, Hb, HS, HR, HOut, HO⟩
  iapply Hk
  isplitr [HO]
  · iapply (gather m c)
    isplitl [HW]; · iexact HW
    isplitl [Hb]; · iexact Hb
    isplitl [HS]; · iexact HS
    isplitl [HR]; · iexact HR
    isplitl [HOut]; · iexact HOut
    isplitl [IS]; · iexact IS
    isplitl [IR] <;> iassumption
  iapply (show Owe (F := F) c [] ⊢ iprop(∃ W', owes (c : Thread nD τ) 0 W') from BI.Entails.refl _); iexact HO

/-- The body meets the launch's obligation at its one point. -/
theorem obligation (c : Dev nD) : Pipeline.BodyObligation (dats m 0 c) (defs₀ (F := F)) 𝒱₀ () Set.univ := fun t => by
  rw [fin_N0 t]
  have hE : ∀ Ψ : Fin cfg0.W → sProp 𝕄, bigSep Finset.univ Ψ = iprop(emp) := fun Ψ => bigSep_empty
  rw [hE, hE]
  show iprop(iprop(Begin m c ∗ Scratch c) ∗ (dats m 0 c).owesAt () (0 : Fin 2) ∗ emp)
    ⊢ runs c (bodyAt0 (F := F) t0_0) fun _ => iprop(Finish m c ∗ (dats m 0 c).owesAt () (1 : Fin 2) ∗ emp)
  unfold Pipeline.Dat.owesAt Pipeline.owesWithin
  iintro ⟨H, ⟨%W, %hW, HO⟩, -⟩
  iapply (device m c) $$ [H HO]
  · isplitl [H]; · iexact H
    iexact HO
  iintro ⟨HF, %W', HO⟩
  isplitl [HF]; · iexact HF
  isplitl
  · iexists W'
    isplitr; · ipureintro; exact fun _ _ => Or.inl trivial
    iexact HO
  iempintro

/-- The launch's hand-out, from what the launch holds for device `c`. -/
theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Start m c)
      ⊢ |={Set.univ}=> iprop(Begin m c ∗ emp) := by
  rw [Pipeline.unscopedRestP_none, unscopedRest0_eq]
  unfold Begin Args
  iintro ⟨⟨A0, A1, A2⟩, HL, HC, -, HS⟩
  ihave HC := (credits c) $$ HC
  imodintro
  isplitl
  · isplitl [HS]; · iexact HS
    isplitl [HC]; · iexact HC
    isplitl [HL]; · iexact HL
    isplitl [A0]; · iexact A0
    isplitl [A1]; · iexact A1
    iexists _; iexact A2
  · iempintro

/-- What a device starts the body with, from what the launch hands it. -/
theorem point_intro (c : Dev nD) :
    iprop(Begin m c ∗ Pipeline.prefHeld Pipeline.Prefetch.none c (fun _ => fullShare.right) (fun k => k.elim0) ∗ Pipeline.scopedRest cfg0.spec c)
      ⊢ (dats m 0 c).Φ 0 := by
  show _ ⊢ iprop(Begin m c ∗ Scratch c)
  iintro ⟨Hs, -, Hr⟩
  isplitl [Hs] <;> iassumption

/-- What the launch wants back, from what the body ends with. -/
theorem point_exit (c : Dev nD) :
    (dats m 0 c).Φ (Fin.last cfg0.N) ⊢ iprop(End m c ∗ Pipeline.ownSems0 osem c ∗ Pipeline.scopedRest cfg0.spec c) :=
  BI.Entails.refl _

/-- The launch stages no windows, so it waits for none. -/
theorem no_waits (c : Dev nD) : (levAts L lv : sProp 𝕄) ⊢ Pipeline.cellsWaits cfgs (dats m) () 0 c :=
  Pipeline.cellsWaits_intro cfgs (dats m) () 0 c fun w => w.elim0

/-- What the run ends with on device `c`: its arguments unchanged and its result computed. -/
def Done (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = OUT m c

/-- A buffer held at some share has the contents it is held at. -/
theorem read_one (ℓ : Loc nD τ sig) (q : PosShare TreeShare) (f : Buf (Elt F) ℓ) (s' : Phys nD τ sig (Elt F)) :
    iprop((ℓ ↦{q} f : sProp 𝕄) ∗ SI s') ⊢ iprop(⌜s'.mem.mem ℓ = f⌝ ∗ SI s') := by
  have h := pointsTo_read_all (Ix := Unit) (Name := ℕ) (U := UU) (Lvl := ℕ) (Finset.univ : Finset (Fin 1)) (fun _ => ℓ) (fun _ => f) s' q
  have h₁ : (ℓ ↦{q} f : sProp 𝕄) ⊢ bigSep (Finset.univ : Finset (Fin 1)) fun _ => (ℓ ↦{q} f : sProp 𝕄) :=
    Entails.of_eq (by rw [show (Finset.univ : Finset (Fin 1)) = {0} from rfl, bigSep_singleton])
  iintro ⟨H, HS⟩
  ihave H := h₁ $$ H
  ihave H := h $$ [H HS]
  · isplitl [H] <;> iassumption
  icases H with ⟨%hr, HS⟩
  isplitr
  · ipureintro; exact hr 0 (Finset.mem_univ _)
  · iexact HS

/-- Reading a device's arguments and result off the final memory. -/
theorem end_read (c : Dev nD) (s' : Phys nD τ sig (Elt F)) :
    iprop(End m c ∗ emp ∗ SI s')
      ⊢ |={Set.univ}=> iprop(⌜(∀ sm : SemLoc sig, sm.isScoped .tc = false → s'.mem.sem ((c.tc : Thread nD τ), sm) = 0) ∧ Done m c s'.mem⌝ ∗ SI s') := by
  unfold End Arg0 Arg1
  iintro ⟨⟨Hu, ⟨%q0, H0⟩, ⟨%q1, H1⟩, H2⟩, -, HS⟩
  ihave H := (read_one _ _ _ s') $$ [H0 HS]
  · isplitl [H0] <;> iassumption
  icases H with ⟨%e0, HS⟩
  ihave H := (read_one _ _ _ s') $$ [H1 HS]
  · isplitl [H1] <;> iassumption
  icases H with ⟨%e1, HS⟩
  ihave H := (read_one _ _ _ s') $$ [H2 HS]
  · isplitl [H2] <;> iassumption
  icases H with ⟨%e2, HS⟩
  imod (Pipeline.unscopedSems0_read (X := unscopedSems0 c) (c := c) fupd_intro s') $$ [Hu HS] with H
  · isplitl [Hu] <;> iassumption
  icases H with ⟨%es, HS⟩
  imodintro
  isplitr
  · ipureintro; exact ⟨es, e0, e1, e2⟩
  · iexact HS

set_option maxRecDepth 16384 in
/-- The kernel's own semaphores are its scratch semaphores, each once, and none of them stages a window. -/
theorem ownSemFacts : Pipeline.OwnSemFacts cfg0.spec osem := by decide

/-- The protocol's state at the launch. -/
def u₀ : UU := (initOf (Pipeline.cells cfgs cellOf_inj) (Pipeline.launchToks cfgs cellOf_inj), (initOf mintCells mintToks, 1))

/-- The protocol's state pays for the launch. -/
theorem fund : (ownU u₀ : sProp 𝕄)
    ⊢ |={Set.univ}=> iprop(BI.own (EP (initOf (Pipeline.cells cfgs cellOf_inj) (Pipeline.launchToks cfgs cellOf_inj))) ∗ bigSep Finset.univ (Given m)) := by
  unfold u₀
  iintro Hu
  ihave H := (ownU_pair _ _) $$ Hu
  icases H with ⟨HP, HX⟩
  ihave HX := (own_pair_emb embR _ _) $$ HX
  icases HX with ⟨HX, -⟩
  imod (mint m) $$ HX with HG
  imodintro
  isplitl [HP] <;> iassumption

set_option maxRecDepth 16384 in
/-- The run, for any float values and from any memory with zero counters: every weakly fair execution of the four
    devices ends, with each device's arguments as they were, its result computed and every counter at zero. -/
theorem run_main : θ_run defs (onTc (τ := τ) (main (F := F))) (s₀ m ρ) (fun r => (∀ c, Done m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := no_waits m)
    (G := Given m) (G' := Start m) (u₀ := u₀) (hu₀ := fund m) (hglob := global_step m)
    (hA := fun _ w => w.elim0) (hpf := fun _ k => k.elim0)
    (X := Begin m) (Y := End m) (Z := fun _ => iprop(emp))
    (hX := begin_intro m ρ) (hin := point_intro m) (hout := point_exit m)
    (QY := fun c s => (∀ sm : SemLoc sig, sm.isScoped .tc = false → s.sem ((c.tc : Thread nD τ), sm) = 0) ∧ Done m c s)
    (hY := end_read m)
    (hQ := fun _ h hs => ⟨fun c => (h c).2.2.2, sem_eq_zero hs fun c => (h c).2.2.1⟩)

end Cert.GemmRing
-- ==== Proof.Values.lean ====
/- What the kernel's products are, element by element, when floats are extended reals: a row of the activations times
   a column of the weights, through the gelu. -/
module

public import proofs.«01_k».proof.Proof.Contents
public import Idealize.ShloMosaic.Lib.Pointwise

@[expose] public section

set_option maxRecDepth 16384

noncomputable section

namespace Cert.GemmRing

open Cert.KernelIdeal Cert.KernelIdeal.Gen
open Idealize.ShloMosaic Idealize.ShloMosaic.TcCoe

/-- The gelu, as the kernel multiplies it out. -/
def gelu (y : EReal) : EReal :=
  Ideal.ofBits .f32 0x3F000000#32 * y * (1 + Ideal.tanh (Ideal.ofBits .f32 0x3F4C422A#32 * (y + Ideal.ofBits .f32 0x3D372713#32 * y * y * y)))

/-- An element of a block made in one product. -/
theorem full_at (x : FVec Ideal S256x4096 .bf16) (w : FVec Ideal S1x4096x512 .bf16) (p : Fin 256) (q : Fin 512) :
    k0_pay10 (F := Ideal) x w (ix4 0 0 p q) = gelu (∑ k : Fin 4096, x (ix2 p k) * w (ix3 0 k q)) := by
  pointwise [k0_pay10, gelu]

/-- An element of a block made in two halves. -/
theorem halves_at (x : FVec Ideal S256x4096 .bf16) (w0 w1 : FVec Ideal S1x4096x256 .bf16) (p : Fin 256) (q : Fin 512) :
    k0_pay8 (F := Ideal) (k0_pay4 (F := Ideal) (k0_pay3 (F := Ideal) x w0)) (k0_pay6 (F := Ideal) x w1) (k0_pay7 (F := Ideal) x w1) (ix4 0 0 p q)
      = if h : q.val < 256 then gelu (∑ k : Fin 4096, x (ix2 p k) * w0 (ix3 0 k ⟨q.val, h⟩))
        else gelu (∑ k : Fin 4096, x (ix2 p k) * w1 (ix3 0 k ⟨q.val - 256, by omega⟩)) := by
  pointwise [k0_pay8, k0_pay4, k0_pay3, k0_pay6, k0_pay7, gelu]

/-- An element of the own strip's left half. -/
theorem own_left_at (x : FVec Ideal S1024x4096 .bf16) (w : FVec Ideal S1x4096x512 .bf16) (p : Fin 1024) (q : Fin 256) :
    k0_pay31 (F := Ideal) (k0_pay29 (F := Ideal) x w) (k0_pay30 (F := Ideal) x w) (ix2 p q) = gelu (∑ k : Fin 4096, x (ix2 p k) * w (ix3 0 k ⟨q.val, by omega⟩)) := by
  pointwise [k0_pay31, k0_pay30, k0_pay29, k0_pay28, gelu]

/-- An element of the own strip's right half. -/
theorem own_right_at (x : FVec Ideal S1024x4096 .bf16) (w : FVec Ideal S1x4096x512 .bf16) (p : Fin 1024) (q : Fin 256) :
    k0_pay33 (F := Ideal) x w (ix2 p q) = gelu (∑ k : Fin 4096, x (ix2 p k) * w (ix3 0 k ⟨256 + q.val, by omega⟩)) := by
  pointwise [k0_pay33, gelu]

/-- Over the extended reals, widening a received block changes none of its elements. -/
theorem widen_at (b : FVec Ideal S1x1x256x512 .bf16) (p : Fin 256) (q : Fin 512) : k0_pay34 (F := Ideal) b (ix2 p q) = b (ix4 0 0 p q) := by
  pointwise [k0_pay34]

variable (m : (ℓ : Loc nD τ sig) → Buf (Elt Ideal) ℓ)

set_option backward.proofsInPublic true in
/-- Row `p` of device `s`'s activations against column `512 d + q` of its weights. -/
def dot (s d : Dev nD) (p : Fin 1024) (q : Fin 512) : EReal :=
  ∑ k : Fin 4096, (show EReal from xA m s (ix2 p k)) * (show EReal from wA m s (ix2 k ⟨512 * d.val + q.val, by have : d.val < 4 := d.isLt; omega⟩))

/-- One element of a block that is sent: the first block's two halves and the other blocks are the same product. -/
theorem blk_at (s : Dev nD) (j r : Fin 4) (p : Fin 256) (q : Fin 512) :
    blk (F := Ideal) m s j r (ix4 0 0 p q) = gelu (dot m s (tgt j s) ⟨256 * r.val + p.val, by omega⟩ q) := by
  unfold blk
  split
  · next h =>
    obtain ⟨rfl, rfl⟩ := h
    rw [halves_at]
    split
    · next h =>
      refine congrArg gelu (Finset.sum_congr rfl fun k _ => ?_)
      pointwise [xv, wvh, XB, WB, WS]
    · next h =>
      refine congrArg gelu (Finset.sum_congr rfl fun k _ => ?_)
      pointwise [xv, wvh, XB, WB, WS]
      simp only [show 256 + (q.val - 256) = q.val by omega]
  · rw [full_at]
    refine congrArg gelu (Finset.sum_congr rfl fun k _ => ?_)
    pointwise [xv, wv, XB, WB, WS]

/-- An element of the own strip, as a gelu of a dot product. -/
theorem own_at (c : Dev nD) (h : Fin 2) (p : Fin 1024) (q : Fin 256) :
    own (F := Ideal) m c h (ix2 p q) = gelu (dot m c c p ⟨256 * h.val + q.val, by omega⟩) := by
  unfold own
  split
  · next hh =>
    subst hh
    rw [own_left_at]
    refine congrArg gelu (Finset.sum_congr rfl fun k _ => ?_)
    pointwise [wv, XB, WB, WS]
  · next hh =>
    obtain rfl : h = 1 := by omega
    rw [own_right_at]
    refine congrArg gelu (Finset.sum_congr rfl fun k _ => ?_)
    pointwise [wv, XB, WB, WS]

/-- The gelu of a dot product depends on device, strip, row and column alone. -/
theorem gelu_dot {s s' d d' : Dev nD} {p p' : Fin 1024} {q q' : Fin 512} (hs : s = s') (hd : d = d') (hp : p = p') (hq : q = q') :
    gelu (dot m s d p q) = gelu (dot m s' d' p' q') := by subst hs hd hp hq; rfl

set_option backward.proofsInPublic true in
/-- One element of a device's result: the rows come from the device they belong to, the columns are its own. -/
theorem OUT_at (c : Dev nD) (p : Fin 4096) (q : Fin 512) :
    OUT (F := Ideal) m c (ix2 p q) = gelu (dot m ⟨p.val / 1024, by show _ < 4; omega⟩ c ⟨p.val % 1024, by omega⟩ q) := by
  have hq : q.val < 512 := q.isLt
  have hp : p.val < 4096 := p.isLt
  unfold OUT
  by_cases h : p.val / 1024 = c.val
  · refine (if_pos h).trans ((own_at m c ⟨q.val / 256, by omega⟩ ⟨p.val % 1024, by omega⟩ ⟨q.val % 256, by omega⟩).trans ?_)
    exact gelu_dot m (Fin.ext h.symm) rfl rfl (Fin.ext (by show 256 * (q.val / 256) + q.val % 256 = q.val; omega))
  · refine (if_neg h).trans ((widen_at _ ⟨p.val % 256, by omega⟩ q).trans ((blk_at m ⟨p.val / 1024, by show _ < 4; omega⟩ _ ⟨p.val % 1024 / 256, by omega⟩ ⟨p.val % 256, by omega⟩ q).trans ?_))
    exact gelu_dot m rfl (tgt_strip _ _) (Fin.ext (by show 256 * (p.val % 1024 / 256) + p.val % 256 = p.val % 1024; omega)) rfl

end Cert.GemmRing
-- ==== Proof.Results.lean ====
/- The claims: the runs' ends, and the kernel's result against the reference's. -/
module

public import proofs.«01_k».proof.Defs
public import proofs.«01_k».proof.Proof.Launch
public import proofs.«01_k».proof.Proof.Values
public import proofs.«01_k».proof.Proof.Gen.Kernel
public import proofs.«01_k».proof.Proof.Gen.KernelIdeal
public import proofs.«01_k».proof.Proof.Gen.ReferenceIdeal
public import Idealize.ShloMosaic.Lib.Claim
public import Idealize.ShloMosaic.Lib.Pointwise
public import Idealize.ShloMosaic.Lib.LayoutAt

@[expose] public section

set_option maxRecDepth 16384

noncomputable section

namespace Cert.Results

open Idealize.ShloMosaic Idealize.ShloMosaic.TcCoe Idealize.SL.Sem
open Cert.KernelIdeal (nD τ sig)

/-- The kernel ends with its arguments unchanged and every counter at zero, with floats as words; -/
theorem frame_kernel : Cert.quiescent_Kernel := fun m g _ =>
  (θ_run (Cert.KernelIdeal.defs (F := Bits)) _ _).mono (fun _ h => ⟨fun c => ⟨(h.1 c).1, (h.1 c).2.1⟩, h.2⟩) (Cert.GemmRing.run_main (F := Bits) m g)

/-- over the extended reals; -/
theorem frame_kernelIdeal : Cert.quiescent_KernelIdeal := fun m g _ =>
  (θ_run (Cert.KernelIdeal.defs (F := Ideal)) _ _).mono (fun _ h => ⟨fun c => ⟨(h.1 c).1, (h.1 c).2.1⟩, h.2⟩) (Cert.GemmRing.run_main (F := Ideal) m g)

/-- and so does the reference. -/
theorem frame_reference : Cert.quiescent_ReferenceIdeal := by
  intro m g _
  hlo_run
  · exact fun _ => ⟨trivial, trivial⟩
  · exact sem_eq_zero_of_no_sems (by decide) _

/-- Nothing was rewritten between the kernel and its reading over the extended reals. -/
theorem preserved : Cert.preserves_Kernel_KernelIdeal := trivial

/-- The reference's cube is bracketed the other way. -/
theorem gelu_cube (y : EReal) :
    Ideal.ofBits .f32 0x3F000000#32 * y * (1 + Ideal.tanh (Ideal.ofBits .f32 0x3F4C422A#32 * (y + Ideal.ofBits .f32 0x3D372713#32 * (y * y * y))))
      = Cert.GemmRing.gelu y := by
  unfold Cert.GemmRing.gelu
  simp only [mul_assoc]

/-- Each device's result is its block of columns of the reference's: every element is the gelu of one row of all the
    activations times one column of the weights, and the row is row `p % 1024` of device `p / 1024`. -/
theorem agrees : Cert.algebraic_KernelIdeal_ReferenceIdeal := by
  pair_intro
  rotate_left
  · hlo_run
  · refine (θ_run _ _ _).mono (fun r h c => ⟨(h.1 c).2.2.trans ?_, (h.1 c).1, (h.1 c).2.1⟩) (Cert.GemmRing.run_main (F := Ideal) m g)
    funext i
    idx_vars i
    refine (Cert.GemmRing.OUT_at m c _ _).trans ?_
    unfold Layout.block
    pointwise []
    refine Eq.trans (congrArg Cert.GemmRing.gelu (Finset.sum_congr rfl fun k _ => ?_)) (gelu_cube _).symm
    unfold Cert.GemmRing.xA Cert.GemmRing.wA
    refine Ideal.mul_congr ?_ ?_
    · refine (congrFun (hagree _).1 _).trans ?_
      unfold Layout.block
      shard_ext
    · refine (congrFun (hagree _).2 _).trans ?_
      shard_ext

end Cert.Results
-- ==== Proof.lean ====
/- The proof of the certificate's claims, put together from the modules under `Proof/`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Results

@[expose] public section

noncomputable section

namespace Cert.Proof

/-- All five claims: both programs and the reference run and end quiescent, the kernel over the extended reals is the
    kernel, and its results are the reference's. -/
theorem claim : Cert.Claim :=
  ⟨Cert.Kernel.Gen.facts, Cert.KernelIdeal.Gen.facts, Cert.ReferenceIdeal.Gen.facts,
    Cert.Results.frame_kernel, Cert.Results.frame_kernelIdeal, Cert.Results.frame_reference, Cert.Results.preserved, Cert.Results.agrees⟩

end Cert.Proof

end
